-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .bf16 0x3DB5#16 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 64, 128]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x8192 : Shape := ⟨2, ![1024, 8192]⟩
abbrev S1x2048x8x128 : Shape := ⟨4, ![1, 2048, 8, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  bcast_S_S1x2048x8x128 : S_.BroadcastsInDim S1x2048x8x128 (![] : Fin 0 → Fin S1x2048x8x128.rank)

variable [Facts]

def fn {F : FTy → Type} [FloatOps F] (main_arg0 : FVec F S1x2048x1024 .bf16) (main_arg1 : FVec F S1024x8192 .bf16) (main_arg2 : FVec F S1x2048x8x128 .bf16) (main_arg3 : FVec F S1x2048x8x128 .bf16) (main_arg4 : FVec F S8192x1024 .bf16) : IVec S1x2048x1024 1 × IVec S1024x8192 1 × IVec S1x2048x8x128 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  let main_v6 : FVec F S1x2048x8x128 .bf16 := Host.absf main_arg2
  let main_cst_1 : FVec F S_ .bf16 := constant S_ .bf16 0x7F80#16
  let main_v7 : FVec F S1x2048x8x128 .bf16 := broadcastInDim S1x2048x8x128 ![] bcast_S_S1x2048x8x128 main_cst_1
  let main_v8 : IVec S1x2048x8x128 1 := cmpf .olt main_v6 main_v7
  (main_v2, main_v5, main_v8)
-- ==== Pre_finite_scores_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  bcast_S_S1x2048x64x128 : S_.BroadcastsInDim S1x2048x64x128 (![] : Fin 0 → Fin S1x2048x64x128.rank)

variable [Facts]

def fn {F : FTy → Type} [FloatOps F] (main_arg0 : FVec F S1x2048x1024 .bf16) (main_arg1 : FVec F S1024x8192 .bf16) (main_arg2 : FVec F S1x2048x64x128 .bf16) (main_arg3 : FVec F S1x2048x64x128 .bf16) (main_arg4 : FVec F S8192x1024 .bf16) : IVec S1x2048x1024 1 × IVec S1024x8192 1 × IVec S1x2048x64x128 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  let main_v6 : FVec F S1x2048x64x128 .bf16 := Host.absf main_arg2
  let main_cst_1 : FVec F S_ .bf16 := constant S_ .bf16 0x7F80#16
  let main_v7 : FVec F S1x2048x64x128 .bf16 := broadcastInDim S1x2048x64x128 ![] bcast_S_S1x2048x64x128 main_cst_1
  let main_v8 : IVec S1x2048x64x128 1 := cmpf .olt main_v6 main_v7
  (main_v2, main_v5, main_v8)
-- ==== Kernel.lean ====
abbrev S1x2048x1024 : Shape := ⟨3, ![1, 2048, 1024]⟩
abbrev S1024x8192 : Shape := ⟨2, ![1024, 8192]⟩
abbrev S1x2048x8x128 : Shape := ⟨4, ![1, 2048, 8, 128]⟩
abbrev S8192x1024 : Shape := ⟨2, ![8192, 1024]⟩
abbrev S_ : Shape := ⟨0, ![]⟩
abbrev S1024x1024 : Shape := ⟨2, ![1024, 1024]⟩
abbrev S2048x8x128 : Shape := ⟨3, ![2048, 8, 128]⟩
abbrev S8x4x64x8x128 : Shape := ⟨5, ![8, 4, 64, 8, 128]⟩
abbrev S4x8x8x64x128 : Shape := ⟨5, ![4, 8, 8, 64, 128]⟩
abbrev S4x8x512x128 : Shape := ⟨4, ![4, 8, 512, 128]⟩
abbrev S2048x1024 : Shape := ⟨2, ![2048, 1024]⟩
abbrev S4x8x128x1024 : Shape := ⟨4, ![4, 8, 128, 1024]⟩
abbrev S4x128x1024 : Shape := ⟨3, ![4, 128, 1024]⟩
abbrev S32 : Shape := ⟨1, ![32]⟩
abbrev S64x1024 : Shape := ⟨2, ![64, 1024]⟩
abbrev S256x1024 : Shape := ⟨2, ![256, 1024]⟩
abbrev S256x128 : Shape := ⟨2, ![256, 128]⟩
abbrev S1x1x512x128 : Shape := ⟨4, ![1, 1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S64x128 : Shape := ⟨2, ![64, 128]⟩
abbrev S1 : Shape := ⟨1, ![1]⟩
abbrev S1x1x128x1024 : Shape := ⟨4, ![1, 1, 128, 1024]⟩
abbrev S128x1024 : Shape := ⟨2, ![128, 1024]⟩
abbrev S512x1024 : Shape := ⟨2, ![512, 1024]⟩
abbrev S128x128 : Shape := ⟨2, ![128, 128]⟩
abbrev S128x512 : Shape := ⟨2, ![128, 512]⟩
abbrev S128 : Shape := ⟨1, ![128]⟩
abbrev S128x1 : Shape := ⟨2, ![128, 1]⟩
abbrev S1x1x64x1024 : Shape := ⟨4, ![1, 1, 64, 1024]⟩
abbrev S64x512 : Shape := ⟨2, ![64, 512]⟩
abbrev S64 : Shape := ⟨1, ![64]⟩
abbrev S64x1 : Shape := ⟨2, ![64, 1]⟩
abbrev S1x1x32x1024 : Shape := ⟨4, ![1, 1, 32, 1024]⟩
abbrev S32x1024 : Shape := ⟨2, ![32, 1024]⟩
abbrev S1x8x128x1024 : Shape := ⟨4, ![1, 8, 128, 1024]⟩
abbrev S8x128x1024 : Shape := ⟨3, ![8, 128, 1024]⟩
abbrev S1x128x1024 : Shape := ⟨3, ![1, 128, 1024]⟩
abbrev S1x8x64x1024 : Shape := ⟨4, ![1, 8, 64, 1024]⟩
abbrev S8x64x1024 : Shape := ⟨3, ![8, 64, 1024]⟩
abbrev S1x64x1024 : Shape := ⟨3, ![1, 64, 1024]⟩
abbrev S1x8x32x1024 : Shape := ⟨4, ![1, 8, 32, 1024]⟩
abbrev S8x32x1024 : Shape := ⟨3, ![8, 32, 1024]⟩
abbrev S1x32x1024 : Shape := ⟨3, ![1, 32, 1024]⟩

abbrev nBuf : Space → Nat
  | .hbm => 40
  | .vmem => 10
  | .smem => 0
  | _ => 0

abbrev bufTy : (tb : Table) → Fin (tcTables nBuf tb) → BufTy
  | .hbm, ⟨0, _⟩ => ⟨S1x2048x1024, .bf16⟩
  | .hbm, ⟨1, _⟩ => ⟨S1024x8192, .bf16⟩
  | .hbm, ⟨2, _⟩ => ⟨S1x2048x8x128, .bf16⟩
  | .hbm, ⟨3, _⟩ => ⟨S1x2048x8x128, .bf16⟩
  | .hbm, ⟨4, _⟩ => ⟨S8192x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x1024, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x1024, .bf16⟩
  | .hbm, ⟨29, _⟩ => ⟨S2048x8x128, .bf16⟩
  | .hbm, ⟨30, _⟩ => ⟨S8x4x64x8x128, .bf16⟩
  | .hbm, ⟨31, _⟩ => ⟨S4x8x8x64x128, .bf16⟩
  | .hbm, ⟨32, _⟩ => ⟨S4x8x512x128, .bf16⟩
  | .hbm, ⟨33, _⟩ => ⟨S2048x8x128, .bf16⟩
  | .hbm, ⟨34, _⟩ => ⟨S8x4x64x8x128, .bf16⟩
  | .hbm, ⟨35, _⟩ => ⟨S4x8x8x64x128, .bf16⟩
  | .hbm, ⟨36, _⟩ => ⟨S4x8x512x128, .bf16⟩
  | .hbm, ⟨37, _⟩ => ⟨S2048x1024, .bf16⟩
  | .hbm, ⟨38, _⟩ => ⟨S2048x1024, .bf16⟩
  | .hbm, ⟨39, _⟩ => ⟨S1x2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S4x8x512x128, .bf16⟩
  | .local _ .vmem, ⟨3, _⟩ => ⟨S4x8x512x128, .bf16⟩
  | .local _ .vmem, ⟨4, _⟩ => ⟨S1024x1024, .bf16⟩
  | .local _ .vmem, ⟨5, _⟩ => ⟨S2048x1024, .bf16⟩
  | .local _ .vmem, ⟨6, _⟩ => ⟨S1024x1024, .bf16⟩
  | .local _ .vmem, ⟨7, _⟩ => ⟨S2048x1024, .bf16⟩
  | .local _ .vmem, ⟨8, _⟩ => ⟨S4x8x128x1024, .bf16⟩
  | .local _ .vmem, ⟨9, _⟩ => ⟨S4x128x1024, .bf16⟩
  | _, _ => ⟨S1x2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_off1 (d0 : Dev nD) (c0_i32_655 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1080 : BitVec 32 := Scalar.addi c0_i32_655 v2
  ![v1080.toNat]
def k0_off2 (d0 : Dev nD) : Fin 4 → Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_661 : BitVec 32 := 0#32
  let c0_i32_662 : BitVec 32 := 0#32
  ![0, v2.toNat, 0, 0]
def k0_dev9 : Nat :=
  let c0_i32_660 : BitVec 32 := 0#32
  let c0_i32_658 : BitVec 32 := 0#32
  let c1_i32_659 : BitVec 32 := 1#32
  let v1081 : BitVec 32 := Scalar.muli c0_i32_658 c1_i32_659
  let v1082 : BitVec 32 := Scalar.addi c0_i32_660 v1081
  v1082.toNat
def k0_dev10 : Nat :=
  let c0_i32_670 : BitVec 32 := 0#32
  let c1_i32_668 : BitVec 32 := 1#32
  let c1_i32_669 : BitVec 32 := 1#32
  let v1091 : BitVec 32 := Scalar.muli c1_i32_668 c1_i32_669
  let v1092 : BitVec 32 := Scalar.addi c0_i32_670 v1091
  v1092.toNat
def k0_dev11 : Nat :=
  let c0_i32_679 : BitVec 32 := 0#32
  let c2_i32_677 : BitVec 32 := 2#32
  let c1_i32_678 : BitVec 32 := 1#32
  let v1101 : BitVec 32 := Scalar.muli c2_i32_677 c1_i32_678
  let v1102 : BitVec 32 := Scalar.addi c0_i32_679 v1101
  v1102.toNat
def k0_dev12 : Nat :=
  let c0_i32_688 : BitVec 32 := 0#32
  let c3_i32_686 : BitVec 32 := 3#32
  let c1_i32_687 : BitVec 32 := 1#32
  let v1111 : BitVec 32 := Scalar.muli c3_i32_686 c1_i32_687
  let v1112 : BitVec 32 := Scalar.addi c0_i32_688 v1111
  v1112.toNat
def k0_dev13 : Nat :=
  let c0_i32_697 : BitVec 32 := 0#32
  let c4_i32_695 : BitVec 32 := 4#32
  let c1_i32_696 : BitVec 32 := 1#32
  let v1121 : BitVec 32 := Scalar.muli c4_i32_695 c1_i32_696
  let v1122 : BitVec 32 := Scalar.addi c0_i32_697 v1121
  v1122.toNat
def k0_dev14 : Nat :=
  let c0_i32_706 : BitVec 32 := 0#32
  let c5_i32_704 : BitVec 32 := 5#32
  let c1_i32_705 : BitVec 32 := 1#32
  let v1131 : BitVec 32 := Scalar.muli c5_i32_704 c1_i32_705
  let v1132 : BitVec 32 := Scalar.addi c0_i32_706 v1131
  v1132.toNat
def k0_dev15 : Nat :=
  let c0_i32_715 : BitVec 32 := 0#32
  let c6_i32_713 : BitVec 32 := 6#32
  let c1_i32_714 : BitVec 32 := 1#32
  let v1141 : BitVec 32 := Scalar.muli c6_i32_713 c1_i32_714
  let v1142 : BitVec 32 := Scalar.addi c0_i32_715 v1141
  v1142.toNat
def k0_dev16 : Nat :=
  let c0_i32_724 : BitVec 32 := 0#32
  let c7_i32_722 : BitVec 32 := 7#32
  let c1_i32_723 : BitVec 32 := 1#32
  let v1151 : BitVec 32 := Scalar.muli c7_i32_722 c1_i32_723
  let v1152 : BitVec 32 := Scalar.addi c0_i32_724 v1151
  v1152.toNat
def k0_off3 (d0 : Dev nD) : Fin 4 → Nat :=
  let c1_i32_1253 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1258 : BitVec 32 := 0#32
  let c0_i32_1259 : BitVec 32 := 0#32
  ![1, v2.toNat, 0, 0]
def k0_dev17 : Nat :=
  let c0_i32_1257 : BitVec 32 := 0#32
  let c0_i32_1255 : BitVec 32 := 0#32
  let c1_i32_1256 : BitVec 32 := 1#32
  let v1957 : BitVec 32 := Scalar.muli c0_i32_1255 c1_i32_1256
  let v1958 : BitVec 32 := Scalar.addi c0_i32_1257 v1957
  v1958.toNat
def k0_dev18 : Nat :=
  let c0_i32_1265 : BitVec 32 := 0#32
  let c1_i32_1263 : BitVec 32 := 1#32
  let c1_i32_1264 : BitVec 32 := 1#32
  let v1967 : BitVec 32 := Scalar.muli c1_i32_1263 c1_i32_1264
  let v1968 : BitVec 32 := Scalar.addi c0_i32_1265 v1967
  v1968.toNat
def k0_dev19 : Nat :=
  let c0_i32_1273 : BitVec 32 := 0#32
  let c2_i32_1271 : BitVec 32 := 2#32
  let c1_i32_1272 : BitVec 32 := 1#32
  let v1977 : BitVec 32 := Scalar.muli c2_i32_1271 c1_i32_1272
  let v1978 : BitVec 32 := Scalar.addi c0_i32_1273 v1977
  v1978.toNat
def k0_dev20 : Nat :=
  let c0_i32_1281 : BitVec 32 := 0#32
  let c3_i32_1279 : BitVec 32 := 3#32
  let c1_i32_1280 : BitVec 32 := 1#32
  let v1987 : BitVec 32 := Scalar.muli c3_i32_1279 c1_i32_1280
  let v1988 : BitVec 32 := Scalar.addi c0_i32_1281 v1987
  v1988.toNat
def k0_dev21 : Nat :=
  let c0_i32_1289 : BitVec 32 := 0#32
  let c4_i32_1287 : BitVec 32 := 4#32
  let c1_i32_1288 : BitVec 32 := 1#32
  let v1997 : BitVec 32 := Scalar.muli c4_i32_1287 c1_i32_1288
  let v1998 : BitVec 32 := Scalar.addi c0_i32_1289 v1997
  v1998.toNat
def k0_dev22 : Nat :=
  let c0_i32_1297 : BitVec 32 := 0#32
  let c5_i32_1295 : BitVec 32 := 5#32
  let c1_i32_1296 : BitVec 32 := 1#32
  let v2007 : BitVec 32 := Scalar.muli c5_i32_1295 c1_i32_1296
  let v2008 : BitVec 32 := Scalar.addi c0_i32_1297 v2007
  v2008.toNat
def k0_dev23 : Nat :=
  let c0_i32_1305 : BitVec 32 := 0#32
  let c6_i32_1303 : BitVec 32 := 6#32
  let c1_i32_1304 : BitVec 32 := 1#32
  let v2017 : BitVec 32 := Scalar.muli c6_i32_1303 c1_i32_1304
  let v2018 : BitVec 32 := Scalar.addi c0_i32_1305 v2017
  v2018.toNat
def k0_dev24 : Nat :=
  let c0_i32_1313 : BitVec 32 := 0#32
  let c7_i32_1311 : BitVec 32 := 7#32
  let c1_i32_1312 : BitVec 32 := 1#32
  let v2027 : BitVec 32 := Scalar.muli c7_i32_1311 c1_i32_1312
  let v2028 : BitVec 32 := Scalar.addi c0_i32_1313 v2027
  v2028.toNat
def k0_off4 (d0 : Dev nD) : Fin 4 → Nat :=
  let c2_i32_1777 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1782 : BitVec 32 := 0#32
  let c0_i32_1783 : BitVec 32 := 0#32
  ![2, v2.toNat, 0, 0]
def k0_dev25 : Nat :=
  let c0_i32_1781 : BitVec 32 := 0#32
  let c0_i32_1779 : BitVec 32 := 0#32
  let c1_i32_1780 : BitVec 32 := 1#32
  let v2665 : BitVec 32 := Scalar.muli c0_i32_1779 c1_i32_1780
  let v2666 : BitVec 32 := Scalar.addi c0_i32_1781 v2665
  v2666.toNat
def k0_dev26 : Nat :=
  let c0_i32_1789 : BitVec 32 := 0#32
  let c1_i32_1787 : BitVec 32 := 1#32
  let c1_i32_1788 : BitVec 32 := 1#32
  let v2675 : BitVec 32 := Scalar.muli c1_i32_1787 c1_i32_1788
  let v2676 : BitVec 32 := Scalar.addi c0_i32_1789 v2675
  v2676.toNat
def k0_dev27 : Nat :=
  let c0_i32_1797 : BitVec 32 := 0#32
  let c2_i32_1795 : BitVec 32 := 2#32
  let c1_i32_1796 : BitVec 32 := 1#32
  let v2685 : BitVec 32 := Scalar.muli c2_i32_1795 c1_i32_1796
  let v2686 : BitVec 32 := Scalar.addi c0_i32_1797 v2685
  v2686.toNat
def k0_dev28 : Nat :=
  let c0_i32_1805 : BitVec 32 := 0#32
  let c3_i32_1803 : BitVec 32 := 3#32
  let c1_i32_1804 : BitVec 32 := 1#32
  let v2695 : BitVec 32 := Scalar.muli c3_i32_1803 c1_i32_1804
  let v2696 : BitVec 32 := Scalar.addi c0_i32_1805 v2695
  v2696.toNat
def k0_dev29 : Nat :=
  let c0_i32_1813 : BitVec 32 := 0#32
  let c4_i32_1811 : BitVec 32 := 4#32
  let c1_i32_1812 : BitVec 32 := 1#32
  let v2705 : BitVec 32 := Scalar.muli c4_i32_1811 c1_i32_1812
  let v2706 : BitVec 32 := Scalar.addi c0_i32_1813 v2705
  v2706.toNat
def k0_dev30 : Nat :=
  let c0_i32_1821 : BitVec 32 := 0#32
  let c5_i32_1819 : BitVec 32 := 5#32
  let c1_i32_1820 : BitVec 32 := 1#32
  let v2715 : BitVec 32 := Scalar.muli c5_i32_1819 c1_i32_1820
  let v2716 : BitVec 32 := Scalar.addi c0_i32_1821 v2715
  v2716.toNat
def k0_dev31 : Nat :=
  let c0_i32_1829 : BitVec 32 := 0#32
  let c6_i32_1827 : BitVec 32 := 6#32
  let c1_i32_1828 : BitVec 32 := 1#32
  let v2725 : BitVec 32 := Scalar.muli c6_i32_1827 c1_i32_1828
  let v2726 : BitVec 32 := Scalar.addi c0_i32_1829 v2725
  v2726.toNat
def k0_dev32 : Nat :=
  let c0_i32_1837 : BitVec 32 := 0#32
  let c7_i32_1835 : BitVec 32 := 7#32
  let c1_i32_1836 : BitVec 32 := 1#32
  let v2735 : BitVec 32 := Scalar.muli c7_i32_1835 c1_i32_1836
  let v2736 : BitVec 32 := Scalar.addi c0_i32_1837 v2735
  v2736.toNat
def k0_off5 (d0 : Dev nD) (c0_i32_1954 : BitVec 32) (c0_i32_1945 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2816 : BitVec 32 := Scalar.addi v2 c0_i32_1945
  let c8_i32_1946 : BitVec 32 := 8#32
  let c0_i32_1947 : BitVec 32 := 0#32
  let v2817 : BitVec 1 := Scalar.cmpi .eq c8_i32_1946 c0_i32_1947
  let c1_i32_1948 : BitVec 32 := 1#32
  let v2818 : BitVec 32 := Scalar.select v2817 c1_i32_1948 c8_i32_1946
  let v2819 : BitVec 32 := Scalar.remsi v2816 v2818
  let c0_i32_1950 : BitVec 32 := 0#32
  let v2821 : BitVec 1 := Scalar.cmpi .slt v2819 c0_i32_1950
  let c0_i32_1951 : BitVec 32 := 0#32
  let v2822 : BitVec 1 := Scalar.cmpi .slt v2818 c0_i32_1951
  let v2823 : BitVec 1 := Scalar.xori v2821 v2822
  let c0_i32_1949 : BitVec 32 := 0#32
  let v2820 : BitVec 1 := Scalar.cmpi .ne v2819 c0_i32_1949
  let v2824 : BitVec 1 := Scalar.andi v2823 v2820
  let v2825 : BitVec 32 := Scalar.addi v2819 v2818
  let v2826 : BitVec 32 := Scalar.select v2824 v2825 v2819
  let v2829 : BitVec 32 := Scalar.addi c0_i32_1954 v2826
  ![v2829.toNat]
def k0_off6 (d0 : Dev nD) : Fin 2 → Nat :=
  let c0_i32_1953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1952 : BitVec 32 := 128#32
  let v2827 : BitVec 32 := Scalar.muli v2 c128_i32_1952
  let v2828 : BitVec 32 := Scalar.addi c0_i32_1953 v2827
  let c0_i32_1959 : BitVec 32 := 0#32
  ![v2828.toNat, 0]
def k0_dev33 (d0 : Dev nD) : Nat :=
  let c0_i32_1958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1945 : BitVec 32 := 0#32
  let v2816 : BitVec 32 := Scalar.addi v2 c0_i32_1945
  let c8_i32_1946 : BitVec 32 := 8#32
  let c0_i32_1947 : BitVec 32 := 0#32
  let v2817 : BitVec 1 := Scalar.cmpi .eq c8_i32_1946 c0_i32_1947
  let c1_i32_1948 : BitVec 32 := 1#32
  let v2818 : BitVec 32 := Scalar.select v2817 c1_i32_1948 c8_i32_1946
  let v2819 : BitVec 32 := Scalar.remsi v2816 v2818
  let c0_i32_1950 : BitVec 32 := 0#32
  let v2821 : BitVec 1 := Scalar.cmpi .slt v2819 c0_i32_1950
  let c0_i32_1951 : BitVec 32 := 0#32
  let v2822 : BitVec 1 := Scalar.cmpi .slt v2818 c0_i32_1951
  let v2823 : BitVec 1 := Scalar.xori v2821 v2822
  let c0_i32_1949 : BitVec 32 := 0#32
  let v2820 : BitVec 1 := Scalar.cmpi .ne v2819 c0_i32_1949
  let v2824 : BitVec 1 := Scalar.andi v2823 v2820
  let v2825 : BitVec 32 := Scalar.addi v2819 v2818
  let v2826 : BitVec 32 := Scalar.select v2824 v2825 v2819
  let c1_i32_1957 : BitVec 32 := 1#32
  let v2831 : BitVec 32 := Scalar.muli v2826 c1_i32_1957
  let v2832 : BitVec 32 := Scalar.addi c0_i32_1958 v2831
  v2832.toNat
def k0_dev34 (d0 : Dev nD) : Nat :=
  let c0_i32_1975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1962 : BitVec 32 := 1#32
  let v2840 : BitVec 32 := Scalar.addi v2 c1_i32_1962
  let c8_i32_1963 : BitVec 32 := 8#32
  let c0_i32_1964 : BitVec 32 := 0#32
  let v2841 : BitVec 1 := Scalar.cmpi .eq c8_i32_1963 c0_i32_1964
  let c1_i32_1965 : BitVec 32 := 1#32
  let v2842 : BitVec 32 := Scalar.select v2841 c1_i32_1965 c8_i32_1963
  let v2843 : BitVec 32 := Scalar.remsi v2840 v2842
  let c0_i32_1967 : BitVec 32 := 0#32
  let v2845 : BitVec 1 := Scalar.cmpi .slt v2843 c0_i32_1967
  let c0_i32_1968 : BitVec 32 := 0#32
  let v2846 : BitVec 1 := Scalar.cmpi .slt v2842 c0_i32_1968
  let v2847 : BitVec 1 := Scalar.xori v2845 v2846
  let c0_i32_1966 : BitVec 32 := 0#32
  let v2844 : BitVec 1 := Scalar.cmpi .ne v2843 c0_i32_1966
  let v2848 : BitVec 1 := Scalar.andi v2847 v2844
  let v2849 : BitVec 32 := Scalar.addi v2843 v2842
  let v2850 : BitVec 32 := Scalar.select v2848 v2849 v2843
  let c1_i32_1974 : BitVec 32 := 1#32
  let v2855 : BitVec 32 := Scalar.muli v2850 c1_i32_1974
  let v2856 : BitVec 32 := Scalar.addi c0_i32_1975 v2855
  v2856.toNat
def k0_dev35 (d0 : Dev nD) : Nat :=
  let c0_i32_1992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1979 : BitVec 32 := 2#32
  let v2864 : BitVec 32 := Scalar.addi v2 c2_i32_1979
  let c8_i32_1980 : BitVec 32 := 8#32
  let c0_i32_1981 : BitVec 32 := 0#32
  let v2865 : BitVec 1 := Scalar.cmpi .eq c8_i32_1980 c0_i32_1981
  let c1_i32_1982 : BitVec 32 := 1#32
  let v2866 : BitVec 32 := Scalar.select v2865 c1_i32_1982 c8_i32_1980
  let v2867 : BitVec 32 := Scalar.remsi v2864 v2866
  let c0_i32_1984 : BitVec 32 := 0#32
  let v2869 : BitVec 1 := Scalar.cmpi .slt v2867 c0_i32_1984
  let c0_i32_1985 : BitVec 32 := 0#32
  let v2870 : BitVec 1 := Scalar.cmpi .slt v2866 c0_i32_1985
  let v2871 : BitVec 1 := Scalar.xori v2869 v2870
  let c0_i32_1983 : BitVec 32 := 0#32
  let v2868 : BitVec 1 := Scalar.cmpi .ne v2867 c0_i32_1983
  let v2872 : BitVec 1 := Scalar.andi v2871 v2868
  let v2873 : BitVec 32 := Scalar.addi v2867 v2866
  let v2874 : BitVec 32 := Scalar.select v2872 v2873 v2867
  let c1_i32_1991 : BitVec 32 := 1#32
  let v2879 : BitVec 32 := Scalar.muli v2874 c1_i32_1991
  let v2880 : BitVec 32 := Scalar.addi c0_i32_1992 v2879
  v2880.toNat
def k0_dev36 (d0 : Dev nD) : Nat :=
  let c0_i32_2009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1996 : BitVec 32 := 3#32
  let v2888 : BitVec 32 := Scalar.addi v2 c3_i32_1996
  let c8_i32_1997 : BitVec 32 := 8#32
  let c0_i32_1998 : BitVec 32 := 0#32
  let v2889 : BitVec 1 := Scalar.cmpi .eq c8_i32_1997 c0_i32_1998
  let c1_i32_1999 : BitVec 32 := 1#32
  let v2890 : BitVec 32 := Scalar.select v2889 c1_i32_1999 c8_i32_1997
  let v2891 : BitVec 32 := Scalar.remsi v2888 v2890
  let c0_i32_2001 : BitVec 32 := 0#32
  let v2893 : BitVec 1 := Scalar.cmpi .slt v2891 c0_i32_2001
  let c0_i32_2002 : BitVec 32 := 0#32
  let v2894 : BitVec 1 := Scalar.cmpi .slt v2890 c0_i32_2002
  let v2895 : BitVec 1 := Scalar.xori v2893 v2894
  let c0_i32_2000 : BitVec 32 := 0#32
  let v2892 : BitVec 1 := Scalar.cmpi .ne v2891 c0_i32_2000
  let v2896 : BitVec 1 := Scalar.andi v2895 v2892
  let v2897 : BitVec 32 := Scalar.addi v2891 v2890
  let v2898 : BitVec 32 := Scalar.select v2896 v2897 v2891
  let c1_i32_2008 : BitVec 32 := 1#32
  let v2903 : BitVec 32 := Scalar.muli v2898 c1_i32_2008
  let v2904 : BitVec 32 := Scalar.addi c0_i32_2009 v2903
  v2904.toNat
def k0_dev37 (d0 : Dev nD) : Nat :=
  let c0_i32_2026 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2013 : BitVec 32 := 4#32
  let v2912 : BitVec 32 := Scalar.addi v2 c4_i32_2013
  let c8_i32_2014 : BitVec 32 := 8#32
  let c0_i32_2015 : BitVec 32 := 0#32
  let v2913 : BitVec 1 := Scalar.cmpi .eq c8_i32_2014 c0_i32_2015
  let c1_i32_2016 : BitVec 32 := 1#32
  let v2914 : BitVec 32 := Scalar.select v2913 c1_i32_2016 c8_i32_2014
  let v2915 : BitVec 32 := Scalar.remsi v2912 v2914
  let c0_i32_2018 : BitVec 32 := 0#32
  let v2917 : BitVec 1 := Scalar.cmpi .slt v2915 c0_i32_2018
  let c0_i32_2019 : BitVec 32 := 0#32
  let v2918 : BitVec 1 := Scalar.cmpi .slt v2914 c0_i32_2019
  let v2919 : BitVec 1 := Scalar.xori v2917 v2918
  let c0_i32_2017 : BitVec 32 := 0#32
  let v2916 : BitVec 1 := Scalar.cmpi .ne v2915 c0_i32_2017
  let v2920 : BitVec 1 := Scalar.andi v2919 v2916
  let v2921 : BitVec 32 := Scalar.addi v2915 v2914
  let v2922 : BitVec 32 := Scalar.select v2920 v2921 v2915
  let c1_i32_2025 : BitVec 32 := 1#32
  let v2927 : BitVec 32 := Scalar.muli v2922 c1_i32_2025
  let v2928 : BitVec 32 := Scalar.addi c0_i32_2026 v2927
  v2928.toNat
def k0_dev38 (d0 : Dev nD) : Nat :=
  let c0_i32_2043 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2030 : BitVec 32 := 5#32
  let v2936 : BitVec 32 := Scalar.addi v2 c5_i32_2030
  let c8_i32_2031 : BitVec 32 := 8#32
  let c0_i32_2032 : BitVec 32 := 0#32
  let v2937 : BitVec 1 := Scalar.cmpi .eq c8_i32_2031 c0_i32_2032
  let c1_i32_2033 : BitVec 32 := 1#32
  let v2938 : BitVec 32 := Scalar.select v2937 c1_i32_2033 c8_i32_2031
  let v2939 : BitVec 32 := Scalar.remsi v2936 v2938
  let c0_i32_2035 : BitVec 32 := 0#32
  let v2941 : BitVec 1 := Scalar.cmpi .slt v2939 c0_i32_2035
  let c0_i32_2036 : BitVec 32 := 0#32
  let v2942 : BitVec 1 := Scalar.cmpi .slt v2938 c0_i32_2036
  let v2943 : BitVec 1 := Scalar.xori v2941 v2942
  let c0_i32_2034 : BitVec 32 := 0#32
  let v2940 : BitVec 1 := Scalar.cmpi .ne v2939 c0_i32_2034
  let v2944 : BitVec 1 := Scalar.andi v2943 v2940
  let v2945 : BitVec 32 := Scalar.addi v2939 v2938
  let v2946 : BitVec 32 := Scalar.select v2944 v2945 v2939
  let c1_i32_2042 : BitVec 32 := 1#32
  let v2951 : BitVec 32 := Scalar.muli v2946 c1_i32_2042
  let v2952 : BitVec 32 := Scalar.addi c0_i32_2043 v2951
  v2952.toNat
def k0_dev39 (d0 : Dev nD) : Nat :=
  let c0_i32_2060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2047 : BitVec 32 := 6#32
  let v2960 : BitVec 32 := Scalar.addi v2 c6_i32_2047
  let c8_i32_2048 : BitVec 32 := 8#32
  let c0_i32_2049 : BitVec 32 := 0#32
  let v2961 : BitVec 1 := Scalar.cmpi .eq c8_i32_2048 c0_i32_2049
  let c1_i32_2050 : BitVec 32 := 1#32
  let v2962 : BitVec 32 := Scalar.select v2961 c1_i32_2050 c8_i32_2048
  let v2963 : BitVec 32 := Scalar.remsi v2960 v2962
  let c0_i32_2052 : BitVec 32 := 0#32
  let v2965 : BitVec 1 := Scalar.cmpi .slt v2963 c0_i32_2052
  let c0_i32_2053 : BitVec 32 := 0#32
  let v2966 : BitVec 1 := Scalar.cmpi .slt v2962 c0_i32_2053
  let v2967 : BitVec 1 := Scalar.xori v2965 v2966
  let c0_i32_2051 : BitVec 32 := 0#32
  let v2964 : BitVec 1 := Scalar.cmpi .ne v2963 c0_i32_2051
  let v2968 : BitVec 1 := Scalar.andi v2967 v2964
  let v2969 : BitVec 32 := Scalar.addi v2963 v2962
  let v2970 : BitVec 32 := Scalar.select v2968 v2969 v2963
  let c1_i32_2059 : BitVec 32 := 1#32
  let v2975 : BitVec 32 := Scalar.muli v2970 c1_i32_2059
  let v2976 : BitVec 32 := Scalar.addi c0_i32_2060 v2975
  v2976.toNat
def k0_dev40 (d0 : Dev nD) : Nat :=
  let c0_i32_2077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2064 : BitVec 32 := 7#32
  let v2984 : BitVec 32 := Scalar.addi v2 c7_i32_2064
  let c8_i32_2065 : BitVec 32 := 8#32
  let c0_i32_2066 : BitVec 32 := 0#32
  let v2985 : BitVec 1 := Scalar.cmpi .eq c8_i32_2065 c0_i32_2066
  let c1_i32_2067 : BitVec 32 := 1#32
  let v2986 : BitVec 32 := Scalar.select v2985 c1_i32_2067 c8_i32_2065
  let v2987 : BitVec 32 := Scalar.remsi v2984 v2986
  let c0_i32_2069 : BitVec 32 := 0#32
  let v2989 : BitVec 1 := Scalar.cmpi .slt v2987 c0_i32_2069
  let c0_i32_2070 : BitVec 32 := 0#32
  let v2990 : BitVec 1 := Scalar.cmpi .slt v2986 c0_i32_2070
  let v2991 : BitVec 1 := Scalar.xori v2989 v2990
  let c0_i32_2068 : BitVec 32 := 0#32
  let v2988 : BitVec 1 := Scalar.cmpi .ne v2987 c0_i32_2068
  let v2992 : BitVec 1 := Scalar.andi v2991 v2988
  let v2993 : BitVec 32 := Scalar.addi v2987 v2986
  let v2994 : BitVec 32 := Scalar.select v2992 v2993 v2987
  let c1_i32_2076 : BitVec 32 := 1#32
  let v2999 : BitVec 32 := Scalar.muli v2994 c1_i32_2076
  let v3000 : BitVec 32 := Scalar.addi c0_i32_2077 v2999
  v3000.toNat
def k0_off7 (d0 : Dev nD) : Fin 4 → Nat :=
  let c3_i32_2541 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2546 : BitVec 32 := 0#32
  let c0_i32_2547 : BitVec 32 := 0#32
  ![3, v2.toNat, 0, 0]
def k0_dev41 : Nat :=
  let c0_i32_2545 : BitVec 32 := 0#32
  let c0_i32_2543 : BitVec 32 := 0#32
  let c1_i32_2544 : BitVec 32 := 1#32
  let v3637 : BitVec 32 := Scalar.muli c0_i32_2543 c1_i32_2544
  let v3638 : BitVec 32 := Scalar.addi c0_i32_2545 v3637
  v3638.toNat
def k0_dev42 : Nat :=
  let c0_i32_2553 : BitVec 32 := 0#32
  let c1_i32_2551 : BitVec 32 := 1#32
  let c1_i32_2552 : BitVec 32 := 1#32
  let v3647 : BitVec 32 := Scalar.muli c1_i32_2551 c1_i32_2552
  let v3648 : BitVec 32 := Scalar.addi c0_i32_2553 v3647
  v3648.toNat
def k0_dev43 : Nat :=
  let c0_i32_2561 : BitVec 32 := 0#32
  let c2_i32_2559 : BitVec 32 := 2#32
  let c1_i32_2560 : BitVec 32 := 1#32
  let v3657 : BitVec 32 := Scalar.muli c2_i32_2559 c1_i32_2560
  let v3658 : BitVec 32 := Scalar.addi c0_i32_2561 v3657
  v3658.toNat
def k0_dev44 : Nat :=
  let c0_i32_2569 : BitVec 32 := 0#32
  let c3_i32_2567 : BitVec 32 := 3#32
  let c1_i32_2568 : BitVec 32 := 1#32
  let v3667 : BitVec 32 := Scalar.muli c3_i32_2567 c1_i32_2568
  let v3668 : BitVec 32 := Scalar.addi c0_i32_2569 v3667
  v3668.toNat
def k0_dev45 : Nat :=
  let c0_i32_2577 : BitVec 32 := 0#32
  let c4_i32_2575 : BitVec 32 := 4#32
  let c1_i32_2576 : BitVec 32 := 1#32
  let v3677 : BitVec 32 := Scalar.muli c4_i32_2575 c1_i32_2576
  let v3678 : BitVec 32 := Scalar.addi c0_i32_2577 v3677
  v3678.toNat
def k0_dev46 : Nat :=
  let c0_i32_2585 : BitVec 32 := 0#32
  let c5_i32_2583 : BitVec 32 := 5#32
  let c1_i32_2584 : BitVec 32 := 1#32
  let v3687 : BitVec 32 := Scalar.muli c5_i32_2583 c1_i32_2584
  let v3688 : BitVec 32 := Scalar.addi c0_i32_2585 v3687
  v3688.toNat
def k0_dev47 : Nat :=
  let c0_i32_2593 : BitVec 32 := 0#32
  let c6_i32_2591 : BitVec 32 := 6#32
  let c1_i32_2592 : BitVec 32 := 1#32
  let v3697 : BitVec 32 := Scalar.muli c6_i32_2591 c1_i32_2592
  let v3698 : BitVec 32 := Scalar.addi c0_i32_2593 v3697
  v3698.toNat
def k0_dev48 : Nat :=
  let c0_i32_2601 : BitVec 32 := 0#32
  let c7_i32_2599 : BitVec 32 := 7#32
  let c1_i32_2600 : BitVec 32 := 1#32
  let v3707 : BitVec 32 := Scalar.muli c7_i32_2599 c1_i32_2600
  let v3708 : BitVec 32 := Scalar.addi c0_i32_2601 v3707
  v3708.toNat
def k0_off8 (d0 : Dev nD) : Fin 2 → Nat :=
  let c1024_i32_2716 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v3799 : BitVec 32 := Scalar.muli v2 c64_i32
  let v3800 : BitVec 32 := Scalar.addi c1024_i32_2716 v3799
  let c0_i32_2722 : BitVec 32 := 0#32
  ![v3800.toNat, 0]
def k0_dev49 (d0 : Dev nD) : Nat :=
  let c0_i32_2721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2709 : BitVec 32 := 0#32
  let v3788 : BitVec 32 := Scalar.addi v2 c0_i32_2709
  let c8_i32_2710 : BitVec 32 := 8#32
  let c0_i32_2711 : BitVec 32 := 0#32
  let v3789 : BitVec 1 := Scalar.cmpi .eq c8_i32_2710 c0_i32_2711
  let c1_i32_2712 : BitVec 32 := 1#32
  let v3790 : BitVec 32 := Scalar.select v3789 c1_i32_2712 c8_i32_2710
  let v3791 : BitVec 32 := Scalar.remsi v3788 v3790
  let c0_i32_2714 : BitVec 32 := 0#32
  let v3793 : BitVec 1 := Scalar.cmpi .slt v3791 c0_i32_2714
  let c0_i32_2715 : BitVec 32 := 0#32
  let v3794 : BitVec 1 := Scalar.cmpi .slt v3790 c0_i32_2715
  let v3795 : BitVec 1 := Scalar.xori v3793 v3794
  let c0_i32_2713 : BitVec 32 := 0#32
  let v3792 : BitVec 1 := Scalar.cmpi .ne v3791 c0_i32_2713
  let v3796 : BitVec 1 := Scalar.andi v3795 v3792
  let v3797 : BitVec 32 := Scalar.addi v3791 v3790
  let v3798 : BitVec 32 := Scalar.select v3796 v3797 v3791
  let c1_i32_2720 : BitVec 32 := 1#32
  let v3803 : BitVec 32 := Scalar.muli v3798 c1_i32_2720
  let v3804 : BitVec 32 := Scalar.addi c0_i32_2721 v3803
  v3804.toNat
def k0_dev50 (d0 : Dev nD) : Nat :=
  let c0_i32_2738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2725 : BitVec 32 := 1#32
  let v3812 : BitVec 32 := Scalar.addi v2 c1_i32_2725
  let c8_i32_2726 : BitVec 32 := 8#32
  let c0_i32_2727 : BitVec 32 := 0#32
  let v3813 : BitVec 1 := Scalar.cmpi .eq c8_i32_2726 c0_i32_2727
  let c1_i32_2728 : BitVec 32 := 1#32
  let v3814 : BitVec 32 := Scalar.select v3813 c1_i32_2728 c8_i32_2726
  let v3815 : BitVec 32 := Scalar.remsi v3812 v3814
  let c0_i32_2730 : BitVec 32 := 0#32
  let v3817 : BitVec 1 := Scalar.cmpi .slt v3815 c0_i32_2730
  let c0_i32_2731 : BitVec 32 := 0#32
  let v3818 : BitVec 1 := Scalar.cmpi .slt v3814 c0_i32_2731
  let v3819 : BitVec 1 := Scalar.xori v3817 v3818
  let c0_i32_2729 : BitVec 32 := 0#32
  let v3816 : BitVec 1 := Scalar.cmpi .ne v3815 c0_i32_2729
  let v3820 : BitVec 1 := Scalar.andi v3819 v3816
  let v3821 : BitVec 32 := Scalar.addi v3815 v3814
  let v3822 : BitVec 32 := Scalar.select v3820 v3821 v3815
  let c1_i32_2737 : BitVec 32 := 1#32
  let v3827 : BitVec 32 := Scalar.muli v3822 c1_i32_2737
  let v3828 : BitVec 32 := Scalar.addi c0_i32_2738 v3827
  v3828.toNat
def k0_dev51 (d0 : Dev nD) : Nat :=
  let c0_i32_2755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2742 : BitVec 32 := 2#32
  let v3836 : BitVec 32 := Scalar.addi v2 c2_i32_2742
  let c8_i32_2743 : BitVec 32 := 8#32
  let c0_i32_2744 : BitVec 32 := 0#32
  let v3837 : BitVec 1 := Scalar.cmpi .eq c8_i32_2743 c0_i32_2744
  let c1_i32_2745 : BitVec 32 := 1#32
  let v3838 : BitVec 32 := Scalar.select v3837 c1_i32_2745 c8_i32_2743
  let v3839 : BitVec 32 := Scalar.remsi v3836 v3838
  let c0_i32_2747 : BitVec 32 := 0#32
  let v3841 : BitVec 1 := Scalar.cmpi .slt v3839 c0_i32_2747
  let c0_i32_2748 : BitVec 32 := 0#32
  let v3842 : BitVec 1 := Scalar.cmpi .slt v3838 c0_i32_2748
  let v3843 : BitVec 1 := Scalar.xori v3841 v3842
  let c0_i32_2746 : BitVec 32 := 0#32
  let v3840 : BitVec 1 := Scalar.cmpi .ne v3839 c0_i32_2746
  let v3844 : BitVec 1 := Scalar.andi v3843 v3840
  let v3845 : BitVec 32 := Scalar.addi v3839 v3838
  let v3846 : BitVec 32 := Scalar.select v3844 v3845 v3839
  let c1_i32_2754 : BitVec 32 := 1#32
  let v3851 : BitVec 32 := Scalar.muli v3846 c1_i32_2754
  let v3852 : BitVec 32 := Scalar.addi c0_i32_2755 v3851
  v3852.toNat
def k0_dev52 (d0 : Dev nD) : Nat :=
  let c0_i32_2772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2759 : BitVec 32 := 3#32
  let v3860 : BitVec 32 := Scalar.addi v2 c3_i32_2759
  let c8_i32_2760 : BitVec 32 := 8#32
  let c0_i32_2761 : BitVec 32 := 0#32
  let v3861 : BitVec 1 := Scalar.cmpi .eq c8_i32_2760 c0_i32_2761
  let c1_i32_2762 : BitVec 32 := 1#32
  let v3862 : BitVec 32 := Scalar.select v3861 c1_i32_2762 c8_i32_2760
  let v3863 : BitVec 32 := Scalar.remsi v3860 v3862
  let c0_i32_2764 : BitVec 32 := 0#32
  let v3865 : BitVec 1 := Scalar.cmpi .slt v3863 c0_i32_2764
  let c0_i32_2765 : BitVec 32 := 0#32
  let v3866 : BitVec 1 := Scalar.cmpi .slt v3862 c0_i32_2765
  let v3867 : BitVec 1 := Scalar.xori v3865 v3866
  let c0_i32_2763 : BitVec 32 := 0#32
  let v3864 : BitVec 1 := Scalar.cmpi .ne v3863 c0_i32_2763
  let v3868 : BitVec 1 := Scalar.andi v3867 v3864
  let v3869 : BitVec 32 := Scalar.addi v3863 v3862
  let v3870 : BitVec 32 := Scalar.select v3868 v3869 v3863
  let c1_i32_2771 : BitVec 32 := 1#32
  let v3875 : BitVec 32 := Scalar.muli v3870 c1_i32_2771
  let v3876 : BitVec 32 := Scalar.addi c0_i32_2772 v3875
  v3876.toNat
def k0_dev53 (d0 : Dev nD) : Nat :=
  let c0_i32_2789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2776 : BitVec 32 := 4#32
  let v3884 : BitVec 32 := Scalar.addi v2 c4_i32_2776
  let c8_i32_2777 : BitVec 32 := 8#32
  let c0_i32_2778 : BitVec 32 := 0#32
  let v3885 : BitVec 1 := Scalar.cmpi .eq c8_i32_2777 c0_i32_2778
  let c1_i32_2779 : BitVec 32 := 1#32
  let v3886 : BitVec 32 := Scalar.select v3885 c1_i32_2779 c8_i32_2777
  let v3887 : BitVec 32 := Scalar.remsi v3884 v3886
  let c0_i32_2781 : BitVec 32 := 0#32
  let v3889 : BitVec 1 := Scalar.cmpi .slt v3887 c0_i32_2781
  let c0_i32_2782 : BitVec 32 := 0#32
  let v3890 : BitVec 1 := Scalar.cmpi .slt v3886 c0_i32_2782
  let v3891 : BitVec 1 := Scalar.xori v3889 v3890
  let c0_i32_2780 : BitVec 32 := 0#32
  let v3888 : BitVec 1 := Scalar.cmpi .ne v3887 c0_i32_2780
  let v3892 : BitVec 1 := Scalar.andi v3891 v3888
  let v3893 : BitVec 32 := Scalar.addi v3887 v3886
  let v3894 : BitVec 32 := Scalar.select v3892 v3893 v3887
  let c1_i32_2788 : BitVec 32 := 1#32
  let v3899 : BitVec 32 := Scalar.muli v3894 c1_i32_2788
  let v3900 : BitVec 32 := Scalar.addi c0_i32_2789 v3899
  v3900.toNat
def k0_dev54 (d0 : Dev nD) : Nat :=
  let c0_i32_2806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2793 : BitVec 32 := 5#32
  let v3908 : BitVec 32 := Scalar.addi v2 c5_i32_2793
  let c8_i32_2794 : BitVec 32 := 8#32
  let c0_i32_2795 : BitVec 32 := 0#32
  let v3909 : BitVec 1 := Scalar.cmpi .eq c8_i32_2794 c0_i32_2795
  let c1_i32_2796 : BitVec 32 := 1#32
  let v3910 : BitVec 32 := Scalar.select v3909 c1_i32_2796 c8_i32_2794
  let v3911 : BitVec 32 := Scalar.remsi v3908 v3910
  let c0_i32_2798 : BitVec 32 := 0#32
  let v3913 : BitVec 1 := Scalar.cmpi .slt v3911 c0_i32_2798
  let c0_i32_2799 : BitVec 32 := 0#32
  let v3914 : BitVec 1 := Scalar.cmpi .slt v3910 c0_i32_2799
  let v3915 : BitVec 1 := Scalar.xori v3913 v3914
  let c0_i32_2797 : BitVec 32 := 0#32
  let v3912 : BitVec 1 := Scalar.cmpi .ne v3911 c0_i32_2797
  let v3916 : BitVec 1 := Scalar.andi v3915 v3912
  let v3917 : BitVec 32 := Scalar.addi v3911 v3910
  let v3918 : BitVec 32 := Scalar.select v3916 v3917 v3911
  let c1_i32_2805 : BitVec 32 := 1#32
  let v3923 : BitVec 32 := Scalar.muli v3918 c1_i32_2805
  let v3924 : BitVec 32 := Scalar.addi c0_i32_2806 v3923
  v3924.toNat
def k0_dev55 (d0 : Dev nD) : Nat :=
  let c0_i32_2823 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2810 : BitVec 32 := 6#32
  let v3932 : BitVec 32 := Scalar.addi v2 c6_i32_2810
  let c8_i32_2811 : BitVec 32 := 8#32
  let c0_i32_2812 : BitVec 32 := 0#32
  let v3933 : BitVec 1 := Scalar.cmpi .eq c8_i32_2811 c0_i32_2812
  let c1_i32_2813 : BitVec 32 := 1#32
  let v3934 : BitVec 32 := Scalar.select v3933 c1_i32_2813 c8_i32_2811
  let v3935 : BitVec 32 := Scalar.remsi v3932 v3934
  let c0_i32_2815 : BitVec 32 := 0#32
  let v3937 : BitVec 1 := Scalar.cmpi .slt v3935 c0_i32_2815
  let c0_i32_2816 : BitVec 32 := 0#32
  let v3938 : BitVec 1 := Scalar.cmpi .slt v3934 c0_i32_2816
  let v3939 : BitVec 1 := Scalar.xori v3937 v3938
  let c0_i32_2814 : BitVec 32 := 0#32
  let v3936 : BitVec 1 := Scalar.cmpi .ne v3935 c0_i32_2814
  let v3940 : BitVec 1 := Scalar.andi v3939 v3936
  let v3941 : BitVec 32 := Scalar.addi v3935 v3934
  let v3942 : BitVec 32 := Scalar.select v3940 v3941 v3935
  let c1_i32_2822 : BitVec 32 := 1#32
  let v3947 : BitVec 32 := Scalar.muli v3942 c1_i32_2822
  let v3948 : BitVec 32 := Scalar.addi c0_i32_2823 v3947
  v3948.toNat
def k0_dev56 (d0 : Dev nD) : Nat :=
  let c0_i32_2840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2827 : BitVec 32 := 7#32
  let v3956 : BitVec 32 := Scalar.addi v2 c7_i32_2827
  let c8_i32_2828 : BitVec 32 := 8#32
  let c0_i32_2829 : BitVec 32 := 0#32
  let v3957 : BitVec 1 := Scalar.cmpi .eq c8_i32_2828 c0_i32_2829
  let c1_i32_2830 : BitVec 32 := 1#32
  let v3958 : BitVec 32 := Scalar.select v3957 c1_i32_2830 c8_i32_2828
  let v3959 : BitVec 32 := Scalar.remsi v3956 v3958
  let c0_i32_2832 : BitVec 32 := 0#32
  let v3961 : BitVec 1 := Scalar.cmpi .slt v3959 c0_i32_2832
  let c0_i32_2833 : BitVec 32 := 0#32
  let v3962 : BitVec 1 := Scalar.cmpi .slt v3958 c0_i32_2833
  let v3963 : BitVec 1 := Scalar.xori v3961 v3962
  let c0_i32_2831 : BitVec 32 := 0#32
  let v3960 : BitVec 1 := Scalar.cmpi .ne v3959 c0_i32_2831
  let v3964 : BitVec 1 := Scalar.andi v3963 v3960
  let v3965 : BitVec 32 := Scalar.addi v3959 v3958
  let v3966 : BitVec 32 := Scalar.select v3964 v3965 v3959
  let c1_i32_2839 : BitVec 32 := 1#32
  let v3971 : BitVec 32 := Scalar.muli v3966 c1_i32_2839
  let v3972 : BitVec 32 := Scalar.addi c0_i32_2840 v3971
  v3972.toNat
def k0_off9 (d0 : Dev nD) (c1536_i32_2955 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v4063 : BitVec 32 := Scalar.muli v2 c32_i32
  let v4064 : BitVec 32 := Scalar.addi c1536_i32_2955 v4063
  let c0_i32_2961 : BitVec 32 := 0#32
  ![v4064.toNat, 0]
def k0_dev57 (d0 : Dev nD) : Nat :=
  let c0_i32_2960 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2948 : BitVec 32 := 0#32
  let v4052 : BitVec 32 := Scalar.addi v2 c0_i32_2948
  let c8_i32_2949 : BitVec 32 := 8#32
  let c0_i32_2950 : BitVec 32 := 0#32
  let v4053 : BitVec 1 := Scalar.cmpi .eq c8_i32_2949 c0_i32_2950
  let c1_i32_2951 : BitVec 32 := 1#32
  let v4054 : BitVec 32 := Scalar.select v4053 c1_i32_2951 c8_i32_2949
  let v4055 : BitVec 32 := Scalar.remsi v4052 v4054
  let c0_i32_2953 : BitVec 32 := 0#32
  let v4057 : BitVec 1 := Scalar.cmpi .slt v4055 c0_i32_2953
  let c0_i32_2954 : BitVec 32 := 0#32
  let v4058 : BitVec 1 := Scalar.cmpi .slt v4054 c0_i32_2954
  let v4059 : BitVec 1 := Scalar.xori v4057 v4058
  let c0_i32_2952 : BitVec 32 := 0#32
  let v4056 : BitVec 1 := Scalar.cmpi .ne v4055 c0_i32_2952
  let v4060 : BitVec 1 := Scalar.andi v4059 v4056
  let v4061 : BitVec 32 := Scalar.addi v4055 v4054
  let v4062 : BitVec 32 := Scalar.select v4060 v4061 v4055
  let c1_i32_2959 : BitVec 32 := 1#32
  let v4067 : BitVec 32 := Scalar.muli v4062 c1_i32_2959
  let v4068 : BitVec 32 := Scalar.addi c0_i32_2960 v4067
  v4068.toNat
def k0_dev58 (d0 : Dev nD) : Nat :=
  let c0_i32_2977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2964 : BitVec 32 := 1#32
  let v4076 : BitVec 32 := Scalar.addi v2 c1_i32_2964
  let c8_i32_2965 : BitVec 32 := 8#32
  let c0_i32_2966 : BitVec 32 := 0#32
  let v4077 : BitVec 1 := Scalar.cmpi .eq c8_i32_2965 c0_i32_2966
  let c1_i32_2967 : BitVec 32 := 1#32
  let v4078 : BitVec 32 := Scalar.select v4077 c1_i32_2967 c8_i32_2965
  let v4079 : BitVec 32 := Scalar.remsi v4076 v4078
  let c0_i32_2969 : BitVec 32 := 0#32
  let v4081 : BitVec 1 := Scalar.cmpi .slt v4079 c0_i32_2969
  let c0_i32_2970 : BitVec 32 := 0#32
  let v4082 : BitVec 1 := Scalar.cmpi .slt v4078 c0_i32_2970
  let v4083 : BitVec 1 := Scalar.xori v4081 v4082
  let c0_i32_2968 : BitVec 32 := 0#32
  let v4080 : BitVec 1 := Scalar.cmpi .ne v4079 c0_i32_2968
  let v4084 : BitVec 1 := Scalar.andi v4083 v4080
  let v4085 : BitVec 32 := Scalar.addi v4079 v4078
  let v4086 : BitVec 32 := Scalar.select v4084 v4085 v4079
  let c1_i32_2976 : BitVec 32 := 1#32
  let v4091 : BitVec 32 := Scalar.muli v4086 c1_i32_2976
  let v4092 : BitVec 32 := Scalar.addi c0_i32_2977 v4091
  v4092.toNat
def k0_dev59 (d0 : Dev nD) : Nat :=
  let c0_i32_2994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2981 : BitVec 32 := 2#32
  let v4100 : BitVec 32 := Scalar.addi v2 c2_i32_2981
  let c8_i32_2982 : BitVec 32 := 8#32
  let c0_i32_2983 : BitVec 32 := 0#32
  let v4101 : BitVec 1 := Scalar.cmpi .eq c8_i32_2982 c0_i32_2983
  let c1_i32_2984 : BitVec 32 := 1#32
  let v4102 : BitVec 32 := Scalar.select v4101 c1_i32_2984 c8_i32_2982
  let v4103 : BitVec 32 := Scalar.remsi v4100 v4102
  let c0_i32_2986 : BitVec 32 := 0#32
  let v4105 : BitVec 1 := Scalar.cmpi .slt v4103 c0_i32_2986
  let c0_i32_2987 : BitVec 32 := 0#32
  let v4106 : BitVec 1 := Scalar.cmpi .slt v4102 c0_i32_2987
  let v4107 : BitVec 1 := Scalar.xori v4105 v4106
  let c0_i32_2985 : BitVec 32 := 0#32
  let v4104 : BitVec 1 := Scalar.cmpi .ne v4103 c0_i32_2985
  let v4108 : BitVec 1 := Scalar.andi v4107 v4104
  let v4109 : BitVec 32 := Scalar.addi v4103 v4102
  let v4110 : BitVec 32 := Scalar.select v4108 v4109 v4103
  let c1_i32_2993 : BitVec 32 := 1#32
  let v4115 : BitVec 32 := Scalar.muli v4110 c1_i32_2993
  let v4116 : BitVec 32 := Scalar.addi c0_i32_2994 v4115
  v4116.toNat
def k0_dev60 (d0 : Dev nD) : Nat :=
  let c0_i32_3011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2998 : BitVec 32 := 3#32
  let v4124 : BitVec 32 := Scalar.addi v2 c3_i32_2998
  let c8_i32_2999 : BitVec 32 := 8#32
  let c0_i32_3000 : BitVec 32 := 0#32
  let v4125 : BitVec 1 := Scalar.cmpi .eq c8_i32_2999 c0_i32_3000
  let c1_i32_3001 : BitVec 32 := 1#32
  let v4126 : BitVec 32 := Scalar.select v4125 c1_i32_3001 c8_i32_2999
  let v4127 : BitVec 32 := Scalar.remsi v4124 v4126
  let c0_i32_3003 : BitVec 32 := 0#32
  let v4129 : BitVec 1 := Scalar.cmpi .slt v4127 c0_i32_3003
  let c0_i32_3004 : BitVec 32 := 0#32
  let v4130 : BitVec 1 := Scalar.cmpi .slt v4126 c0_i32_3004
  let v4131 : BitVec 1 := Scalar.xori v4129 v4130
  let c0_i32_3002 : BitVec 32 := 0#32
  let v4128 : BitVec 1 := Scalar.cmpi .ne v4127 c0_i32_3002
  let v4132 : BitVec 1 := Scalar.andi v4131 v4128
  let v4133 : BitVec 32 := Scalar.addi v4127 v4126
  let v4134 : BitVec 32 := Scalar.select v4132 v4133 v4127
  let c1_i32_3010 : BitVec 32 := 1#32
  let v4139 : BitVec 32 := Scalar.muli v4134 c1_i32_3010
  let v4140 : BitVec 32 := Scalar.addi c0_i32_3011 v4139
  v4140.toNat
def k0_dev61 (d0 : Dev nD) : Nat :=
  let c0_i32_3028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3015 : BitVec 32 := 4#32
  let v4148 : BitVec 32 := Scalar.addi v2 c4_i32_3015
  let c8_i32_3016 : BitVec 32 := 8#32
  let c0_i32_3017 : BitVec 32 := 0#32
  let v4149 : BitVec 1 := Scalar.cmpi .eq c8_i32_3016 c0_i32_3017
  let c1_i32_3018 : BitVec 32 := 1#32
  let v4150 : BitVec 32 := Scalar.select v4149 c1_i32_3018 c8_i32_3016
  let v4151 : BitVec 32 := Scalar.remsi v4148 v4150
  let c0_i32_3020 : BitVec 32 := 0#32
  let v4153 : BitVec 1 := Scalar.cmpi .slt v4151 c0_i32_3020
  let c0_i32_3021 : BitVec 32 := 0#32
  let v4154 : BitVec 1 := Scalar.cmpi .slt v4150 c0_i32_3021
  let v4155 : BitVec 1 := Scalar.xori v4153 v4154
  let c0_i32_3019 : BitVec 32 := 0#32
  let v4152 : BitVec 1 := Scalar.cmpi .ne v4151 c0_i32_3019
  let v4156 : BitVec 1 := Scalar.andi v4155 v4152
  let v4157 : BitVec 32 := Scalar.addi v4151 v4150
  let v4158 : BitVec 32 := Scalar.select v4156 v4157 v4151
  let c1_i32_3027 : BitVec 32 := 1#32
  let v4163 : BitVec 32 := Scalar.muli v4158 c1_i32_3027
  let v4164 : BitVec 32 := Scalar.addi c0_i32_3028 v4163
  v4164.toNat
def k0_dev62 (d0 : Dev nD) : Nat :=
  let c0_i32_3045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3032 : BitVec 32 := 5#32
  let v4172 : BitVec 32 := Scalar.addi v2 c5_i32_3032
  let c8_i32_3033 : BitVec 32 := 8#32
  let c0_i32_3034 : BitVec 32 := 0#32
  let v4173 : BitVec 1 := Scalar.cmpi .eq c8_i32_3033 c0_i32_3034
  let c1_i32_3035 : BitVec 32 := 1#32
  let v4174 : BitVec 32 := Scalar.select v4173 c1_i32_3035 c8_i32_3033
  let v4175 : BitVec 32 := Scalar.remsi v4172 v4174
  let c0_i32_3037 : BitVec 32 := 0#32
  let v4177 : BitVec 1 := Scalar.cmpi .slt v4175 c0_i32_3037
  let c0_i32_3038 : BitVec 32 := 0#32
  let v4178 : BitVec 1 := Scalar.cmpi .slt v4174 c0_i32_3038
  let v4179 : BitVec 1 := Scalar.xori v4177 v4178
  let c0_i32_3036 : BitVec 32 := 0#32
  let v4176 : BitVec 1 := Scalar.cmpi .ne v4175 c0_i32_3036
  let v4180 : BitVec 1 := Scalar.andi v4179 v4176
  let v4181 : BitVec 32 := Scalar.addi v4175 v4174
  let v4182 : BitVec 32 := Scalar.select v4180 v4181 v4175
  let c1_i32_3044 : BitVec 32 := 1#32
  let v4187 : BitVec 32 := Scalar.muli v4182 c1_i32_3044
  let v4188 : BitVec 32 := Scalar.addi c0_i32_3045 v4187
  v4188.toNat
def k0_dev63 (d0 : Dev nD) : Nat :=
  let c0_i32_3062 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3049 : BitVec 32 := 6#32
  let v4196 : BitVec 32 := Scalar.addi v2 c6_i32_3049
  let c8_i32_3050 : BitVec 32 := 8#32
  let c0_i32_3051 : BitVec 32 := 0#32
  let v4197 : BitVec 1 := Scalar.cmpi .eq c8_i32_3050 c0_i32_3051
  let c1_i32_3052 : BitVec 32 := 1#32
  let v4198 : BitVec 32 := Scalar.select v4197 c1_i32_3052 c8_i32_3050
  let v4199 : BitVec 32 := Scalar.remsi v4196 v4198
  let c0_i32_3054 : BitVec 32 := 0#32
  let v4201 : BitVec 1 := Scalar.cmpi .slt v4199 c0_i32_3054
  let c0_i32_3055 : BitVec 32 := 0#32
  let v4202 : BitVec 1 := Scalar.cmpi .slt v4198 c0_i32_3055
  let v4203 : BitVec 1 := Scalar.xori v4201 v4202
  let c0_i32_3053 : BitVec 32 := 0#32
  let v4200 : BitVec 1 := Scalar.cmpi .ne v4199 c0_i32_3053
  let v4204 : BitVec 1 := Scalar.andi v4203 v4200
  let v4205 : BitVec 32 := Scalar.addi v4199 v4198
  let v4206 : BitVec 32 := Scalar.select v4204 v4205 v4199
  let c1_i32_3061 : BitVec 32 := 1#32
  let v4211 : BitVec 32 := Scalar.muli v4206 c1_i32_3061
  let v4212 : BitVec 32 := Scalar.addi c0_i32_3062 v4211
  v4212.toNat
def k0_dev64 (d0 : Dev nD) : Nat :=
  let c0_i32_3079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3066 : BitVec 32 := 7#32
  let v4220 : BitVec 32 := Scalar.addi v2 c7_i32_3066
  let c8_i32_3067 : BitVec 32 := 8#32
  let c0_i32_3068 : BitVec 32 := 0#32
  let v4221 : BitVec 1 := Scalar.cmpi .eq c8_i32_3067 c0_i32_3068
  let c1_i32_3069 : BitVec 32 := 1#32
  let v4222 : BitVec 32 := Scalar.select v4221 c1_i32_3069 c8_i32_3067
  let v4223 : BitVec 32 := Scalar.remsi v4220 v4222
  let c0_i32_3071 : BitVec 32 := 0#32
  let v4225 : BitVec 1 := Scalar.cmpi .slt v4223 c0_i32_3071
  let c0_i32_3072 : BitVec 32 := 0#32
  let v4226 : BitVec 1 := Scalar.cmpi .slt v4222 c0_i32_3072
  let v4227 : BitVec 1 := Scalar.xori v4225 v4226
  let c0_i32_3070 : BitVec 32 := 0#32
  let v4224 : BitVec 1 := Scalar.cmpi .ne v4223 c0_i32_3070
  let v4228 : BitVec 1 := Scalar.andi v4227 v4224
  let v4229 : BitVec 32 := Scalar.addi v4223 v4222
  let v4230 : BitVec 32 := Scalar.select v4228 v4229 v4223
  let c1_i32_3078 : BitVec 32 := 1#32
  let v4235 : BitVec 32 := Scalar.muli v4230 c1_i32_3078
  let v4236 : BitVec 32 := Scalar.addi c0_i32_3079 v4235
  v4236.toNat
def k0_dev65 (d0 : Dev nD) : Nat :=
  let c0_i32_3200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3187 : BitVec 32 := 0#32
  let v4316 : BitVec 32 := Scalar.addi v2 c0_i32_3187
  let c8_i32_3188 : BitVec 32 := 8#32
  let c0_i32_3189 : BitVec 32 := 0#32
  let v4317 : BitVec 1 := Scalar.cmpi .eq c8_i32_3188 c0_i32_3189
  let c1_i32_3190 : BitVec 32 := 1#32
  let v4318 : BitVec 32 := Scalar.select v4317 c1_i32_3190 c8_i32_3188
  let v4319 : BitVec 32 := Scalar.remsi v4316 v4318
  let c0_i32_3192 : BitVec 32 := 0#32
  let v4321 : BitVec 1 := Scalar.cmpi .slt v4319 c0_i32_3192
  let c0_i32_3193 : BitVec 32 := 0#32
  let v4322 : BitVec 1 := Scalar.cmpi .slt v4318 c0_i32_3193
  let v4323 : BitVec 1 := Scalar.xori v4321 v4322
  let c0_i32_3191 : BitVec 32 := 0#32
  let v4320 : BitVec 1 := Scalar.cmpi .ne v4319 c0_i32_3191
  let v4324 : BitVec 1 := Scalar.andi v4323 v4320
  let v4325 : BitVec 32 := Scalar.addi v4319 v4318
  let v4326 : BitVec 32 := Scalar.select v4324 v4325 v4319
  let c1_i32_3199 : BitVec 32 := 1#32
  let v4331 : BitVec 32 := Scalar.muli v4326 c1_i32_3199
  let v4332 : BitVec 32 := Scalar.addi c0_i32_3200 v4331
  v4332.toNat
def k0_dev66 (d0 : Dev nD) : Nat :=
  let c0_i32_3217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3204 : BitVec 32 := 1#32
  let v4340 : BitVec 32 := Scalar.addi v2 c1_i32_3204
  let c8_i32_3205 : BitVec 32 := 8#32
  let c0_i32_3206 : BitVec 32 := 0#32
  let v4341 : BitVec 1 := Scalar.cmpi .eq c8_i32_3205 c0_i32_3206
  let c1_i32_3207 : BitVec 32 := 1#32
  let v4342 : BitVec 32 := Scalar.select v4341 c1_i32_3207 c8_i32_3205
  let v4343 : BitVec 32 := Scalar.remsi v4340 v4342
  let c0_i32_3209 : BitVec 32 := 0#32
  let v4345 : BitVec 1 := Scalar.cmpi .slt v4343 c0_i32_3209
  let c0_i32_3210 : BitVec 32 := 0#32
  let v4346 : BitVec 1 := Scalar.cmpi .slt v4342 c0_i32_3210
  let v4347 : BitVec 1 := Scalar.xori v4345 v4346
  let c0_i32_3208 : BitVec 32 := 0#32
  let v4344 : BitVec 1 := Scalar.cmpi .ne v4343 c0_i32_3208
  let v4348 : BitVec 1 := Scalar.andi v4347 v4344
  let v4349 : BitVec 32 := Scalar.addi v4343 v4342
  let v4350 : BitVec 32 := Scalar.select v4348 v4349 v4343
  let c1_i32_3216 : BitVec 32 := 1#32
  let v4355 : BitVec 32 := Scalar.muli v4350 c1_i32_3216
  let v4356 : BitVec 32 := Scalar.addi c0_i32_3217 v4355
  v4356.toNat
def k0_dev67 (d0 : Dev nD) : Nat :=
  let c0_i32_3234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3221 : BitVec 32 := 2#32
  let v4364 : BitVec 32 := Scalar.addi v2 c2_i32_3221
  let c8_i32_3222 : BitVec 32 := 8#32
  let c0_i32_3223 : BitVec 32 := 0#32
  let v4365 : BitVec 1 := Scalar.cmpi .eq c8_i32_3222 c0_i32_3223
  let c1_i32_3224 : BitVec 32 := 1#32
  let v4366 : BitVec 32 := Scalar.select v4365 c1_i32_3224 c8_i32_3222
  let v4367 : BitVec 32 := Scalar.remsi v4364 v4366
  let c0_i32_3226 : BitVec 32 := 0#32
  let v4369 : BitVec 1 := Scalar.cmpi .slt v4367 c0_i32_3226
  let c0_i32_3227 : BitVec 32 := 0#32
  let v4370 : BitVec 1 := Scalar.cmpi .slt v4366 c0_i32_3227
  let v4371 : BitVec 1 := Scalar.xori v4369 v4370
  let c0_i32_3225 : BitVec 32 := 0#32
  let v4368 : BitVec 1 := Scalar.cmpi .ne v4367 c0_i32_3225
  let v4372 : BitVec 1 := Scalar.andi v4371 v4368
  let v4373 : BitVec 32 := Scalar.addi v4367 v4366
  let v4374 : BitVec 32 := Scalar.select v4372 v4373 v4367
  let c1_i32_3233 : BitVec 32 := 1#32
  let v4379 : BitVec 32 := Scalar.muli v4374 c1_i32_3233
  let v4380 : BitVec 32 := Scalar.addi c0_i32_3234 v4379
  v4380.toNat
def k0_dev68 (d0 : Dev nD) : Nat :=
  let c0_i32_3251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3238 : BitVec 32 := 3#32
  let v4388 : BitVec 32 := Scalar.addi v2 c3_i32_3238
  let c8_i32_3239 : BitVec 32 := 8#32
  let c0_i32_3240 : BitVec 32 := 0#32
  let v4389 : BitVec 1 := Scalar.cmpi .eq c8_i32_3239 c0_i32_3240
  let c1_i32_3241 : BitVec 32 := 1#32
  let v4390 : BitVec 32 := Scalar.select v4389 c1_i32_3241 c8_i32_3239
  let v4391 : BitVec 32 := Scalar.remsi v4388 v4390
  let c0_i32_3243 : BitVec 32 := 0#32
  let v4393 : BitVec 1 := Scalar.cmpi .slt v4391 c0_i32_3243
  let c0_i32_3244 : BitVec 32 := 0#32
  let v4394 : BitVec 1 := Scalar.cmpi .slt v4390 c0_i32_3244
  let v4395 : BitVec 1 := Scalar.xori v4393 v4394
  let c0_i32_3242 : BitVec 32 := 0#32
  let v4392 : BitVec 1 := Scalar.cmpi .ne v4391 c0_i32_3242
  let v4396 : BitVec 1 := Scalar.andi v4395 v4392
  let v4397 : BitVec 32 := Scalar.addi v4391 v4390
  let v4398 : BitVec 32 := Scalar.select v4396 v4397 v4391
  let c1_i32_3250 : BitVec 32 := 1#32
  let v4403 : BitVec 32 := Scalar.muli v4398 c1_i32_3250
  let v4404 : BitVec 32 := Scalar.addi c0_i32_3251 v4403
  v4404.toNat
def k0_dev69 (d0 : Dev nD) : Nat :=
  let c0_i32_3268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3255 : BitVec 32 := 4#32
  let v4412 : BitVec 32 := Scalar.addi v2 c4_i32_3255
  let c8_i32_3256 : BitVec 32 := 8#32
  let c0_i32_3257 : BitVec 32 := 0#32
  let v4413 : BitVec 1 := Scalar.cmpi .eq c8_i32_3256 c0_i32_3257
  let c1_i32_3258 : BitVec 32 := 1#32
  let v4414 : BitVec 32 := Scalar.select v4413 c1_i32_3258 c8_i32_3256
  let v4415 : BitVec 32 := Scalar.remsi v4412 v4414
  let c0_i32_3260 : BitVec 32 := 0#32
  let v4417 : BitVec 1 := Scalar.cmpi .slt v4415 c0_i32_3260
  let c0_i32_3261 : BitVec 32 := 0#32
  let v4418 : BitVec 1 := Scalar.cmpi .slt v4414 c0_i32_3261
  let v4419 : BitVec 1 := Scalar.xori v4417 v4418
  let c0_i32_3259 : BitVec 32 := 0#32
  let v4416 : BitVec 1 := Scalar.cmpi .ne v4415 c0_i32_3259
  let v4420 : BitVec 1 := Scalar.andi v4419 v4416
  let v4421 : BitVec 32 := Scalar.addi v4415 v4414
  let v4422 : BitVec 32 := Scalar.select v4420 v4421 v4415
  let c1_i32_3267 : BitVec 32 := 1#32
  let v4427 : BitVec 32 := Scalar.muli v4422 c1_i32_3267
  let v4428 : BitVec 32 := Scalar.addi c0_i32_3268 v4427
  v4428.toNat
def k0_dev70 (d0 : Dev nD) : Nat :=
  let c0_i32_3285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3272 : BitVec 32 := 5#32
  let v4436 : BitVec 32 := Scalar.addi v2 c5_i32_3272
  let c8_i32_3273 : BitVec 32 := 8#32
  let c0_i32_3274 : BitVec 32 := 0#32
  let v4437 : BitVec 1 := Scalar.cmpi .eq c8_i32_3273 c0_i32_3274
  let c1_i32_3275 : BitVec 32 := 1#32
  let v4438 : BitVec 32 := Scalar.select v4437 c1_i32_3275 c8_i32_3273
  let v4439 : BitVec 32 := Scalar.remsi v4436 v4438
  let c0_i32_3277 : BitVec 32 := 0#32
  let v4441 : BitVec 1 := Scalar.cmpi .slt v4439 c0_i32_3277
  let c0_i32_3278 : BitVec 32 := 0#32
  let v4442 : BitVec 1 := Scalar.cmpi .slt v4438 c0_i32_3278
  let v4443 : BitVec 1 := Scalar.xori v4441 v4442
  let c0_i32_3276 : BitVec 32 := 0#32
  let v4440 : BitVec 1 := Scalar.cmpi .ne v4439 c0_i32_3276
  let v4444 : BitVec 1 := Scalar.andi v4443 v4440
  let v4445 : BitVec 32 := Scalar.addi v4439 v4438
  let v4446 : BitVec 32 := Scalar.select v4444 v4445 v4439
  let c1_i32_3284 : BitVec 32 := 1#32
  let v4451 : BitVec 32 := Scalar.muli v4446 c1_i32_3284
  let v4452 : BitVec 32 := Scalar.addi c0_i32_3285 v4451
  v4452.toNat
def k0_dev71 (d0 : Dev nD) : Nat :=
  let c0_i32_3302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3289 : BitVec 32 := 6#32
  let v4460 : BitVec 32 := Scalar.addi v2 c6_i32_3289
  let c8_i32_3290 : BitVec 32 := 8#32
  let c0_i32_3291 : BitVec 32 := 0#32
  let v4461 : BitVec 1 := Scalar.cmpi .eq c8_i32_3290 c0_i32_3291
  let c1_i32_3292 : BitVec 32 := 1#32
  let v4462 : BitVec 32 := Scalar.select v4461 c1_i32_3292 c8_i32_3290
  let v4463 : BitVec 32 := Scalar.remsi v4460 v4462
  let c0_i32_3294 : BitVec 32 := 0#32
  let v4465 : BitVec 1 := Scalar.cmpi .slt v4463 c0_i32_3294
  let c0_i32_3295 : BitVec 32 := 0#32
  let v4466 : BitVec 1 := Scalar.cmpi .slt v4462 c0_i32_3295
  let v4467 : BitVec 1 := Scalar.xori v4465 v4466
  let c0_i32_3293 : BitVec 32 := 0#32
  let v4464 : BitVec 1 := Scalar.cmpi .ne v4463 c0_i32_3293
  let v4468 : BitVec 1 := Scalar.andi v4467 v4464
  let v4469 : BitVec 32 := Scalar.addi v4463 v4462
  let v4470 : BitVec 32 := Scalar.select v4468 v4469 v4463
  let c1_i32_3301 : BitVec 32 := 1#32
  let v4475 : BitVec 32 := Scalar.muli v4470 c1_i32_3301
  let v4476 : BitVec 32 := Scalar.addi c0_i32_3302 v4475
  v4476.toNat
def k0_dev72 (d0 : Dev nD) : Nat :=
  let c0_i32_3319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3306 : BitVec 32 := 7#32
  let v4484 : BitVec 32 := Scalar.addi v2 c7_i32_3306
  let c8_i32_3307 : BitVec 32 := 8#32
  let c0_i32_3308 : BitVec 32 := 0#32
  let v4485 : BitVec 1 := Scalar.cmpi .eq c8_i32_3307 c0_i32_3308
  let c1_i32_3309 : BitVec 32 := 1#32
  let v4486 : BitVec 32 := Scalar.select v4485 c1_i32_3309 c8_i32_3307
  let v4487 : BitVec 32 := Scalar.remsi v4484 v4486
  let c0_i32_3311 : BitVec 32 := 0#32
  let v4489 : BitVec 1 := Scalar.cmpi .slt v4487 c0_i32_3311
  let c0_i32_3312 : BitVec 32 := 0#32
  let v4490 : BitVec 1 := Scalar.cmpi .slt v4486 c0_i32_3312
  let v4491 : BitVec 1 := Scalar.xori v4489 v4490
  let c0_i32_3310 : BitVec 32 := 0#32
  let v4488 : BitVec 1 := Scalar.cmpi .ne v4487 c0_i32_3310
  let v4492 : BitVec 1 := Scalar.andi v4491 v4488
  let v4493 : BitVec 32 := Scalar.addi v4487 v4486
  let v4494 : BitVec 32 := Scalar.select v4492 v4493 v4487
  let c1_i32_3318 : BitVec 32 := 1#32
  let v4499 : BitVec 32 := Scalar.muli v4494 c1_i32_3318
  let v4500 : BitVec 32 := Scalar.addi c0_i32_3319 v4499
  v4500.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 144
  | .vmem => 0
  | .smem => 0
  | _ => 0

abbrev hbmTy0_0 (i : Nat) : BufTy := match i % 128 with
  | 0 => ⟨S1x2048x1024, .bf16⟩
  | 1 => ⟨S1024x8192, .bf16⟩
  | 2 => ⟨S1x2048x64x128, .bf16⟩
  | 3 => ⟨S1x2048x64x128, .bf16⟩
  | 4 => ⟨S8192x1024, .bf16⟩
  | 5 => ⟨S1x2048x1024, .f32⟩
  | 6 => ⟨S1024x8192, .f32⟩
  | 7 => ⟨S1x2048x64x128, .f32⟩
  | 8 => ⟨S1x2048x64x128, .f32⟩
  | 9 => ⟨S8192x1024, .f32⟩
  | 10 => ⟨S1x2048x8192, .f32⟩
  | 11 => ⟨S1x2048x64x128, .f32⟩
  | 12 => ⟨S2048, .i32⟩
  | 13 => ⟨S_, .i32⟩
  | 14 => ⟨S_, .i32⟩
  | 15 => ⟨S2048, .i32⟩
  | 16 => ⟨S2048, .i32⟩
  | 17 => ⟨S2048, .i32⟩
  | 18 => ⟨S_, .i32⟩
  | 19 => ⟨S2048, .i32⟩
  | 20 => ⟨S2048, .i1⟩
  | 21 => ⟨S2048, .i32⟩
  | 22 => ⟨S2048, .i32⟩
  | 23 => ⟨S_, .i32⟩
  | 24 => ⟨S2048, .i32⟩
  | 25 => ⟨S2048, .i1⟩
  | 26 => ⟨S2048, .i1⟩
  | 27 => ⟨S_, .i32⟩
  | 28 => ⟨S2048, .i32⟩
  | 29 => ⟨S2048, .i32⟩
  | 30 => ⟨S2048, .i32⟩
  | 31 => ⟨S2048x1, .i32⟩
  | 32 => ⟨S2048, .i32⟩
  | 33 => ⟨S_, .i32⟩
  | 34 => ⟨S_, .i32⟩
  | 35 => ⟨S2048, .i32⟩
  | 36 => ⟨S2048, .i32⟩
  | 37 => ⟨S2048, .i32⟩
  | 38 => ⟨S_, .i32⟩
  | 39 => ⟨S2048, .i32⟩
  | 40 => ⟨S2048, .i1⟩
  | 41 => ⟨S2048, .i32⟩
  | 42 => ⟨S2048, .i32⟩
  | 43 => ⟨S_, .i32⟩
  | 44 => ⟨S2048, .i32⟩
  | 45 => ⟨S2048, .i1⟩
  | 46 => ⟨S2048, .i1⟩
  | 47 => ⟨S_, .i32⟩
  | 48 => ⟨S2048, .i32⟩
  | 49 => ⟨S2048, .i32⟩
  | 50 => ⟨S2048, .i32⟩
  | 51 => ⟨S1x2048, .i32⟩
  | 52 => ⟨S2048x2048, .i32⟩
  | 53 => ⟨S2048x2048, .i32⟩
  | 54 => ⟨S2048x2048, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x2048, .i32⟩
  | 62 => ⟨S1x2048, .i32⟩
  | 63 => ⟨S_, .i32⟩
  | 64 => ⟨S1x2048, .i32⟩
  | 65 => ⟨S1x2048, .i1⟩
  | 66 => ⟨S_, .i32⟩
  | 67 => ⟨S1x2048, .i32⟩
  | 68 => ⟨S1x2048, .i1⟩
  | 69 => ⟨S_, .i32⟩
  | 70 => ⟨S_, .i1⟩
  | 71 => ⟨S1x2048, .i1⟩
  | 72 => ⟨S1x2048, .i1⟩
  | 73 => ⟨S1x2048, .i1⟩
  | 74 => ⟨S1x2048, .i32⟩
  | 75 => ⟨S1x2048, .i32⟩
  | 76 => ⟨S1x2048, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S2048x1, .i32⟩
  | 84 => ⟨S2048x1, .i32⟩
  | 85 => ⟨S_, .i32⟩
  | 86 => ⟨S2048x1, .i32⟩
  | 87 => ⟨S2048x1, .i1⟩
  | 88 => ⟨S_, .i32⟩
  | 89 => ⟨S2048x1, .i32⟩
  | 90 => ⟨S2048x1, .i1⟩
  | 91 => ⟨S_, .i32⟩
  | 92 => ⟨S_, .i1⟩
  | 93 => ⟨S2048x1, .i1⟩
  | 94 => ⟨S2048x1, .i1⟩
  | 95 => ⟨S2048x1, .i1⟩
  | 96 => ⟨S2048x1, .i32⟩
  | 97 => ⟨S2048x1, .i32⟩
  | 98 => ⟨S2048x1, .i32⟩
  | 99 => ⟨S2048x2048, .i32⟩
  | 100 => ⟨S2048x2048, .i32⟩
  | 101 => ⟨S2048x2048, .i1⟩
  | 102 => ⟨S2048x2048, .i1⟩
  | 103 => ⟨S1x64x2048x2048, .f32⟩
  | 104 => ⟨S_, .f32⟩
  | 105 => ⟨S_, .f32⟩
  | 106 => ⟨S1x64x2048x2048, .f32⟩
  | 107 => ⟨S1x64x2048x2048, .f32⟩
  | 108 => ⟨S1x1x2048x2048, .i1⟩
  | 109 => ⟨S_, .f32⟩
  | 110 => ⟨S_, .f32⟩
  | 111 => ⟨S1x64x2048x2048, .i1⟩
  | 112 => ⟨S1x64x2048x2048, .f32⟩
  | 113 => ⟨S1x64x2048x2048, .f32⟩
  | 114 => ⟨S_, .f32⟩
  | 115 => ⟨S1x64x2048, .f32⟩
  | 116 => ⟨S1x64x2048x1, .f32⟩
  | 117 => ⟨S1x64x2048x2048, .f32⟩
  | 118 => ⟨S1x64x2048x2048, .f32⟩
  | 119 => ⟨S1x64x2048x2048, .f32⟩
  | 120 => ⟨S_, .i1⟩
  | 121 => ⟨S2048, .i1⟩
  | 122 => ⟨S1x1x2048x1, .i1⟩
  | 123 => ⟨S_, .f32⟩
  | 124 => ⟨S1x64x2048, .f32⟩
  | 125 => ⟨S1x64x2048x1, .f32⟩
  | 126 => ⟨S_, .f32⟩
  | 127 => ⟨S_, .f32⟩
  | _ => ⟨S1x2048x1024, .bf16⟩

abbrev hbmTy0_1 (i : Nat) : BufTy := match i % 128 with
  | 0 => ⟨S1x64x2048x1, .i1⟩
  | 1 => ⟨S1x64x2048x1, .f32⟩
  | 2 => ⟨S1x64x2048x1, .f32⟩
  | 3 => ⟨S1x64x2048x2048, .f32⟩
  | 4 => ⟨S1x64x2048x2048, .f32⟩
  | 5 => ⟨S1x1x2048x1, .i1⟩
  | 6 => ⟨S_, .f32⟩
  | 7 => ⟨S_, .f32⟩
  | 8 => ⟨S1x64x2048x2048, .i1⟩
  | 9 => ⟨S1x64x2048x2048, .f32⟩
  | 10 => ⟨S1x64x2048x2048, .f32⟩
  | 11 => ⟨S1x64x128x2048, .f32⟩
  | 12 => ⟨S1x2048x64x128, .f32⟩
  | 13 => ⟨S1x2048x8192, .f32⟩
  | 14 => ⟨S1x2048x1024, .f32⟩
  | 15 => ⟨S1x2048x1024, .bf16⟩
  | _ => ⟨S1x2048x1024, .bf16⟩

abbrev hbmTy (i : Nat) : BufTy := match i / 128 with
  | 0 => hbmTy0_0 i
  | 1 => hbmTy0_1 i
  | _ => ⟨S1x2048x1024, .bf16⟩

abbrev bufTy : (tb : Table) → Fin (tcTables nBuf tb) → BufTy
  | .hbm, ⟨i, _⟩ => hbmTy i
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_cst_3 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v27 : Ref sig .tc := ⟨.hbm, 113, rfl⟩
abbrev main_cst_4 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_c_5 : Ref sig .tc := ⟨.hbm, 120, rfl⟩
abbrev main_v33 : Ref sig .tc := ⟨.hbm, 121, rfl⟩
abbrev main_v34 : Ref sig .tc := ⟨.hbm, 122, rfl⟩
abbrev main_cst_6 : Ref sig .tc := ⟨.hbm, 123, rfl⟩
abbrev main_v35 : Ref sig .tc := ⟨.hbm, 124, rfl⟩
abbrev main_v36 : Ref sig .tc := ⟨.hbm, 125, rfl⟩
abbrev main_cst_7 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_cst_8 : Ref sig .tc := ⟨.hbm, 134, rfl⟩
abbrev main_call6_v0 : Ref sig .tc := ⟨.hbm, 135, rfl⟩
abbrev main_call6_v1 : Ref sig .tc := ⟨.hbm, 136, rfl⟩
abbrev main_call6_v2 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩

abbrev nD : Nat := 1
abbrev τ : Topo := Topo.v7x

variable {F : FTy → Type} [FloatOps F]
-- ==== Proof.Scale.lean ====
module

public import proofs.«01_k».proof.Proof.Gen.KernelIdeal.Launch
public import proofs.«01_k».proof.Proof.Gen.KernelIdeal.Points

@[expose] public section

noncomputable section

namespace Cert.KernelIdeal.Pf

open Idealize.ShloMosaic

/-- The factor the query projection is multiplied by. -/
def scaleC (F : FTy → Type) [FloatOps F] [Named F] : F .bf16 := Named.named κ "scale" 0x3DB5#16

end Cert.KernelIdeal.Pf

end
-- ==== Proof.Steps.lean ====
/- The kernel handles the rows of the result in four steps of 4, 2, 1 and 1 row chunks (256 rows each). This module
   names a step by its numbers, and gives the values one step computes as functions of what it has read. -/
module

public import proofs.«01_k».proof.Proof.Scale

@[expose] public section

noncomputable section

namespace Cert.KernelIdeal.Pf

open Idealize.ShloMosaic Idealize.ShloMosaic.TcCoe Cert.KernelIdeal.Gen

/-- The rows of a step; the rows of one of its four groups; a block of one eighth of its rows. -/
abbrev SRow (nc : ℕ) : Shape := ⟨2, ![256 * nc, 1024]⟩
abbrev SGrp (nc : ℕ) : Shape := ⟨2, ![64 * nc, 1024]⟩
abbrev SCtx (nc : ℕ) : Shape := ⟨2, ![64 * nc, 128]⟩
abbrev SScr (nc : ℕ) : Shape := ⟨2, ![64 * nc, 512]⟩
abbrev SDen (nc : ℕ) : Shape := ⟨1, ![64 * nc]⟩
abbrev SDen1 (nc : ℕ) : Shape := ⟨2, ![64 * nc, 1]⟩
abbrev SBlk (nc : ℕ) : Shape := ⟨2, ![32 * nc, 1024]⟩
abbrev SBlk3 (nc : ℕ) : Shape := ⟨3, ![1, 32 * nc, 1024]⟩
abbrev SBlk4 (nc : ℕ) : Shape := ⟨4, ![1, 1, 32 * nc, 1024]⟩
abbrev SAll3 (nc : ℕ) : Shape := ⟨3, ![8, 32 * nc, 1024]⟩
abbrev SAll4 (nc : ℕ) : Shape := ⟨4, ![1, 8, 32 * nc, 1024]⟩

/-- The eight devices, the four groups and the eight heads of a device, in order. -/
abbrev fin8 : List (Fin 8) :=
  [⟨0, by decide⟩, ⟨1, by decide⟩, ⟨2, by decide⟩, ⟨3, by decide⟩, ⟨4, by decide⟩, ⟨5, by decide⟩, ⟨6, by decide⟩, ⟨7, by decide⟩]
abbrev fin4 : List (Fin 4) := [⟨0, by decide⟩, ⟨1, by decide⟩, ⟨2, by decide⟩, ⟨3, by decide⟩]

/-- A step: which it is, how many chunks it has, its first row, how it gathers the rows of a group out of all its
    rows and the rows of one chunk out of a group's, and where its blocks are sent, as the kernel computes it. -/
structure Step where
  p : ℕ
  nc : ℕ
  base : ℕ
  ts : List (Fin nc)
  qj : ∀ {F : FTy → Type} [FloatOps F], Fin 4 → FVec F (SRow nc) .bf16 → FVec F (SGrp nc) .bf16
  tile : ∀ {F : FTy → Type} [FloatOps F], Fin nc → FVec F (SCtx nc) .bf16 → FVec F S64x128 .bf16
  rsOff : Dev nD → Fin 4 → ℕ
  agOff : Dev nD → Fin 2 → ℕ
  hp : p < 4 := by decide
  hnc : nc ≤ 4 := by decide
  hbase : base + 256 * nc ≤ 2048 := by decide
  rsOff_eq : ∀ d, rsOff d = ![p, d.val, 0, 0] := by decide +kernel
  agOff_eq : ∀ d, agOff d = ![base + d.val * (32 * nc), 0] := by decide +kernel
  hts : ∀ t, t ∈ ts := by decide
  ndts : ts.Nodup := by decide
  hRow : 0 < (SRow nc).numel := by decide
  hBlk3 : 0 < (SBlk3 nc).numel := by decide
  hAll4 : 0 < (SAll4 nc).numel := by decide
  inbX : ∀ a, (![base, 0] : Fin 2 → ℕ) a + (SRow nc).size a ≤ S2048x1024.size a := by decide
  inbC : ∀ a, (![0, 0] : Fin 2 → ℕ) a + (SRow nc).size a ≤ S1024x1024.size a := by decide
  inbT : ∀ (j : Fin 4) (h : Fin 8) (t : Fin nc), ∀ a, (![256 * t.val + 64 * j.val, 128 * h.val] : Fin 2 → ℕ) a + S64x128.size a ≤ S1024x1024.size a := by decide
  pkT : ∀ (j : Fin 4) (h : Fin 8) (t : Fin nc), (Rect.unit (s := S1024x1024) ![256 * t.val + 64 * j.val, 128 * h.val] S64x128.size (inbT j h t)).PackedRows (EltTy.packing .bf16) := by decide
  pkX : (Rect.unit (s := S2048x1024) ![base, 0] (SRow nc).size inbX).PackedRows (EltTy.packing .bf16) := by decide
  inbB : ∀ (d : Fin 8), ∀ a, (![base + (32 * nc) * d.val, 0] : Fin 2 → ℕ) a + (SBlk nc).size a ≤ S2048x1024.size a := by decide
  wdB : ∀ (d : Fin 8), (Rect.unit (s := S2048x1024) ![base + (32 * nc) * d.val, 0] (SBlk nc).size (inbB d)).WholeWords (EltTy.packing .bf16) := by decide
  inbS : ∀ (i : Fin 8), ∀ a, (![8 * p + i.val] : Fin 1 → ℕ) a + S1.size a ≤ S32.size a := by decide
  inbRs : ∀ d : Dev nD, ∀ a, (rsOff d) a + (SBlk4 nc).size a ≤ S4x8x128x1024.size a := by decide +kernel
  wdRs : ∀ d : Dev nD, (Rect.unit (s := S4x8x128x1024) (rsOff d) (SBlk4 nc).size (inbRs d)).WholeWords (EltTy.packing .bf16) := by decide +kernel
  inbSlot : ∀ (d : Fin 8), ∀ a, (![p, d.val, 0, 0] : Fin 4 → ℕ) a + (SBlk4 nc).size a ≤ S4x8x128x1024.size a := by decide
  wdSlot : ∀ (d : Fin 8), (Rect.unit (s := S4x8x128x1024) ![p, d.val, 0, 0] (SBlk4 nc).size (inbSlot d)).WholeWords (EltTy.packing .bf16) := by decide
  inbAll : ∀ a, (![p, 0, 0, 0] : Fin 4 → ℕ) a + (SAll4 nc).size a ≤ S4x8x128x1024.size a := by decide
  inbAcc : ∀ a, (![p, 0, 0] : Fin 3 → ℕ) a + (SBlk3 nc).size a ≤ S4x128x1024.size a := by decide
  pkAcc : (Rect.unit (s := S4x128x1024) ![p, 0, 0] (SBlk3 nc).size inbAcc).PackedRows (EltTy.packing .bf16) := by decide
  wdAcc : (Rect.unit (s := S4x128x1024) ![p, 0, 0] (SBlk3 nc).size inbAcc).WholeWords (EltTy.packing .bf16) := by decide
  inbAg : ∀ d : Dev nD, ∀ a, (agOff d) a + (SBlk nc).size a ≤ S2048x1024.size a := by decide +kernel
  wdAg : ∀ d : Dev nD, (Rect.unit (s := S2048x1024) (agOff d) (SBlk nc).size (inbAg d)).WholeWords (EltTy.packing .bf16) := by decide +kernel
  inbRv : ∀ d : Dev nD, ∀ a, (k0_off1 d (BitVec.ofNat 32 (8 * p))) a + S1.size a ≤ S32.size a := by decide +kernel
  inbSd : ∀ (d : Dev nD) (k : Fin 8), ∀ a, (k0_off5 d (BitVec.ofNat 32 (8 * p)) (BitVec.ofNat 32 k.val)) a + S1.size a ≤ S32.size a := by decide +kernel
  cRow : (SRow nc).ShapeCasts (SRow nc) := by decide
  cDen : (SDen nc).ShapeCasts (SDen1 nc) := by decide
  cAll : (SAll4 nc).ShapeCasts (SAll3 nc) := by decide
  cBlk : (SBlk nc).ShapeCasts (SBlk3 nc) := by decide
  qBlk4 : (SBlk4 nc).Squeezes (SBlk nc) := by decide
  qBlk3 : (SBlk3 nc).Squeezes (SBlk nc) := by decide
  rDen : (SScr nc).Reduces [1] (SDen nc) := by decide
  rAll : (SAll3 nc).Reduces [0] (SBlk nc) := by decide
  bDen : (SDen1 nc).Broadcasts (SCtx nc) := by decide
  slH : ∀ h : Fin 8, (SGrp nc).Slices ![0, 128 * h.val] (SCtx nc) := by decide

namespace Step

variable {F : FTy → Type} [FloatOps F] [Named F] (s : Step)

/-- The queries of a step's rows: the rows times the scaled weights. -/
def q (x : Vec F (SRow s.nc) .bf16) (wq : Vec F S1024x1024 .bf16) : FVec F (SRow s.nc) .bf16 :=
  truncf .bf16 (matmul (DotDims.plain (256 * s.nc) 1024 1024) none (shapeCast (SRow s.nc) x s.cRow)
    (mulf (shapeCast S1024x1024 wq shapeCasts_S1024x1024_S1024x1024) (broadcast S1024x1024 (scaleC F)))
    (constant (SRow s.nc) .f32 0x00000000#32)) bitsLt_bf16_f32

/-- The exponentials of one head's scores in a group. -/
def ex (h : Fin 8) (g : FVec F (SGrp s.nc) .bf16) (k : Vec F S1x1x512x128 .bf16) : FVec F (SScr s.nc) .f32 :=
  exp (matmul (DotDims.transposedRhs (64 * s.nc) 128 512) none (extractStridedSlice (SCtx s.nc) ![0, 128 * h.val] g (s.slH h))
    (shapeCast S512x128 k shapeCasts_S1x1x512x128_S512x128) (constant (SScr s.nc) .f32 0x00000000#32))

/-- One head's attention in a group: the weighted values over the sum of the weights. -/
def att (h : Fin 8) (g : FVec F (SGrp s.nc) .bf16) (k v : Vec F S1x1x512x128 .bf16) : FVec F (SCtx s.nc) .bf16 :=
  truncf .bf16 (mulf
    (matmul (DotDims.plain (64 * s.nc) 512 128) none (truncf .bf16 (s.ex h g k) bitsLt_bf16_f32)
      (shapeCast S512x128 v shapeCasts_S1x1x512x128_S512x128) (constant (SCtx s.nc) .f32 0x00000000#32))
    (broadcastTo (SCtx s.nc) (divf (broadcast (SDen1 s.nc) (Scalar.ofBits .f32 0x3F800000#32))
      (shapeCast (SDen1 s.nc) (multiReduction .add [1] (SDen s.nc) (s.ex h g k) 0x00000000#32 s.rDen (.inl rfl) rfl) s.cDen)) s.bDen))
    bitsLt_bf16_f32

/-- What the step stores in one tile of the context: chunk `t` of head `h` of group `j`. -/
def tl (j : Fin 4) (h : Fin 8) (t : Fin s.nc) (x : Vec F (SRow s.nc) .bf16) (wq : Vec F S1024x1024 .bf16)
    (k v : Vec F S1x1x512x128 .bf16) : FVec F S64x128 .bf16 :=
  shapeCast S64x128 (s.tile t (s.att h (s.qj j (s.q x wq)) k v)) shapeCasts_S64x128_S64x128

/-- The step's partial product: the context times the output weights. -/
def pp (ctx : Vec F (SRow s.nc) .bf16) (wo : Vec F S1024x1024 .bf16) : FVec F (SRow s.nc) .bf16 :=
  shapeCast (SRow s.nc) (truncf .bf16 (matmul (DotDims.plain (256 * s.nc) 1024 1024) none ctx
    (shapeCast S1024x1024 wo shapeCasts_S1024x1024_S1024x1024) (constant (SRow s.nc) .f32 0x00000000#32)) bitsLt_bf16_f32) s.cRow

/-- The sum of the eight blocks received. -/
def sum8 (b : Vec F (SAll4 s.nc) .bf16) : FVec F (SBlk3 s.nc) .bf16 :=
  shapeCast (SBlk3 s.nc) (truncf .bf16 (multiReduction .add [0] (SBlk s.nc) (extf .f32 (shapeCast (SAll3 s.nc) b s.cAll) bitsLt_bf16_f32)
    0x00000000#32 s.rAll (.inl rfl) rfl) bitsLt_bf16_f32) s.cBlk

end Step

end Cert.KernelIdeal.Pf

end
-- ==== Proof.Prog.lean ====
/- The kernel's body as nested loops: the barrier, each step's computation and sends, each step's sum and sends,
   and the waits. The printed body is this program by definitional unfolding. -/
module

public import proofs.«01_k».proof.Proof.Steps

@[expose] public section

noncomputable section

namespace Cert.KernelIdeal.Pf

open Idealize.ShloMosaic Idealize.ShloMosaic.TcCoe Idealize.SL.Sem Cert.KernelIdeal.Gen

/-- Step 0: rows 0–1023. -/
def st0 : Step where
  p := 0
  nc := 4
  base := 0
  ts := [⟨0, by decide⟩, ⟨1, by decide⟩, ⟨2, by decide⟩, ⟨3, by decide⟩]
  qj j q := concatenate S256x1024 0 [⟨S64x1024, extractStridedSlice S64x1024 ![64 * j.val, 0] q (by revert j; decide)⟩,
    ⟨S64x1024, extractStridedSlice S64x1024 ![256 + 64 * j.val, 0] q (by revert j; decide)⟩,
    ⟨S64x1024, extractStridedSlice S64x1024 ![512 + 64 * j.val, 0] q (by revert j; decide)⟩,
    ⟨S64x1024, extractStridedSlice S64x1024 ![768 + 64 * j.val, 0] q (by revert j; decide)⟩]
    concatenates_S64x1024_S64x1024_S64x1024_S64x1024_S256x1024_d0
  tile t a := extractStridedSlice S64x128 ![64 * t.val, 0] a (by revert t; decide)
  rsOff := k0_off2
  agOff := k0_off6

/-- Step 1: rows 1024–1535. -/
def st1 : Step where
  p := 1
  nc := 2
  base := 1024
  ts := [⟨0, by decide⟩, ⟨1, by decide⟩]
  qj j q := concatenate S128x1024 0 [⟨S64x1024, extractStridedSlice S64x1024 ![64 * j.val, 0] q (by revert j; decide)⟩,
    ⟨S64x1024, extractStridedSlice S64x1024 ![256 + 64 * j.val, 0] q (by revert j; decide)⟩]
    concatenates_S64x1024_S64x1024_S128x1024_d0
  tile t a := extractStridedSlice S64x128 ![64 * t.val, 0] a (by revert t; decide)
  rsOff := k0_off3
  agOff := k0_off8

/-- Step 2: rows 1536–1791. -/
def st2 : Step where
  p := 2
  nc := 1
  base := 1536
  ts := [⟨0, by decide⟩]
  qj j q := extractStridedSlice S64x1024 ![64 * j.val, 0] q (by revert j; decide)
  tile t a := a
  rsOff := k0_off4
  agOff d := k0_off9 d 1536#32

/-- Step 3: rows 1792–2047. -/
def st3 : Step where
  p := 3
  nc := 1
  base := 1792
  ts := [⟨0, by decide⟩]
  qj j q := extractStridedSlice S64x1024 ![64 * j.val, 0] q (by revert j; decide)
  tile t a := a
  rsOff := k0_off7
  agOff d := k0_off9 d 1792#32

/-- The steps in order. -/
abbrev steps : List Step := [st0, st1, st2, st3]

/-! ## The operands -/

abbrev aX : Memref sig .tc .vmem S2048x1024 .bf16 := Memref.whole cc0_stg0_0
abbrev aWq : Memref sig .tc .vmem S1024x1024 .bf16 := Memref.whole cc0_stg1_0
abbrev aK : Memref sig .tc .vmem S4x8x512x128 .bf16 := Memref.whole cc0_stg2_0
abbrev aV : Memref sig .tc .vmem S4x8x512x128 .bf16 := Memref.whole cc0_stg3_0
abbrev aWo : Memref sig .tc .vmem S1024x1024 .bf16 := Memref.whole cc0_stg4_0
abbrev aOut : Memref sig .tc .vmem S2048x1024 .bf16 := Memref.whole cc0_stg5_0
abbrev aCtx : Memref sig .tc .vmem S1024x1024 .bf16 := Memref.whole cc0_scratch0
abbrev aSnd : Memref sig .tc .vmem S2048x1024 .bf16 := Memref.whole cc0_scratch1
abbrev aRs : Memref sig .tc .vmem S4x8x128x1024 .bf16 := Memref.whole cc0_scratch2
abbrev aAcc : Memref sig .tc .vmem S4x128x1024 .bf16 := Memref.whole cc0_scratch3

/-- The semaphore of an array at an offset. -/
abbrev semAt (a : DmaSems sig S32) (off : Fin 1 → ℕ) (h : ∀ i, off i + S1.size i ≤ S32.size i) : DmaSem sig :=
  ((a.slice (Rect.unit (s := S32) off S1.size h)).squeeze S_ squeezes_S1_S_).sem

/-- The barrier semaphore. -/
abbrev barS : Sem sig := (SemArray.scalar (sig.barrier 0 rfl) : Sems sig S_).sem

/-- The device a gather's `k`-th copy goes to, as the kernel computes it. -/
def agDev (d0 : Dev nD) (k : BitVec 32) : ℕ :=
  let v2 : BitVec 32 := Scalar.remsi (Scalar.divsi (Dev.word d0) 1#32) 8#32
  let v2816 : BitVec 32 := Scalar.addi v2 k
  let v2818 : BitVec 32 := Scalar.select (Scalar.cmpi .eq 8#32 0#32) 1#32 8#32
  let v2819 : BitVec 32 := Scalar.remsi v2816 v2818
  let v2821 : BitVec 1 := Scalar.cmpi .slt v2819 0#32
  let v2822 : BitVec 1 := Scalar.cmpi .slt v2818 0#32
  let v2823 : BitVec 1 := Scalar.xori v2821 v2822
  let v2820 : BitVec 1 := Scalar.cmpi .ne v2819 0#32
  let v2824 : BitVec 1 := Scalar.andi v2823 v2820
  let v2825 : BitVec 32 := Scalar.addi v2819 v2818
  let v2826 : BitVec 32 := Scalar.select v2824 v2825 v2819
  (Scalar.addi 0#32 (Scalar.muli v2826 1#32)).toNat

theorem inbKV : ∀ (j : Fin 4) (h : Fin 8), ∀ a, (![j.val, h.val, 0, 0] : Fin 4 → ℕ) a + S1x1x512x128.size a ≤ S4x8x512x128.size a := by decide

theorem agDev_lt : ∀ (d0 : Dev nD) (k : Fin 8), agDev d0 (BitVec.ofNat 32 k.val) < nD := by decide +kernel

namespace Step

/-- The block of the send buffer that goes to device `d`. -/
abbrev sndBlk (s : Step) (d : Fin 8) : Memref sig .tc .vmem (SBlk s.nc) .bf16 :=
  aSnd.slice (Rect.unit (s := S2048x1024) ![s.base + (32 * s.nc) * d.val, 0] (SBlk s.nc).size (s.inbB d)) (fun _ => rfl)
/-- The block of the result that device `d` sums. -/
abbrev outBlk (s : Step) (d : Fin 8) : Memref sig .tc .vmem (SBlk s.nc) .bf16 :=
  aOut.slice (Rect.unit (s := S2048x1024) ![s.base + (32 * s.nc) * d.val, 0] (SBlk s.nc).size (s.inbB d)) (fun _ => rfl)
/-- The same block at this device's own place, as the kernel computes it. -/
abbrev outMine (s : Step) (d0 : Dev nD) : Memref sig .tc .vmem (SBlk s.nc) .bf16 :=
  aOut.slice (Rect.unit (s := S2048x1024) (s.agOff d0) (SBlk s.nc).size (s.inbAg d0)) (fun _ => rfl)
/-- The slot of the receive buffer that device `d` fills. -/
abbrev slot (s : Step) (d : Fin 8) : Memref sig .tc .vmem (SBlk s.nc) .bf16 :=
  (aRs.slice (Rect.unit (s := S4x8x128x1024) ![s.p, d.val, 0, 0] (SBlk4 s.nc).size (s.inbSlot d)) (fun _ => rfl)).squeeze (SBlk s.nc) s.qBlk4
/-- The slot this device fills, as the kernel computes it. -/
abbrev slotMine (s : Step) (d0 : Dev nD) : Memref sig .tc .vmem (SBlk s.nc) .bf16 :=
  (aRs.slice (Rect.unit (s := S4x8x128x1024) (s.rsOff d0) (SBlk4 s.nc).size (s.inbRs d0)) (fun _ => rfl)).squeeze (SBlk s.nc) s.qBlk4
/-- The step's sum. -/
abbrev accBlk (s : Step) : Memref sig .tc .vmem (SBlk s.nc) .bf16 :=
  (aAcc.slice (Rect.unit (s := S4x128x1024) ![s.p, 0, 0] (SBlk3 s.nc).size s.inbAcc) (fun _ => rfl)).squeeze (SBlk s.nc) s.qBlk3

variable {F : FTy → Type} [FloatOps F] [Named F] (s : Step)

theorem wSnd (d : Fin 8) : (s.sndBlk d).view.WordExact := (Memref.isWhole_whole cc0_scratch1).wordExact_slice rfl _ (s.wdB d)
theorem wOut (d : Fin 8) : (s.outBlk d).view.WordExact := (Memref.isWhole_whole cc0_stg5_0).wordExact_slice rfl _ (s.wdB d)
theorem wOutMine (d : Dev nD) : (s.outMine d).view.WordExact := (Memref.isWhole_whole cc0_stg5_0).wordExact_slice rfl _ (s.wdAg d)
theorem wSlot (d : Fin 8) : (s.slot d).view.WordExact := ((Memref.isWhole_whole cc0_scratch2).wordExact_slice rfl _ (s.wdSlot d)).reshape _ _
theorem wSlotMine (d : Dev nD) : (s.slotMine d).view.WordExact := ((Memref.isWhole_whole cc0_scratch2).wordExact_slice rfl _ (s.wdRs d)).reshape _ _
theorem wAcc : s.accBlk.view.WordExact := ((Memref.isWhole_whole cc0_scratch3).wordExact_slice rfl _ s.wdAcc).reshape _ _

/-- One tile: the old tile is read and not used, the new one stored. -/
def tileP (j : Fin 4) (h : Fin 8) (x : Vec F (SRow s.nc) .bf16) (wq : Vec F S1024x1024 .bf16) (k v : Vec F S1x1x512x128 .bf16)
    (t : Fin s.nc) (κ : Prog (TpuEff nD τ sig (Elt F) Λ₀ .tc) PUnit) : Prog (TpuEff nD τ sig (Elt F) Λ₀ .tc) PUnit :=
  .op (.load aCtx (Rect.unit (s := S1024x1024) ![256 * t.val + 64 * j.val, 128 * h.val] S64x128.size (s.inbT j h t)).toLoadRect (View.loadsAt_vmem h_S64x128)) fun _ =>
  .op (.store aCtx (Rect.unit (s := S1024x1024) ![256 * t.val + 64 * j.val, 128 * h.val] S64x128.size (s.inbT j h t)) (s.tl j h t x wq k v) Finset.univ
    (View.stores_vmem h_S64x128 ((Memref.isWhole_whole cc0_scratch0).storeExact_slice rfl _ (s.pkT j h t)) (fun _ => rfl)) (.inl rfl)) fun _ => κ

/-- One head of one group: its keys and values read, its tiles stored. -/
def headP (j : Fin 4) (x : Vec F (SRow s.nc) .bf16) (wq : Vec F S1024x1024 .bf16)
    (h : Fin 8) (κ : Prog (TpuEff nD τ sig (Elt F) Λ₀ .tc) PUnit) : Prog (TpuEff nD τ sig (Elt F) Λ₀ .tc) PUnit :=
  .op (.load aK (Rect.unit (s := S4x8x512x128) ![j.val, h.val, 0, 0] S1x1x512x128.size (inbKV j h)).toLoadRect (View.loadsAt_vmem h_S1x1x512x128)) fun k =>
  .op (.load aV (Rect.unit (s := S4x8x512x128) ![j.val, h.val, 0, 0] S1x1x512x128.size (inbKV j h)).toLoadRect (View.loadsAt_vmem h_S1x1x512x128)) fun v =>
  s.ts.foldr (s.tileP j h x wq k v) κ

/-- The copy of one block of the partial product to device `d`. -/
def rsSendP (d0 : Dev nD) (d : Fin 8) (κ : Prog (TpuEff nD τ sig (Elt F) Λ₀ .tc) PUnit) : Prog (TpuEff nD τ sig (Elt F) Λ₀ .tc) PUnit :=
  .op (.enqueueDma (s.sndBlk d) (.remote (Dev.tc (d : Dev nD)) (s.slotMine d0) (.dma (semAt cc0_scratch4 ![8 * s.p + d.val] (s.inbS d))))
    (.dma (semAt cc0_scratch5 (k0_off1 d0 (BitVec.ofNat 32 (8 * s.p))) (s.inbRv d0))) (s.wSnd d) (s.wSlotMine d0) ⟨⟨rfl, Or.inl rfl⟩, trivial⟩) fun _ => κ

/-- A step's computation: the context, the partial product, and its eight copies. -/
def compP (d0 : Dev nD) (κ : Prog (TpuEff nD τ sig (Elt F) Λ₀ .tc) PUnit) : Prog (TpuEff nD τ sig (Elt F) Λ₀ .tc) PUnit :=
  .op (.load aX (Rect.unit (s := S2048x1024) ![s.base, 0] (SRow s.nc).size s.inbX).toLoadRect (View.loadsAt_vmem s.hRow)) fun x =>
  .op (.load aWq (Rect.unit (s := S1024x1024) ![0, 0] S1024x1024.size inb_S1024x1024_S1024x1024_0_0).toLoadRect (View.loadsAt_vmem h_S1024x1024)) fun wq =>
  fin4.foldr (fun j κ => fin8.foldr (s.headP j x wq) κ) <|
  .op (.load aCtx (Rect.unit (s := S1024x1024) ![0, 0] (SRow s.nc).size s.inbC).toLoadRect (View.loadsAt_vmem s.hRow)) fun ctx =>
  .op (.load aWo (Rect.unit (s := S1024x1024) ![0, 0] S1024x1024.size inb_S1024x1024_S1024x1024_0_0).toLoadRect (View.loadsAt_vmem h_S1024x1024)) fun wo =>
  .op (.load aSnd (Rect.unit (s := S2048x1024) ![s.base, 0] (SRow s.nc).size s.inbX).toLoadRect (View.loadsAt_vmem s.hRow)) fun _ =>
  .op (.store aSnd (Rect.unit (s := S2048x1024) ![s.base, 0] (SRow s.nc).size s.inbX) (s.pp ctx wo) Finset.univ
    (View.stores_vmem s.hRow ((Memref.isWhole_whole cc0_scratch1).storeExact_slice rfl _ s.pkX) (fun _ => rfl)) (.inl rfl)) fun _ =>
  fin8.foldr (s.rsSendP d0) κ

/-- The wait for the block device `d` sends. -/
def rsWaitP (d : Fin 8) (κ : Prog (TpuEff nD τ sig (Elt F) Λ₀ .tc) PUnit) : Prog (TpuEff nD τ sig (Elt F) Λ₀ .tc) PUnit :=
  .op (.waitDma2 (semAt cc0_scratch5 ![8 * s.p + d.val] (s.inbS d)) (s.slot d) (s.slot d) (s.wSlot d) (s.wSlot d)) fun _ => κ

/-- The `k`-th copy of the step's sum: to the device `k` places on. -/
def agSendP (d0 : Dev nD) (k : Fin 8) (κ : Prog (TpuEff nD τ sig (Elt F) Λ₀ .tc) PUnit) : Prog (TpuEff nD τ sig (Elt F) Λ₀ .tc) PUnit :=
  .op (.enqueueDma s.accBlk (.remote (Dev.tc (⟨agDev d0 (BitVec.ofNat 32 k.val), agDev_lt d0 k⟩ : Dev nD)) (s.outMine d0)
      (.dma (semAt cc0_scratch6 (k0_off5 d0 (BitVec.ofNat 32 (8 * s.p)) (BitVec.ofNat 32 k.val)) (s.inbSd d0 k))))
    (.dma (semAt cc0_scratch7 (k0_off1 d0 (BitVec.ofNat 32 (8 * s.p))) (s.inbRv d0))) s.wAcc (s.wOutMine d0) ⟨⟨rfl, Or.inl rfl⟩, trivial⟩) fun _ => κ

/-- A step's sum: the eight blocks awaited and added, and the sum copied to every device. -/
def accP (d0 : Dev nD) (κ : Prog (TpuEff nD τ sig (Elt F) Λ₀ .tc) PUnit) : Prog (TpuEff nD τ sig (Elt F) Λ₀ .tc) PUnit :=
  fin8.foldr s.rsWaitP <|
  .op (.load aRs (Rect.unit (s := S4x8x128x1024) ![s.p, 0, 0, 0] (SAll4 s.nc).size s.inbAll).toLoadRect (View.loadsAt_vmem s.hAll4)) fun b =>
  .op (.load aAcc (Rect.unit (s := S4x128x1024) ![s.p, 0, 0] (SBlk3 s.nc).size s.inbAcc).toLoadRect (View.loadsAt_vmem s.hBlk3)) fun _ =>
  .op (.store aAcc (Rect.unit (s := S4x128x1024) ![s.p, 0, 0] (SBlk3 s.nc).size s.inbAcc) (s.sum8 b) Finset.univ
    (View.stores_vmem s.hBlk3 ((Memref.isWhole_whole cc0_scratch3).storeExact_slice rfl _ s.pkAcc) (fun _ => rfl)) (.inl rfl)) fun _ =>
  fin8.foldr (s.agSendP d0) κ

/-- The wait for the block of the result device `d` sends. -/
def agWaitP (d : Fin 8) (κ : Prog (TpuEff nD τ sig (Elt F) Λ₀ .tc) PUnit) : Prog (TpuEff nD τ sig (Elt F) Λ₀ .tc) PUnit :=
  .op (.waitDma2 (semAt cc0_scratch7 ![8 * s.p + d.val] (s.inbS d)) s.accBlk (s.outBlk d) s.wAcc (s.wOut d)) fun _ => κ

/-- The waits that this device's own copies to device `d` have left. -/
def endWaitP (d0 : Dev nD) (d : Fin 8) (κ : Prog (TpuEff nD τ sig (Elt F) Λ₀ .tc) PUnit) : Prog (TpuEff nD τ sig (Elt F) Λ₀ .tc) PUnit :=
  .op (.waitDma2 (semAt cc0_scratch4 ![8 * s.p + d.val] (s.inbS d)) (s.slotMine d0) (s.sndBlk d) (s.wSlotMine d0) (s.wSnd d)) fun _ =>
  .op (.waitDma2 (semAt cc0_scratch6 ![8 * s.p + d.val] (s.inbS d)) (s.outBlk d) s.accBlk (s.wOut d) s.wAcc) fun _ => κ

end Step

variable {F : FTy → Type} [FloatOps F] [Named F]

/-- The barrier's signal to device `d`. -/
def sigP (d : Fin 8) (κ : Prog (TpuEff nD τ sig (Elt F) Λ₀ .tc) PUnit) : Prog (TpuEff nD τ sig (Elt F) Λ₀ .tc) PUnit :=
  .op (.semSignal (Dev.tc (d : Dev nD)) barS 1) fun _ => κ

/-- The whole body on device `d0`. -/
def mainP (d0 : Dev nD) : Prog (TpuEff nD τ sig (Elt F) Λ₀ .tc) PUnit :=
  fin8.foldr sigP <|
  .op (.semWait barS 8) fun _ =>
  st0.compP d0 <| st1.compP d0 <| st2.compP d0 <| st0.accP d0 <| st3.compP d0 <| st1.accP d0 <| st2.accP d0 <| st3.accP d0 <|
  steps.foldr (fun s κ => fin8.foldr s.agWaitP κ) <|
  steps.foldr (fun s κ => fin8.foldr (s.endWaitP d0) κ) <|
  .ret ⟨⟩

set_option maxRecDepth 1000000 in
set_option maxHeartbeats 0 in
/-- The printed body is the program above. -/
theorem body_eq : bodyAt0 (F := F) t0_0 = .op .deviceId mainP := by
  rfl

end Cert.KernelIdeal.Pf

end
-- ==== Proof.Vals.lean ====
/- What the kernel's buffers hold, as functions of the operands of the eight devices, and how the blocks that are
   stored, sent and received lie in those buffers. -/
module

public import proofs.«01_k».proof.Proof.Prog
public import Idealize.ShloMosaic.Lib.ValueLayout

@[expose] public section

noncomputable section

namespace Cert.KernelIdeal.Pf

open Idealize.ShloMosaic Idealize.ShloMosaic.TcCoe Cert.KernelIdeal.Gen Idealize.ShloMosaic.ValueIdx

/-- The steps by number. -/
def stp : Fin 4 → Step
  | 0 => st0
  | 1 => st1
  | 2 => st2
  | 3 => st3

theorem nc0 : (stp 0).nc = 4 := rfl
theorem nc1 : (stp 1).nc = 2 := rfl
theorem nc2 : (stp 2).nc = 1 := rfl
theorem nc3 : (stp 3).nc = 1 := rfl
theorem base0 : (stp 0).base = 0 := rfl
theorem base1 : (stp 1).base = 1024 := rfl
theorem base2 : (stp 2).base = 1536 := rfl
theorem base3 : (stp 3).base = 1792 := rfl
theorem stp_p : ∀ p, (stp p).p = p.val := by decide
theorem nc_pos : ∀ p, 0 < (stp p).nc := by decide

/-- One device's copies of the operands: the rows, its query weights, its keys and values in groups, its output weights. -/
structure Ins (F : FTy → Type) where
  x : S2048x1024.Idx → Elt F .bf16
  wq : S1024x1024.Idx → Elt F .bf16
  k : S4x8x512x128.Idx → Elt F .bf16
  v : S4x8x512x128.Idx → Elt F .bf16
  wo : S1024x1024.Idx → Elt F .bf16

variable {F : FTy → Type} [FloatOps F] [Named F]

/-- A value for the elements nothing reads. -/
def dflt : Elt F .bf16 := Scalar.ofBits (F := F) .bf16 0#16

/-- The parts of the operands a step reads. -/
def xR (i : Ins F) (s : Step) : Vec F (SRow s.nc) .bf16 :=
  (aX.access (Rect.unit (s := S2048x1024) ![s.base, 0] (SRow s.nc).size s.inbX)).read (Elt F) i.x
def wqR (i : Ins F) : Vec F S1024x1024 .bf16 :=
  (aWq.access (Rect.unit (s := S1024x1024) ![0, 0] S1024x1024.size inb_S1024x1024_S1024x1024_0_0)).read (Elt F) i.wq
def woR (i : Ins F) : Vec F S1024x1024 .bf16 :=
  (aWo.access (Rect.unit (s := S1024x1024) ![0, 0] S1024x1024.size inb_S1024x1024_S1024x1024_0_0)).read (Elt F) i.wo
def kR (i : Ins F) (j : Fin 4) (h : Fin 8) : Vec F S1x1x512x128 .bf16 :=
  (aK.access (Rect.unit (s := S4x8x512x128) ![j.val, h.val, 0, 0] S1x1x512x128.size (inbKV j h))).read (Elt F) i.k
def vR (i : Ins F) (j : Fin 4) (h : Fin 8) : Vec F S1x1x512x128 .bf16 :=
  (aV.access (Rect.unit (s := S4x8x512x128) ![j.val, h.val, 0, 0] S1x1x512x128.size (inbKV j h))).read (Elt F) i.v

/-- The tile a step stores for chunk `t` of head `h` of group `j`. -/
def tlV (i : Ins F) (s : Step) (j : Fin 4) (h : Fin 8) (t : Fin s.nc) : FVec F S64x128 .bf16 :=
  s.tl j h t (xR i s) (wqR i) (kR i j h) (vR i j h)

/-- The context buffer once a step has stored all its tiles. -/
def ctxV (i : Ins F) (s : Step) : S1024x1024.Idx → Elt F .bf16 := fun a =>
  if h : (a 0).val / 256 < s.nc then
    tlV i s ⟨(a 0).val % 256 / 64, by omega⟩ ⟨(a 1).val / 128, by have := idx2_lt1 a; omega⟩ ⟨(a 0).val / 256, h⟩
      (ix2 (⟨(a 0).val % 64, by omega⟩ : Fin 64) (⟨(a 1).val % 128, by omega⟩ : Fin 128))
  else dflt

/-- A step's partial product on one device. -/
def ppV (i : Ins F) (s : Step) : FVec F (SRow s.nc) .bf16 :=
  s.pp ((aCtx.access (Rect.unit (s := S1024x1024) ![0, 0] (SRow s.nc).size s.inbC)).read (Elt F) (ctxV i s)) (woR i)

/-- Block `d` of a step's rows. -/
def blkV (s : Step) (w : FVec F (SRow s.nc) .bf16) (d : Fin 8) : FVec F (SBlk s.nc) .bf16 := fun a =>
  w (ix2 (⟨32 * s.nc * d.val + (a 0).val, by
    have h := idx2_lt0 a
    have := d.isLt
    have := Nat.mul_le_mul_left (32 * s.nc) (show d.val + 1 ≤ 8 by omega)
    rw [Nat.mul_add, Nat.mul_one] at this
    omega⟩ : Fin (256 * s.nc)) (a 1))

/-- The receive buffer of device `c`: in slot `(p, d)` block `c` of step `p`'s partial product on device `d`. -/
def rsV (I : Dev nD → Ins F) (c : Dev nD) : S4x8x128x1024.Idx → Elt F .bf16 := fun a =>
  if h : (a 2).val < 32 * (stp (a 0)).nc then
    blkV (stp (a 0)) (ppV (I (a 1)) (stp (a 0))) c (ix2 (⟨(a 2).val, h⟩ : Fin (32 * (stp (a 0)).nc)) (a 3))
  else dflt

/-- The sum of step `p` on device `c`. -/
def sumV (I : Dev nD → Ins F) (p : Fin 4) (c : Dev nD) : FVec F (SBlk3 (stp p).nc) .bf16 :=
  (stp p).sum8 ((aRs.access (Rect.unit (s := S4x8x128x1024) ![(stp p).p, 0, 0, 0] (SAll4 (stp p).nc).size (stp p).inbAll)).read (Elt F) (rsV I c))

/-- The same as a block of rows. -/
def accB (I : Dev nD → Ins F) (p : Fin 4) (c : Dev nD) : FVec F (SBlk (stp p).nc) .bf16 := fun a =>
  sumV I p c (ix3 (0 : Fin 1) (a 0) (a 1))

/-- The accumulator of device `c`. -/
def accV (I : Dev nD → Ins F) (c : Dev nD) : S4x128x1024.Idx → Elt F .bf16 := fun a =>
  if h : (a 1).val < 32 * (stp (a 0)).nc then
    accB I (a 0) c (ix2 (⟨(a 1).val, h⟩ : Fin (32 * (stp (a 0)).nc)) (a 2))
  else dflt

/-- The step a row of the result belongs to. -/
def pOf (n : ℕ) : Fin 4 := if n < 1024 then 0 else if n < 1536 then 1 else if n < 1792 then 2 else 3

/-- Element `(n, b)` of a step's rows of the result: row `n`'s block, as the device that sums it has it. -/
def outP (I : Dev nD → Ins F) (p : Fin 4) (n : ℕ) (b : Fin 1024) : Elt F .bf16 :=
  if h : n / (32 * (stp p).nc) < 8 then
    accB I p ⟨n / (32 * (stp p).nc), h⟩
      (ix2 (⟨n % (32 * (stp p).nc), Nat.mod_lt _ (Nat.mul_pos (by decide) (nc_pos p))⟩ : Fin (32 * (stp p).nc)) b)
  else dflt

/-- The result on every device. -/
def outV (I : Dev nD → Ins F) : S2048x1024.Idx → Elt F .bf16 := fun a =>
  outP I (pOf (a 0).val) ((a 0).val - (stp (pOf (a 0).val)).base) (a 1)

/-! ## What the blocks read -/

theorem slot_emb (p : Fin 4) (d : Fin 8) (a : (SBlk (stp p).nc).Idx) :
    ((stp p).slot d).view.emb a = ix4 p d (⟨(a 0).val, by have := idx2_lt0 a; have := (stp p).hnc; omega⟩ : Fin 128) (a 1) := by
  have e : Shape.reshapeEquiv ((stp p).qBlk4).numel_eq a = ix4 (⟨0, Nat.one_pos⟩ : Fin 1) (⟨0, Nat.one_pos⟩ : Fin 1) (a 0) (a 1) := by
    exact (congrArg _ (eq_ix2 a)).trans (reshapeEquiv_ix2_11ab _ _ _)
  show (Rect.unit (s := S4x8x128x1024) ![(stp p).p, d.val, 0, 0] (SBlk4 (stp p).nc).size ((stp p).inbSlot d)).emb (Shape.reshapeEquiv _ a) = _
  rw [e]
  funext b
  apply Fin.ext
  match b with
  | ⟨0, _⟩ => show (stp p).p + 1 * 0 = p.val; have hp := stp_p p; omega
  | ⟨1, _⟩ => show d.val + 1 * 0 = d.val; omega
  | ⟨2, _⟩ => show 0 + 1 * (a 0).val = (a 0).val; omega
  | ⟨3, _⟩ => show 0 + 1 * (a 1).val = (a 1).val; omega

/-- A slot of the receive buffer reads the block its device sent. -/
theorem read_slot (I : Dev nD → Ins F) (c : Dev nD) (p : Fin 4) (d : Fin 8) :
    ((stp p).slot d).view.read (Elt F) (rsV I c) = blkV (stp p) (ppV (I d) (stp p)) c := by
  funext a
  rw [View.read_apply, cast_eq, slot_emb]
  have h := idx2_lt0 a
  show rsV I c (ix4 p d _ _) = _
  unfold rsV
  rw [dif_pos (show (a 0).val < 32 * (stp p).nc from h)]
  exact congrArg _ (eq_ix2 a).symm

theorem accBlk_emb (p : Fin 4) (a : (SBlk (stp p).nc).Idx) :
    (stp p).accBlk.view.emb a = ix3 p (⟨(a 0).val, by have := idx2_lt0 a; have := (stp p).hnc; omega⟩ : Fin 128) (a 1) := by
  have e : Shape.reshapeEquiv ((stp p).qBlk3).numel_eq a = ix3 (⟨0, Nat.one_pos⟩ : Fin 1) (a 0) (a 1) := by
    exact (congrArg _ (eq_ix2 a)).trans (reshapeEquiv_ix2_1ab _ _ _)
  show (Rect.unit (s := S4x128x1024) ![(stp p).p, 0, 0] (SBlk3 (stp p).nc).size (stp p).inbAcc).emb (Shape.reshapeEquiv _ a) = _
  rw [e]
  funext b
  apply Fin.ext
  match b with
  | ⟨0, _⟩ => show (stp p).p + 1 * 0 = p.val; have hp := stp_p p; omega
  | ⟨1, _⟩ => show 0 + 1 * (a 0).val = (a 0).val; omega
  | ⟨2, _⟩ => show 0 + 1 * (a 1).val = (a 1).val; omega

/-- The accumulator's block reads the step's sum. -/
theorem read_accBlk (I : Dev nD → Ins F) (c : Dev nD) (p : Fin 4) :
    (stp p).accBlk.view.read (Elt F) (accV I c) = accB I p c := by
  funext a
  rw [View.read_apply, cast_eq, accBlk_emb]
  have h := idx2_lt0 a
  show accV I c (ix3 p _ _) = _
  unfold accV
  rw [dif_pos (show (a 0).val < 32 * (stp p).nc from h)]
  exact congrArg _ (eq_ix2 a).symm

theorem outBlk_emb (p : Fin 4) (d : Fin 8) (a : (SBlk (stp p).nc).Idx) (b : Fin 2) :
    (((stp p).outBlk d).view.emb a b).val = (![(stp p).base + 32 * (stp p).nc * d.val + (a 0).val, (a 1).val] : Fin 2 → ℕ) b := by
  show ((Rect.unit (s := S2048x1024) ![(stp p).base + (32 * (stp p).nc) * d.val, 0] (SBlk (stp p).nc).size ((stp p).inbB d)).emb a b).val = _
  rw [Rect.emb_apply]
  match b with
  | ⟨0, _⟩ => show (stp p).base + (32 * (stp p).nc) * d.val + 1 * (a 0).val = (stp p).base + 32 * (stp p).nc * d.val + (a 0).val; omega
  | ⟨1, _⟩ => show 0 + 1 * (a 1).val = (a 1).val; omega

theorem pOf_row : ∀ (p : Fin 4) (n : ℕ), n < 256 * (stp p).nc → pOf ((stp p).base + n) = p
  | 0, n, h => by rw [nc0] at h; rw [base0]; unfold pOf; rw [if_pos (by omega)]
  | 1, n, h => by rw [nc1] at h; rw [base1]; unfold pOf; rw [if_neg (by omega), if_pos (by omega)]
  | 2, n, h => by rw [nc2] at h; rw [base2]; unfold pOf; rw [if_neg (by omega), if_neg (by omega), if_pos (by omega)]
  | 3, n, h => by rw [nc3] at h; rw [base3]; unfold pOf; rw [if_neg (by omega), if_neg (by omega), if_neg (by omega)]

theorem blk_row (s : Step) (d : Fin 8) (n : ℕ) (h : n < 32 * s.nc) : 32 * s.nc * d.val + n < 256 * s.nc := by
  have := Nat.mul_le_mul_left (32 * s.nc) (show d.val + 1 ≤ 8 by omega)
  rw [Nat.mul_add, Nat.mul_one] at this
  omega

/-- The result at row `n` of block `d` of step `p`. -/
theorem outV_at (I : Dev nD → Ins F) (p : Fin 4) (d : Fin 8) (n : ℕ) (hn : n < 32 * (stp p).nc) (a : S2048x1024.Idx)
    (ha : (a 0).val = (stp p).base + (32 * (stp p).nc * d.val + n)) :
    outV I a = accB I p d (ix2 (⟨n, hn⟩ : Fin (32 * (stp p).nc)) (a 1)) := by
  have hp : pOf (a 0).val = p := by rw [ha]; exact pOf_row p _ (blk_row _ d n hn)
  unfold outV
  rw [hp]
  unfold outP
  have e : (a 0).val - (stp p).base = 32 * (stp p).nc * d.val + n := by omega
  have hd : (32 * (stp p).nc * d.val + n) / (32 * (stp p).nc) = d.val := by
    rw [Nat.mul_add_div (by omega), Nat.div_eq_of_lt hn, Nat.add_zero]
  have hm : (32 * (stp p).nc * d.val + n) % (32 * (stp p).nc) = n := by
    rw [Nat.mul_add_mod, Nat.mod_eq_of_lt hn]
  simp only [e, hd, hm]
  rw [dif_pos d.isLt]

/-- A block of the result reads the sum of the device that owns it. -/
theorem read_outBlk (I : Dev nD → Ins F) (p : Fin 4) (d : Fin 8) :
    ((stp p).outBlk d).view.read (Elt F) (outV I) = accB I p d := by
  funext a
  rw [View.read_apply, cast_eq]
  have h := idx2_lt0 a
  rw [outV_at I p d (a 0).val h _ (by
    have := outBlk_emb p d a 0
    rw [this]
    show (stp p).base + 32 * (stp p).nc * d.val + (a 0).val = _
    omega)]
  congr 1
  funext b
  match b with
  | ⟨0, _⟩ => rfl
  | ⟨1, _⟩ => exact Fin.ext (outBlk_emb p d a 1)

/-- A block of the send buffer reads its rows of what the step stored. -/
theorem read_sndBlk (s : Step) (d : Fin 8) (f : S2048x1024.Idx → Elt F .bf16) (w : FVec F (SRow s.nc) .bf16) :
    (s.sndBlk d).view.read (Elt F)
      ((aSnd.access (Rect.unit (s := S2048x1024) ![s.base, 0] (SRow s.nc).size s.inbX)).write (Elt F) f w Finset.univ) = blkV s w d := by
  funext a
  rw [View.read_apply, cast_eq]
  have h := idx2_lt0 a
  have e : (s.sndBlk d).view.emb a = (aSnd.access (Rect.unit (s := S2048x1024) ![s.base, 0] (SRow s.nc).size s.inbX)).emb
      (ix2 (⟨32 * s.nc * d.val + (a 0).val, blk_row s d _ h⟩ : Fin (256 * s.nc)) (a 1)) := by
    show (Rect.unit (s := S2048x1024) ![s.base + (32 * s.nc) * d.val, 0] (SBlk s.nc).size (s.inbB d)).emb a
      = (Rect.unit (s := S2048x1024) ![s.base, 0] (SRow s.nc).size s.inbX).emb _
    funext b
    apply Fin.ext
    rw [Rect.emb_apply, Rect.emb_apply]
    match b with
    | ⟨0, _⟩ => show s.base + (32 * s.nc) * d.val + 1 * (a 0).val = s.base + 1 * (32 * s.nc * d.val + (a 0).val); omega
    | ⟨1, _⟩ => rfl
  rw [e, View.write_emb_of_mem _ _ (Finset.mem_univ _), cast_eq]
  rfl

/-- What a step's sum stores is what the accumulator holds there. -/
theorem write_acc (I : Dev nD → Ins F) (c : Dev nD) (p : Fin 4) (f : S4x128x1024.Idx → Elt F .bf16) :
    ∀ i ∈ (aAcc.access (Rect.unit (s := S4x128x1024) ![(stp p).p, 0, 0] (SBlk3 (stp p).nc).size (stp p).inbAcc)).set,
      (aAcc.access (Rect.unit (s := S4x128x1024) ![(stp p).p, 0, 0] (SBlk3 (stp p).nc).size (stp p).inbAcc)).write (Elt F) f (sumV I p c) Finset.univ i
        = accV I c i := by
  intro i hi
  obtain ⟨a, -, rfl⟩ := Finset.mem_map.mp hi
  rw [View.write_emb_of_mem _ _ (Finset.mem_univ _), cast_eq]
  have h : (a 1).val < 32 * (stp p).nc := (a 1).isLt
  have h2 : (a 2).val < 1024 := (a 2).isLt
  have h0 : (a 0).val < 1 := (a 0).isLt
  have e : (aAcc.access (Rect.unit (s := S4x128x1024) ![(stp p).p, 0, 0] (SBlk3 (stp p).nc).size (stp p).inbAcc)).emb a
      = ix3 p (⟨(a 1).val, by have := (stp p).hnc; omega⟩ : Fin 128) (⟨(a 2).val, h2⟩ : Fin 1024) := by
    show (Rect.unit (s := S4x128x1024) ![(stp p).p, 0, 0] (SBlk3 (stp p).nc).size (stp p).inbAcc).emb a = _
    funext b
    apply Fin.ext
    have hp := stp_p p
    match b with
    | ⟨0, _⟩ => show (stp p).p + 1 * (a 0).val = p.val; omega
    | ⟨1, _⟩ => show 0 + 1 * (a 1).val = (a 1).val; omega
    | ⟨2, _⟩ => show 0 + 1 * (a 2).val = (a 2).val; omega
  rw [e]
  show _ = accV I c (ix3 p _ _)
  unfold accV
  rw [dif_pos (show (a 1).val < 32 * (stp p).nc from h)]
  show sumV I p c a = sumV I p c _
  congr 1
  funext b
  match b with
  | ⟨0, _⟩ => exact Fin.ext (show (a 0).val = 0 by omega)
  | ⟨1, _⟩ => rfl
  | ⟨2, _⟩ => rfl

/-- A tile's elements in the context buffer read the tile. -/
theorem ctxV_tile (i : Ins F) (s : Step) (j : Fin 4) (h : Fin 8) (t : Fin s.nc) (a : S64x128.Idx) :
    ctxV i s ((aCtx.access (Rect.unit (s := S1024x1024) ![256 * t.val + 64 * j.val, 128 * h.val] S64x128.size (s.inbT j h t))).emb a)
      = tlV i s j h t a := by
  have a0 := idx2_lt0 a
  have a1 := idx2_lt1 a
  have e0 : (((aCtx.access (Rect.unit (s := S1024x1024) ![256 * t.val + 64 * j.val, 128 * h.val] S64x128.size (s.inbT j h t))).emb a) 0).val
      = 256 * t.val + 64 * j.val + (a 0).val := by
    show 256 * t.val + 64 * j.val + 1 * (a 0).val = _; omega
  have e1 : (((aCtx.access (Rect.unit (s := S1024x1024) ![256 * t.val + 64 * j.val, 128 * h.val] S64x128.size (s.inbT j h t))).emb a) 1).val
      = 128 * h.val + (a 1).val := by
    show 128 * h.val + 1 * (a 1).val = _; omega
  unfold ctxV
  simp only [e0, e1]
  have ht : (256 * t.val + 64 * j.val + (a 0).val) / 256 = t.val := by omega
  have hj : (256 * t.val + 64 * j.val + (a 0).val) % 256 / 64 = j.val := by omega
  have hr : (256 * t.val + 64 * j.val + (a 0).val) % 64 = (a 0).val := by omega
  have hh : (128 * h.val + (a 1).val) / 128 = h.val := by omega
  have hc : (128 * h.val + (a 1).val) % 128 = (a 1).val := by omega
  simp only [ht, hj, hr, hh, hc]
  rw [dif_pos t.isLt]
  exact congrArg _ (eq_ix2 a).symm

end Cert.KernelIdeal.Pf

end
-- ==== Proof.Geo.lean ====
/- Where the blocks lie: membership in each by coordinates, that they are disjoint, and what they make up. -/
module

public import proofs.«01_k».proof.Proof.Vals

@[expose] public section

noncomputable section

namespace Cert.KernelIdeal.Pf

open Idealize.ShloMosaic Idealize.ShloMosaic.TcCoe Cert.KernelIdeal.Gen Idealize.ShloMosaic.ValueIdx

/-- The rows of a step in a buffer of all rows, and a step's part of the receive buffer and of the accumulator. -/
abbrev rowV (s : Step) : View sig .tc .vmem (SRow s.nc) .bf16 :=
  aSnd.access (Rect.unit (s := S2048x1024) ![s.base, 0] (SRow s.nc).size s.inbX)
abbrev allV (s : Step) : View sig .tc .vmem (SAll4 s.nc) .bf16 :=
  aRs.access (Rect.unit (s := S4x8x128x1024) ![s.p, 0, 0, 0] (SAll4 s.nc).size s.inbAll)
abbrev acc3V (s : Step) : View sig .tc .vmem (SBlk3 s.nc) .bf16 :=
  aAcc.access (Rect.unit (s := S4x128x1024) ![s.p, 0, 0] (SBlk3 s.nc).size s.inbAcc)

/-- The sets of elements of the blocks. -/
abbrev sndS (s : Step) (d : Fin 8) : Finset S2048x1024.Idx := (s.sndBlk d).view.set
abbrev rowS (s : Step) : Finset S2048x1024.Idx := (rowV s).set
abbrev outS (s : Step) (d : Fin 8) : Finset S2048x1024.Idx := (s.outBlk d).view.set
abbrev slotS (s : Step) (d : Fin 8) : Finset S4x8x128x1024.Idx := (s.slot d).view.set
abbrev allS (s : Step) : Finset S4x8x128x1024.Idx := (allV s).set
abbrev accS (s : Step) : Finset S4x128x1024.Idx := s.accBlk.view.set
abbrev acc3S (s : Step) : Finset S4x128x1024.Idx := (acc3V s).set

theorem mem_snd (s : Step) (d : Fin 8) (i : S2048x1024.Idx) :
    i ∈ sndS s d ↔ s.base + 32 * s.nc * d.val ≤ (i 0).val ∧ (i 0).val < s.base + 32 * s.nc * d.val + 32 * s.nc := by
  have h1 := idx2_lt1 i
  have e : sndS s d = (Rect.unit (s := S2048x1024) ![s.base + (32 * s.nc) * d.val, 0] (SBlk s.nc).size (s.inbB d)).set :=
    View.set_slice_whole _ _
  rw [e, Rect.mem_set_unit]
  refine Fin.forall_fin_two.trans ?_
  show (_ ∧ (0 ≤ (i 1).val ∧ (i 1).val < 0 + 1024)) ↔ _
  have : 0 ≤ (i 1).val ∧ (i 1).val < 0 + 1024 := ⟨by omega, by omega⟩
  exact and_iff_left this

theorem mem_out (s : Step) (d : Fin 8) (i : S2048x1024.Idx) :
    i ∈ outS s d ↔ s.base + 32 * s.nc * d.val ≤ (i 0).val ∧ (i 0).val < s.base + 32 * s.nc * d.val + 32 * s.nc := by
  have h1 := idx2_lt1 i
  have e : outS s d = (Rect.unit (s := S2048x1024) ![s.base + (32 * s.nc) * d.val, 0] (SBlk s.nc).size (s.inbB d)).set :=
    View.set_slice_whole _ _
  rw [e, Rect.mem_set_unit]
  refine Fin.forall_fin_two.trans ?_
  show (_ ∧ (0 ≤ (i 1).val ∧ (i 1).val < 0 + 1024)) ↔ _
  have : 0 ≤ (i 1).val ∧ (i 1).val < 0 + 1024 := ⟨by omega, by omega⟩
  exact and_iff_left this

theorem mem_row (s : Step) (i : S2048x1024.Idx) :
    i ∈ rowS s ↔ s.base ≤ (i 0).val ∧ (i 0).val < s.base + 256 * s.nc := by
  have h1 := idx2_lt1 i
  have e : rowS s = (Rect.unit (s := S2048x1024) ![s.base, 0] (SRow s.nc).size s.inbX).set := View.set_slice_whole _ _
  rw [e, Rect.mem_set_unit]
  refine Fin.forall_fin_two.trans ?_
  show (_ ∧ (0 ≤ (i 1).val ∧ (i 1).val < 0 + 1024)) ↔ _
  have : 0 ≤ (i 1).val ∧ (i 1).val < 0 + 1024 := ⟨by omega, by omega⟩
  exact and_iff_left this

theorem mem_slot (s : Step) (d : Fin 8) (i : S4x8x128x1024.Idx) :
    i ∈ slotS s d ↔ (i 0).val = s.p ∧ (i 1).val = d.val ∧ (i 2).val < 32 * s.nc := by
  have h3 : (i 3).val < 1024 := (i 3).isLt
  have e : slotS s d = (Rect.unit (s := S4x8x128x1024) ![s.p, d.val, 0, 0] (SBlk4 s.nc).size (s.inbSlot d)).set :=
    (View.set_reshape _ _).trans (View.set_slice_whole _ _)
  rw [e, Rect.mem_set_unit]
  show (∀ a : Fin 4, _) ↔ _
  simp only [Fin.forall_fin_succ, Fin.forall_fin_zero]
  show ((s.p ≤ (i 0).val ∧ (i 0).val < s.p + 1) ∧ (d.val ≤ (i 1).val ∧ (i 1).val < d.val + 1) ∧
    (0 ≤ (i 2).val ∧ (i 2).val < 0 + 32 * s.nc) ∧ (0 ≤ (i 3).val ∧ (i 3).val < 0 + 1024) ∧ True) ↔ _
  rw [and_true]
  omega

theorem mem_all (s : Step) (i : S4x8x128x1024.Idx) : i ∈ allS s ↔ (i 0).val = s.p ∧ (i 2).val < 32 * s.nc := by
  have h3 : (i 3).val < 1024 := (i 3).isLt
  have h1 : (i 1).val < 8 := (i 1).isLt
  have e : allS s = (Rect.unit (s := S4x8x128x1024) ![s.p, 0, 0, 0] (SAll4 s.nc).size s.inbAll).set := View.set_slice_whole _ _
  rw [e, Rect.mem_set_unit]
  show (∀ a : Fin 4, _) ↔ _
  simp only [Fin.forall_fin_succ, Fin.forall_fin_zero]
  show ((s.p ≤ (i 0).val ∧ (i 0).val < s.p + 1) ∧ (0 ≤ (i 1).val ∧ (i 1).val < 0 + 8) ∧
    (0 ≤ (i 2).val ∧ (i 2).val < 0 + 32 * s.nc) ∧ (0 ≤ (i 3).val ∧ (i 3).val < 0 + 1024) ∧ True) ↔ _
  rw [and_true]
  omega

theorem accS_eq (s : Step) : accS s = acc3S s := View.set_reshape _ _

theorem mem_acc (s : Step) (i : S4x128x1024.Idx) : i ∈ acc3S s ↔ (i 0).val = s.p ∧ (i 1).val < 32 * s.nc := by
  have h2 : (i 2).val < 1024 := (i 2).isLt
  have e : acc3S s = (Rect.unit (s := S4x128x1024) ![s.p, 0, 0] (SBlk3 s.nc).size s.inbAcc).set := View.set_slice_whole _ _
  rw [e, Rect.mem_set_unit]
  show (∀ a : Fin 3, _) ↔ _
  simp only [Fin.forall_fin_succ, Fin.forall_fin_zero]
  show ((s.p ≤ (i 0).val ∧ (i 0).val < s.p + 1) ∧
    (0 ≤ (i 1).val ∧ (i 1).val < 0 + 32 * s.nc) ∧ (0 ≤ (i 2).val ∧ (i 2).val < 0 + 1024) ∧ True) ↔ _
  rw [and_true]
  omega

/-! ## Disjoint -/

/-- Two blocks of one step that share a row are the same block. -/
theorem blk_unique {m b n : ℕ} {d d' : ℕ} (h : b + m * d ≤ n) (h' : n < b + m * d + m)
    (k : b + m * d' ≤ n) (k' : n < b + m * d' + m) : d = d' := by
  have e : (n - b) / m = d := Nat.div_eq_of_lt_le (by rw [Nat.mul_comm]; omega) (by rw [Nat.mul_comm, Nat.mul_add]; omega)
  have e' : (n - b) / m = d' := Nat.div_eq_of_lt_le (by rw [Nat.mul_comm]; omega) (by rw [Nat.mul_comm, Nat.mul_add]; omega)
  omega

theorem snd_disjoint (s : Step) (d d' : Fin 8) (h : d ≠ d') : Disjoint (sndS s d) (sndS s d') :=
  Finset.disjoint_left.mpr fun i hi hi' => h (Fin.ext (blk_unique ((mem_snd s d i).mp hi).1 ((mem_snd s d i).mp hi).2
    ((mem_snd s d' i).mp hi').1 ((mem_snd s d' i).mp hi').2))

theorem row_pOf (p : Fin 4) (i : S2048x1024.Idx) (h : i ∈ rowS (stp p)) : pOf (i 0).val = p := by
  obtain ⟨h1, h2⟩ := (mem_row _ i).mp h
  have := pOf_row p ((i 0).val - (stp p).base) (by omega)
  rwa [Nat.add_sub_cancel' h1] at this

theorem row_disjoint (p p' : Fin 4) (h : p ≠ p') : Disjoint (rowS (stp p)) (rowS (stp p')) :=
  Finset.disjoint_left.mpr fun i hi hi' => h ((row_pOf p i hi).symm.trans (row_pOf p' i hi'))

theorem snd_sub_row (s : Step) (d : Fin 8) : sndS s d ⊆ rowS s := fun i hi => by
  obtain ⟨h1, h2⟩ := (mem_snd s d i).mp hi
  have := blk_row s d ((i 0).val - (s.base + 32 * s.nc * d.val)) (by omega)
  exact (mem_row s i).mpr ⟨by omega, by omega⟩

theorem out_eq_snd (s : Step) (d : Fin 8) : outS s d = sndS s d :=
  Finset.ext fun i => (mem_out s d i).trans (mem_snd s d i).symm

theorem out_disjoint (x x' : Fin 4 × Fin 8) (h : x ≠ x') : Disjoint (outS (stp x.1) x.2) (outS (stp x'.1) x'.2) := by
  rw [out_eq_snd, out_eq_snd]
  by_cases hp : x.1 = x'.1
  · rw [hp]
    exact snd_disjoint _ _ _ fun hd => h (Prod.ext hp hd)
  · exact (row_disjoint _ _ hp).mono (snd_sub_row _ _) (snd_sub_row _ _)

theorem slot_disjoint (s : Step) (d d' : Fin 8) (h : d ≠ d') : Disjoint (slotS s d) (slotS s d') :=
  Finset.disjoint_left.mpr fun i hi hi' => h (Fin.ext (((mem_slot s d i).mp hi).2.1.symm.trans ((mem_slot s d' i).mp hi').2.1))

theorem all_disjoint (p p' : Fin 4) (h : p ≠ p') : Disjoint (allS (stp p)) (allS (stp p')) :=
  Finset.disjoint_left.mpr fun i hi hi' => h (Fin.ext (by
    rw [← stp_p p, ← stp_p p']; exact (((mem_all _ i).mp hi).1.symm.trans ((mem_all _ i).mp hi').1)))

theorem acc_disjoint (p p' : Fin 4) (h : p ≠ p') : Disjoint (acc3S (stp p)) (acc3S (stp p')) :=
  Finset.disjoint_left.mpr fun i hi hi' => h (Fin.ext (by
    rw [← stp_p p, ← stp_p p']; exact (((mem_acc _ i).mp hi).1.symm.trans ((mem_acc _ i).mp hi').1)))

/-! ## What they make up -/

theorem row_eq (s : Step) : rowS s = Finset.univ.biUnion (sndS s) := by
  ext i
  rw [mem_row, Finset.mem_biUnion]
  constructor
  · rintro ⟨h1, h2⟩
    have hm : 0 < 32 * s.nc := by omega
    have hd : ((i 0).val - s.base) / (32 * s.nc) < 8 := Nat.div_lt_of_lt_mul (by omega)
    refine ⟨⟨_, hd⟩, Finset.mem_univ _, (mem_snd s _ i).mpr ?_⟩
    have e := Nat.div_add_mod ((i 0).val - s.base) (32 * s.nc)
    have l := Nat.mod_lt ((i 0).val - s.base) hm
    dsimp only
    omega
  · rintro ⟨d, -, hd⟩
    exact (mem_row s i).mp (snd_sub_row s d hd)

theorem rows_univ : (Finset.univ : Finset S2048x1024.Idx) = Finset.univ.biUnion fun p : Fin 4 => rowS (stp p) := by
  ext i
  have h0 := idx2_lt0 i
  simp only [Finset.mem_univ, Finset.mem_biUnion, true_and, true_iff]
  rcases Nat.lt_or_ge (i 0).val 1024 with h | h
  · exact ⟨0, (mem_row _ i).mpr ⟨by rw [base0]; omega, by rw [base0, nc0]; omega⟩⟩
  rcases Nat.lt_or_ge (i 0).val 1536 with h' | h'
  · exact ⟨1, (mem_row _ i).mpr ⟨by rw [base1]; omega, by rw [base1, nc1]; omega⟩⟩
  rcases Nat.lt_or_ge (i 0).val 1792 with h'' | h''
  · exact ⟨2, (mem_row _ i).mpr ⟨by rw [base2]; omega, by rw [base2, nc2]; omega⟩⟩
  · exact ⟨3, (mem_row _ i).mpr ⟨by rw [base3]; omega, by rw [base3, nc3]; omega⟩⟩

theorem outs_univ : (Finset.univ : Finset S2048x1024.Idx) = Finset.univ.biUnion fun x : Fin 4 × Fin 8 => outS (stp x.1) x.2 := by
  ext i
  simp only [Finset.mem_univ, true_iff]
  have h : i ∈ Finset.univ.biUnion fun p : Fin 4 => rowS (stp p) := rows_univ ▸ Finset.mem_univ i
  obtain ⟨p, -, hp⟩ := Finset.mem_biUnion.mp h
  rw [row_eq] at hp
  obtain ⟨d, -, hd⟩ := Finset.mem_biUnion.mp hp
  exact Finset.mem_biUnion.mpr ⟨(p, d), Finset.mem_univ _, by rw [out_eq_snd]; exact hd⟩

theorem all_eq (s : Step) : allS s = Finset.univ.biUnion (slotS s) := by
  ext i
  rw [mem_all, Finset.mem_biUnion]
  constructor
  · rintro ⟨h1, h2⟩
    exact ⟨i 1, Finset.mem_univ _, (mem_slot s _ i).mpr ⟨h1, rfl, h2⟩⟩
  · rintro ⟨d, -, hd⟩
    have := (mem_slot s d i).mp hd
    exact ⟨this.1, this.2.2⟩

/-- An element of a step's rows of the context buffer lies in one of its tiles. -/
theorem ctx_cover (s : Step) (a : (SRow s.nc).Idx) : ∃ (j : Fin 4) (h : Fin 8) (t : Fin s.nc),
    (aCtx.access (Rect.unit (s := S1024x1024) ![0, 0] (SRow s.nc).size s.inbC)).emb a
      ∈ (aCtx.access (Rect.unit (s := S1024x1024) ![256 * t.val + 64 * j.val, 128 * h.val] S64x128.size (s.inbT j h t))).set := by
  have a0 := idx2_lt0 a
  have a1 := idx2_lt1 a
  refine ⟨⟨(a 0).val % 256 / 64, by omega⟩, ⟨(a 1).val / 128, by omega⟩, ⟨(a 0).val / 256, by omega⟩, ?_⟩
  refine Eq.mpr (congrArg (_ ∈ ·) (View.set_slice_whole cc0_scratch0 _)) (Rect.mem_set_unit.mpr ?_)
  show ∀ b : Fin 2, _
  refine Fin.forall_fin_two.mpr ⟨?_, ?_⟩
  · show 256 * ((a 0).val / 256) + 64 * ((a 0).val % 256 / 64) ≤ 0 + 1 * (a 0).val
      ∧ 0 + 1 * (a 0).val < 256 * ((a 0).val / 256) + 64 * ((a 0).val % 256 / 64) + 64
    omega
  · show 128 * ((a 1).val / 128) ≤ 0 + 1 * (a 1).val ∧ 0 + 1 * (a 1).val < 128 * ((a 1).val / 128) + 128
    omega

/-! ## The places the kernel computes -/

theorem slotMine_eq (s : Step) (d : Dev nD) : s.slotMine d = s.slot d := by
  have h : ∀ (o o' : Fin 4 → ℕ) (e : o = o') (k k'),
      (aRs.slice (Rect.unit (s := S4x8x128x1024) o (SBlk4 s.nc).size k) (fun _ => rfl)).squeeze (SBlk s.nc) s.qBlk4
        = (aRs.slice (Rect.unit (s := S4x8x128x1024) o' (SBlk4 s.nc).size k') (fun _ => rfl)).squeeze (SBlk s.nc) s.qBlk4 := by
    intro o o' e k k'; subst e; rfl
  exact h _ _ (s.rsOff_eq d) _ _

theorem outMine_eq (s : Step) (d : Dev nD) : s.outMine d = s.outBlk d := by
  have h : ∀ (o o' : Fin 2 → ℕ) (e : o = o') (k k'),
      aOut.slice (Rect.unit (s := S2048x1024) o (SBlk s.nc).size k) (fun _ => rfl)
        = aOut.slice (Rect.unit (s := S2048x1024) o' (SBlk s.nc).size k') (fun _ => rfl) := by
    intro o o' e k k'; subst e; rfl
  have e : s.agOff d = ![s.base + (32 * s.nc) * d.val, 0] := by rw [s.agOff_eq d, Nat.mul_comm]
  exact h _ _ e _ _

end Cert.KernelIdeal.Pf

end
-- ==== Proof.Sched.lean ====
/- The protocol between the devices: what each semaphore cell is paid, by whom, and with what. Every cell is used for
   one round. A device's barrier cell is paid one unit by each device, with the places in that device's buffers which
   its owner is going to fill; a receive cell by the copy of one device, with the block it brings; a send cell by the
   device's own copy, with the block it has read. -/
module

public import proofs.«01_k».proof.Proof.Geo
public import proofs.«01_k».proof.Proof.Gen.KernelIdeal.Regions
public import Idealize.ShloMosaic.Lib.Rounds
public import Idealize.ShloMosaic.Lib.Rounds.Family
public import Idealize.ShloMosaic.Lib.ShareLeaves
public import Idealize.ShloMosaic.Lib.Pipeline.RegionTalk

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Semaphores -/

/-- The semaphore of kind `k` (0 send and 1 receive of the scatter, 2 send and 3 receive of the gather), step `p`, device `d`. -/
def dsem (k p : Fin 4) (d : Fin 8) : DmaSem sig := ⟨6 + 32 * k.val + 8 * p.val + d.val, by
  show _ < 134; omega⟩

/-- Which of them a semaphore is. -/
def decode (s : DmaSem sig) : Option (Fin 4 × Fin 4 × Fin 8) :=
  if h : 6 ≤ s.val then some (⟨(s.val - 6) / 32, by have : s.val < 134 := s.isLt; omega⟩, ⟨(s.val - 6) % 32 / 8, by omega⟩, ⟨(s.val - 6) % 8, by omega⟩)
  else none

theorem decode_dsem (k p : Fin 4) (d : Fin 8) : decode (dsem k p d) = some (k, p, d) := by
  unfold decode
  have e : (dsem k p d).val = 6 + 32 * k.val + 8 * p.val + d.val := rfl
  rw [dif_pos (by omega)]
  congr 1
  refine Prod.ext (Fin.ext ?_) (Prod.ext (Fin.ext ?_) (Fin.ext ?_)) <;> dsimp only <;> omega

/-- The semaphores the program names. -/
theorem sem0 : ∀ (p : Fin 4) (d : Fin 8), semAt cc0_scratch4 ![8 * (stp p).p + d.val] ((stp p).inbS d) = dsem 0 p d := by decide +kernel
theorem sem1 : ∀ (p : Fin 4) (d : Fin 8), semAt cc0_scratch5 ![8 * (stp p).p + d.val] ((stp p).inbS d) = dsem 1 p d := by decide +kernel
theorem sem2 : ∀ (p : Fin 4) (d : Fin 8), semAt cc0_scratch6 ![8 * (stp p).p + d.val] ((stp p).inbS d) = dsem 2 p d := by decide +kernel
theorem sem3 : ∀ (p : Fin 4) (d : Fin 8), semAt cc0_scratch7 ![8 * (stp p).p + d.val] ((stp p).inbS d) = dsem 3 p d := by decide +kernel
theorem sem1m : ∀ (p : Fin 4) (d : Dev nD), semAt cc0_scratch5 (k0_off1 d (BitVec.ofNat 32 (8 * (stp p).p))) ((stp p).inbRv d) = dsem 1 p d := by decide +kernel
theorem sem3m : ∀ (p : Fin 4) (d : Dev nD), semAt cc0_scratch7 (k0_off1 d (BitVec.ofNat 32 (8 * (stp p).p))) ((stp p).inbRv d) = dsem 3 p d := by decide +kernel

/-- The device `k` places on. -/
def rot (c : Dev nD) (k : Fin 8) : Fin 8 := ⟨(c.val + k.val) % 8, Nat.mod_lt _ (by decide)⟩
theorem agDev_eq : ∀ (c : Dev nD) (k : Fin 8), agDev c (BitVec.ofNat 32 k.val) = (rot c k).val := by decide +kernel
theorem sem2m : ∀ (p : Fin 4) (c : Dev nD) (k : Fin 8),
    semAt cc0_scratch6 (k0_off5 c (BitVec.ofNat 32 (8 * (stp p).p)) (BitVec.ofNat 32 k.val)) ((stp p).inbSd c k) = dsem 2 p (rot c k) := by decide +kernel

/-- What one copy of a step's block counts on a semaphore. -/
def Nn (p : Fin 4) : ℕ := ((stp p).slot 0).view.dmaCredit
theorem Nn_pos (p : Fin 4) : 0 < Nn p := View.dmaCredit_pos _ (by revert p; decide)
theorem credit_slot (p : Fin 4) (d : Fin 8) : ((stp p).slot d).view.dmaCredit = Nn p := rfl
theorem credit_snd (p : Fin 4) (d : Fin 8) : ((stp p).sndBlk d).view.dmaCredit = Nn p := rfl
theorem credit_out (p : Fin 4) (d : Fin 8) : ((stp p).outBlk d).view.dmaCredit = Nn p := rfl
theorem credit_acc (p : Fin 4) : (stp p).accBlk.view.dmaCredit = Nn p := rfl
theorem credit_slotMine (p : Fin 4) (d : Dev nD) : ((stp p).slotMine d).view.dmaCredit = Nn p := rfl
theorem credit_outMine (p : Fin 4) (d : Dev nD) : ((stp p).outMine d).view.dmaCredit = Nn p := rfl

/-! ## Cells and what they are paid -/

abbrev barCell (c : Dev nD) : GSem nD τ sig := ((c : Thread nD τ), .reg barS)
abbrev cell (k p : Fin 4) (d : Fin 8) (c : Dev nD) : GSem nD τ sig := ((c : Thread nD τ), .dma (dsem k p d))

/-- The protocol's ghost state, beside the pipeline's. -/
abbrev UR2 : Type := URounds (GSem nD τ sig) Unit
abbrev UT : Type := URounds (GSem nD τ sig) (Fin 8)
abbrev UU : Type := UR2 × UT

variable {F : FTy → Type} [FloatOps F] [Named F]

local notation "𝕄" => MT nD τ sig Unit (Elt F) ℕ UU ℕ

abbrev EP : Emb UR2 (MT nD τ sig Unit (Elt F) ℕ UU ℕ) := embL
abbrev ER : Emb UT (MT nD τ sig Unit (Elt F) ℕ UU ℕ) := embR

variable (I : Dev nD → Ins F)

/-- The share of the accumulator that the copy to device `d` holds. -/
abbrev accQ (d : Fin 8) : PosShare TreeShare := ShareLeaves.leaf 3 fullShare d

/-- A memref's elements on a device, at contents not named. -/
def some' (c : Dev nD) {S : Shape} (m : Memref sig .tc .vmem S .bf16) : sProp 𝕄 := iprop(∃ X, owns (c : Thread nD τ) m fullShare X)

instance some'_storable (c : Dev nD) {S : Shape} (m : Memref sig .tc .vmem S .bf16) : BI.Storable (upEmb : UEmb _ 𝕄) (some' c m) := by
  unfold some'; infer_instance

/-- What device `d` gives device `c` with its barrier signal, for one step: its slot and its block of the result that
    `c` fills, and that the two cells `c`'s copies pay are open. -/
def barPay1 (c d : Dev nD) (p : Fin 4) : sProp 𝕄 :=
  iprop(some' d ((stp p).slot c) ∗ some' d ((stp p).outBlk c) ∗ reached ER (cell 1 p c d) 0 ∗ reached ER (cell 3 p c d) 0)
def barPay (c d : Dev nD) : sProp 𝕄 := iprop(barPay1 c d 0 ∗ barPay1 c d 1 ∗ barPay1 c d 2 ∗ barPay1 c d 3)

/-- What a copy's cell is paid. -/
def pay (c : Dev nD) (k p : Fin 4) (d : Fin 8) : sProp 𝕄 :=
  match k with
  | 0 => owns (c : Thread nD τ) ((stp p).sndBlk d) fullShare (blkV (stp p) (ppV (I c) (stp p)) d)
  | 1 => owns (c : Thread nD τ) ((stp p).slot d) fullShare (blkV (stp p) (ppV (I d) (stp p)) c)
  | 2 => owns (c : Thread nD τ) (stp p).accBlk (accQ d) (accB I p c)
  | 3 => owns (c : Thread nD τ) ((stp p).outBlk d) fullShare (accB I p d)

def payOf (c : Dev nD) (x : Option (Fin 4 × Fin 4 × Fin 8)) : sProp 𝕄 :=
  match x with
  | none => iprop(emp)
  | some (k, p, d) => pay I c k p d

def amtOf (x : Option (Fin 4 × Fin 4 × Fin 8)) : ℕ :=
  match x with
  | none => 1
  | some (_, p, _) => Nn p

/-- The schedule. -/
def rd : Rounds.Schedule (GSem nD τ sig) (Fin 8) 𝕄 where
  duties g r := if r = 0 ∧ g.1.2 = .tc then
      (match g.2 with
        | .reg s => if s = barS then Finset.univ else ∅
        | .dma s => if (decode s).isSome then {0} else ∅)
    else ∅
  unitless _ := False
  amount g _ _ := match g.2 with
    | .reg _ => 1
    | .dma s => amtOf (decode s)
  payload g r d := match g.2 with
    | .reg _ => barPay g.1.1 d
    | .dma s => payOf I g.1.1 (decode s)
  amount_pos g _ _ _ := by
    rcases g with ⟨t, s | s⟩
    · exact Nat.one_pos
    · show 0 < amtOf (decode s)
      cases decode s with
      | none => exact Nat.one_pos
      | some x => exact Nn_pos _

instance rd_storable (g : GSem nD τ sig) (r : ℕ) (d : Fin 8) : BI.Storable (upEmb : UEmb _ 𝕄) ((rd I).payload g r d) := by
  rcases g with ⟨t, s | s⟩
  · show BI.Storable upEmb (barPay t.1 d)
    unfold barPay barPay1
    infer_instance
  · show BI.Storable upEmb (payOf I t.1 (decode s))
    cases decode s with
    | none => show BI.Storable upEmb (iprop(emp) : sProp 𝕄); infer_instance
    | some x =>
      obtain ⟨k, p, e⟩ := x
      show BI.Storable upEmb (pay I t.1 k p e)
      unfold pay
      split <;> infer_instance

section Sched

variable (c : Dev nD) (k p : Fin 4) (d : Fin 8)

theorem duties_bar : (rd I).duties (barCell c) 0 = Finset.univ := rfl
theorem duties_cell : (rd I).duties (cell k p d c) 0 = {0} := by
  show (if (decode (dsem k p d)).isSome then ({0} : Finset (Fin 8)) else ∅) = {0}
  rw [decode_dsem]; rfl
theorem duties_later (g : GSem nD τ sig) : ∀ r, 1 ≤ r → (rd I).duties g r = ∅ :=
  fun r hr => if_neg fun h => by omega
theorem amount_bar (u : Fin 8) : (rd I).amount (barCell c) 0 u = 1 := rfl
theorem amount_cell (u : Fin 8) : (rd I).amount (cell k p d c) 0 u = Nn p := by
  show amtOf (decode (dsem k p d)) = _
  rw [decode_dsem]; rfl
theorem expect_bar : (rd I).expect (barCell c) 0 = 8 := by
  unfold Schedule.expect Schedule.amountOf; rw [duties_bar]; rfl
theorem expect_cell : (rd I).expect (cell k p d c) 0 = Nn p := by
  unfold Schedule.expect Schedule.amountOf; rw [duties_cell, Finset.sum_singleton, amount_cell]
theorem payload_bar (u : Fin 8) : (rd I).payload (barCell c) 0 u = barPay c u := rfl
theorem payload_cell (u : Fin 8) : (rd I).payload (cell k p d c) 0 u = pay I c k p d := by
  show payOf I c (decode (dsem k p d)) = _
  rw [decode_dsem]; rfl
theorem rest_bar : bigSep ((rd I).duties (barCell c) 0 \ ∅) (fun u => (rd I).payload (barCell c) 0 u) = bigSep Finset.univ (barPay c) := by
  rw [Finset.sdiff_empty, duties_bar]; rfl
theorem rest_cell : bigSep ((rd I).duties (cell k p d c) 0 \ ∅) (fun u => (rd I).payload (cell k p d c) 0 u) = pay I c k p d := by
  rw [Finset.sdiff_empty, duties_cell, bigSep_singleton, payload_cell]

end Sched

/-! ## Levels, and what is owed -/

def L (g : GSem nD τ sig) : Finset Unit := if g.1.2 = .tc then {()} else ∅
/-- The barrier below the scatter's receive cells, the last step's above the others, the gather's above those. -/
def lv (g : GSem nD τ sig) (_ : Unit) : ℕ :=
  match g.2 with
  | .reg _ => 1
  | .dma s => match decode s with
    | some (1, p, _) => if p = 3 then 3 else 2
    | some (3, _, _) => 4
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_cell1 (c : Dev nD) (p : Fin 4) (d : Fin 8) : lv (cell 1 p d c) () = if p = 3 then 3 else 2 := by
  show (match decode (dsem 1 p d) with
    | some (1, p, _) => if p = 3 then 3 else 2
    | some (3, _, _) => 4
    | _ => 0) = _
  rw [decode_dsem]
  rfl
theorem lv_cell3 (c : Dev nD) (p : Fin 4) (d : Fin 8) : lv (cell 3 p d c) () = 4 := by
  show (match decode (dsem 3 p d) with
    | some (1, p, _) => if p = 3 then 3 else 2
    | some (3, _, _) => 4
    | _ => 0) = _
  rw [decode_dsem]
  rfl

/-- Owing one payment of `n` to each of the listed cells, and `O` besides. -/
def owe (g : Fin 8 → GSem nD τ sig) (n : ℕ) (O : CellTallies nD τ sig Unit) : List (Fin 8) → CellTallies nD τ sig Unit
  | [] => O
  | d :: l => owe g n O l + tallyAt (g d) () n

/-- All that is owed is at or above level `b`. -/
def Above (b : ℕ) (O : CellTallies nD τ sig Unit) : Prop := ∀ g u, 0 < O g u → u ∈ L g ∧ b < lv g u

theorem above_zero (b : ℕ) : Above b 0 := fun g u h => absurd h (by simp)
theorem above_owe (b : ℕ) (g : Fin 8 → GSem nD τ sig) (n : ℕ) (O : CellTallies nD τ sig Unit) (hO : Above b O)
    (hg : ∀ d, () ∈ L (g d) ∧ b < lv (g d) ()) : ∀ l, Above b (owe g n O l)
  | [] => hO
  | d :: l => fun h u hh => by
    show u ∈ L h ∧ b < lv h u
    have hh : 0 < (owe g n O l + tallyAt (g d) () n) h u := hh
    rw [Pi.add_apply, Finsupp.add_apply] at hh
    rcases Nat.add_pos_iff_pos_or_pos.mp hh with h1 | h1
    · exact above_owe b g n O hO hg l h u h1
    · rw [tallyAt_apply] at h1
      split at h1
      · next e => rw [e.1]; exact hg d
      · exact absurd h1 (Nat.lt_irrefl 0)

/-- A device may wait on a cell at or below the level above which all it owes lies. -/
theorem mayWait_above (c : Dev nD) (sm : SemLoc sig) (b : ℕ) (O : CellTallies nD τ sig Unit) (hO : Above b O)
    (hs : lv ((c : Thread nD τ), sm) () ≤ b) : (levAts L lv : sProp 𝕄) ⊢ MayWait (c : Thread nD τ) sm () O :=
  MayOwe.of_cut (L := L) (lev := lv) b (fun q hq => by rw [Finset.mem_singleton.mp hq, L_tc]; exact Finset.mem_singleton_self _)
    (fun g u hg => (hO g u hg).1)
    (fun q hq => by rw [Finset.mem_singleton.mp hq]; exact hs)
    (fun g u hg => (hO g u hg).2)

/-- What is owed for a step's scatter, and for its gather. -/
def oweR (c : Dev nD) (p : Fin 4) (O : CellTallies nD τ sig Unit) : CellTallies nD τ sig Unit := owe (fun d => cell 1 p c d) (Nn p) O fin8
def oweG (c : Dev nD) (p : Fin 4) (O : CellTallies nD τ sig Unit) : CellTallies nD τ sig Unit := owe (fun k => cell 3 p c (rot c k)) (Nn p) O fin8

/-- What a device owes at launch: in the order it pays. -/
def O1 (c : Dev nD) : CellTallies nD τ sig Unit :=
  oweR c 0 (oweR c 1 (oweR c 2 (oweG c 0 (oweR c 3 (oweG c 1 (oweG c 2 (oweG c 3 0)))))))
def O₀ (c : Dev nD) : CellTallies nD τ sig Unit := owe barCell 1 (O1 c) fin8

theorem above_oweR (b : ℕ) (c : Dev nD) (p : Fin 4) (O : CellTallies nD τ sig Unit) (hO : Above b O) (h : b < if p = 3 then 3 else 2) : Above b (oweR c p O) := by
  unfold oweR
  exact above_owe b _ _ O hO (fun d => ⟨by rw [L_tc]; exact Finset.mem_singleton_self _, by rw [lv_cell1]; exact h⟩) _
theorem above_oweG (b : ℕ) (c : Dev nD) (p : Fin 4) (O : CellTallies nD τ sig Unit) (hO : Above b O) (h : b < 4) : Above b (oweG c p O) := by
  unfold oweG
  exact above_owe b _ _ O hO (fun d => ⟨by rw [L_tc]; exact Finset.mem_singleton_self _, by rw [lv_cell3]; exact h⟩) _

theorem above_O1 (c : Dev nD) : Above 1 (O1 c) := by
  unfold O1
  refine above_oweR _ _ _ _ ?_ (by decide)
  refine above_oweR _ _ _ _ ?_ (by decide)
  refine above_oweR _ _ _ _ ?_ (by decide)
  refine above_oweG _ _ _ _ ?_ (by decide)
  refine above_oweR _ _ _ _ ?_ (by decide)
  refine above_oweG _ _ _ _ ?_ (by decide)
  refine above_oweG _ _ _ _ ?_ (by decide)
  refine above_oweG _ _ _ _ ?_ (by decide)
  exact above_zero _
theorem above_O₀ (c : Dev nD) : Above 0 (O₀ c) := by
  unfold O₀
  exact above_owe 0 _ _ _ (fun g u h => ⟨(above_O1 c g u h).1, Nat.lt_of_le_of_lt (by decide) (above_O1 c g u h).2⟩)
    (fun d => ⟨by rw [L_tc]; exact Finset.mem_singleton_self _, by rw [lv_bar]; decide⟩) _

end Cert.KernelIdeal.Pf

end
-- ==== Proof.Wp.lean ====
/- One wait, one send and one signal of the protocol, each at any place in the program; and resources listed by device. -/
module

public import proofs.«01_k».proof.Proof.Sched

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- What is to be shown of a program on device `c`. -/
abbrev run (c : Dev nD) (P : Prog (TpuEff nD τ sig (Elt F) Λ₀ .tc) PUnit) (Kt : PUnit → sProp 𝕄) : sProp 𝕄 :=
  wp frame (wpE (defs₀ (F := F)) 𝒱₀ (c : Thread nD τ) none) Set.univ P Kt

/-! ## Resources in a list -/

/-- The resources of a list's members, one after the other. -/
def sL {α : Type} (Φ : α → sProp 𝕄) : List α → sProp 𝕄
  | [] => iprop(emp)
  | a :: l => iprop(Φ a ∗ sL Φ l)

theorem bigSep_toFinset {α : Type} [DecidableEq α] (Φ : α → sProp 𝕄) : ∀ l : List α, l.Nodup → bigSep l.toFinset Φ = sL Φ l
  | [], _ => by rw [List.toFinset_nil, bigSep_empty]; rfl
  | a :: l, h => by
    rw [List.toFinset_cons]
    show _ = iprop(Φ a ∗ sL Φ l)
    rw [← bigSep_toFinset Φ l (List.nodup_cons.mp h).2]
    exact bigSep_insert fun ha => (List.nodup_cons.mp h).1 (List.mem_toFinset.mp ha)

theorem bigSep_fin8 (Φ : Fin 8 → sProp 𝕄) : bigSep Finset.univ Φ = sL Φ fin8 := by
  rw [← bigSep_toFinset Φ fin8 (by decide)]
  rfl

/-- Two lists of resources side by side are one of pairs. -/
theorem sL_sep {α : Type} (Φ Ψ : α → sProp 𝕄) : ∀ l, iprop(sL Φ l ∗ sL Ψ l) ⊢ sL (fun a => iprop(Φ a ∗ Ψ a)) l
  | [] => by show iprop(emp ∗ emp) ⊢ iprop(emp); iintro ⟨-, -⟩; iempintro
  | a :: l => by
    show iprop((Φ a ∗ sL Φ l) ∗ (Ψ a ∗ sL Ψ l)) ⊢ iprop((Φ a ∗ Ψ a) ∗ sL (fun a => iprop(Φ a ∗ Ψ a)) l)
    iintro ⟨⟨H1, H2⟩, H3, H4⟩
    isplitl [H1 H3]; · isplitl [H1] <;> iassumption
    iapply (sL_sep Φ Ψ l); isplitl [H2] <;> iassumption
theorem sL_unsep {α : Type} (Φ Ψ : α → sProp 𝕄) : ∀ l, sL (fun a => iprop(Φ a ∗ Ψ a)) l ⊢ iprop(sL Φ l ∗ sL Ψ l)
  | [] => by show iprop(emp) ⊢ iprop(emp ∗ emp); iintro -; isplitl <;> iempintro
  | a :: l => by
    show iprop((Φ a ∗ Ψ a) ∗ sL (fun a => iprop(Φ a ∗ Ψ a)) l) ⊢ iprop((Φ a ∗ sL Φ l) ∗ (Ψ a ∗ sL Ψ l))
    iintro ⟨⟨H1, H3⟩, H⟩
    ihave H' := (sL_unsep Φ Ψ l) $$ H
    icases H' with ⟨H2, H4⟩
    isplitl [H1 H2]
    · isplitl [H1] <;> iassumption
    · isplitl [H3] <;> iassumption
theorem sL_mono {α : Type} (Φ Ψ : α → sProp 𝕄) (h : ∀ a, Φ a ⊢ Ψ a) : ∀ l, sL Φ l ⊢ sL Ψ l
  | [] => BI.Entails.refl _
  | a :: l => BI.sep_mono (h a) (sL_mono Φ Ψ h l)

/-! ## The cells' invariants -/

variable (I : Dev nD → Ins F)

/-- Every cell's invariant, at the names the launch gave them. -/
def invs (K : GSem nD τ sig → ℕ) : sProp 𝕄 :=
  iprop((bigSep Finset.univ fun c : Dev nD => cellInv ER (rd I) (K (barCell c)) (barCell c))
    ∗ bigSep Finset.univ fun x : (Fin 4 × Fin 4 × Fin 8) × Dev nD => cellInv ER (rd I) (K (cell x.1.1 x.1.2.1 x.1.2.2 x.2)) (cell x.1.1 x.1.2.1 x.1.2.2 x.2))

theorem show_elim {α : Type} [DecidableEq α] {S : Finset α} {Φ : α → sProp 𝕄} {a : α} (h : a ∈ S) : iprop(bigSep S Φ) ⊢ Φ a := bigSep_elim h

instance invs_persistent (K : GSem nD τ sig → ℕ) : BI.Persistent (invs I K) := by unfold invs; infer_instance

theorem invs_bar (K : GSem nD τ sig → ℕ) (c : Dev nD) : invs I K ⊢ cellInv ER (rd I) (K (barCell c)) (barCell c) := by
  unfold invs
  iintro ⟨H, -⟩
  iapply (show_elim (Φ := fun c : Dev nD => cellInv ER (rd I) (K (barCell c)) (barCell c)) (Finset.mem_univ c)) $$ H
theorem invs_cell (K : GSem nD τ sig → ℕ) (k p : Fin 4) (d : Fin 8) (c : Dev nD) :
    invs I K ⊢ cellInv ER (rd I) (K (cell k p d c)) (cell k p d c) := by
  unfold invs
  iintro ⟨-, H⟩
  iapply (show_elim (Φ := fun x : (Fin 4 × Fin 4 × Fin 8) × Dev nD => cellInv ER (rd I) (K (cell x.1.1 x.1.2.1 x.1.2.2 x.2)) (cell x.1.1 x.1.2.1 x.1.2.2 x.2))
    (Finset.mem_univ ((k, p, d), c))) $$ H

/-! ## One wait, one send, one signal -/

theorem lv_le (c : Dev nD) (sm : SemLoc sig) : lv ((c : Thread nD τ), sm) () ≤ 4 := by
  unfold lv
  split
  · decide
  · split
    · split <;> decide
    · decide
    · decide

variable (K : GSem nD τ sig → ℕ) (c : Dev nD)

/-- A wait on a copy's cell hands over what the copy paid. -/
theorem wait_cell (k p : Fin 4) (d : Fin 8) {w : TpuEff nD τ sig (Elt F) Λ₀ .tc PUnit} {κ : PUnit → Prog (TpuEff nD τ sig (Elt F) Λ₀ .tc) PUnit}
    {sm : DmaSem sig} {n : ℕ} (hs : sm = dsem k p d) (hn : n = Nn p)
    (hw : ∀ K' : PUnit → sProp 𝕄, wpE (defs₀ (F := F)) 𝒱₀ (c : Thread nD τ) none Set.univ w K' = waitSpec (c : Thread nD τ) Set.univ (.dma sm) n K')
    (b : ℕ) (O : CellTallies nD τ sig Unit) (hO : Above b O) (hb : lv (cell k p d c) () ≤ b) (W : Waits sig Unit) (Kt : PUnit → sProp 𝕄) :
    iprop(invs I K ∗ levAts L lv ∗ cred (tallyAt (cell k p d c) () (Nn p)) ∗ atPos ER (cell k p d c) 0 ∅ 0 ∗ owes (c : Thread nD τ) O W
      ∗ ((∃ W', owes (c : Thread nD τ) O W') ∗ atPos ER (cell k p d c) 1 ∅ 0 ∗ pay I c k p d -∗ run c (κ ⟨⟩) Kt)) ⊢ run c (.op w κ) Kt := by
  subst hs hn
  iintro ⟨#Hi, #Hl, Hc, Hat, HO, Hk⟩
  iapply (Rounds.wp_wait_rest_token 𝒱₀ ER (rd I) (c : Thread nD τ) none (κ := K (cell k p d c)) hw (Set.mem_univ _) () (O := O) (W := W) (R := 0) (m := 0) (T := ∅)
    ((Nat.zero_add _).trans (expect_cell I c k p d).symm)) $$ [Hc Hat HO]
  · isplitr; · iapply (invs_cell I K k p d c); iexact Hi
    isplitl [Hc]; · iexact Hc
    isplitl [HO]; · iexact HO
    isplitr; · iapply (mayWait_above c (.dma (dsem k p d)) b O hO hb); iexact Hl
    iexact Hat
  iintro ⟨HO, Hat, -, Hp⟩
  ihave Hp := (Entails.of_eq (rest_cell I c k p d)) $$ Hp
  iapply Hk
  isplitl [HO]; · iexists _; iexact HO
  isplitl [Hat] <;> iassumption

/-- A copy to device `c'`: it pays its own send cell with what it has read, and the receiving cell with what it has brought. -/
theorem send_cell {S : Shape} {src dst : Memref sig .tc .vmem S .bf16} {hsc : dst.view.ref.isScScratch = false} {sS sm : DmaSem sig}
    {h1 : src.view.WordExact} {h2 : dst.view.WordExact} (c' : Dev nD)
    {h3 : DmaTarget.Typed .vmem (.dma sm) (.remote (Dev.tc c' : Thread nD τ) dst (.dma sS) hsc)} {κ : PUnit → Prog (TpuEff nD τ sig (Elt F) Λ₀ .tc) PUnit}
    (k p : Fin 4) (d : Fin 8) (k' : Fin 4) (e : Fin 8) (hS : sS = dsem k p d) (hM : sm = dsem k' p e) (hN : dst.view.dmaCredit = Nn p)
    (q : PosShare TreeShare) (X : S.Idx → Elt F .bf16)
    (hp1 : owns (c : Thread nD τ) src q X ⊢ pay I c k p d) (hp2 : owns (c' : Thread nD τ) dst fullShare X ⊢ pay I c' k' p e)
    (O : CellTallies nD τ sig Unit) (W : Waits sig Unit) (Kt : PUnit → sProp 𝕄) :
    iprop(invs I K ∗ owns (c : Thread nD τ) src q X ∗ some' c' dst ∗ owes (c : Thread nD τ) (O + tallyAt (cell k' p e c') () (Nn p)) W
      ∗ dutyTok ER (cell k p d c) 0 0 ∗ reached ER (cell k p d c) 0 ∗ dutyTok ER (cell k' p e c') 0 0 ∗ reached ER (cell k' p e c') 0
      ∗ (cred (tallyAt (cell k p d c) () (Nn p)) ∗ owes (c : Thread nD τ) O W -∗ run c (κ ⟨⟩) Kt))
      ⊢ run c (.op (.enqueueDma src (.remote (Dev.tc c' : Thread nD τ) dst (.dma sS) hsc) (.dma sm) h1 h2 h3) κ) Kt := by
  subst hS hM
  unfold some'
  iintro ⟨#Hi, Hs, ⟨%Y, Hd⟩, HO, Ht1, Hr1, Ht2, Hr2, Hk⟩
  ihave Hs := (Entails.of_eq (show owns (c : Thread nD τ) src q X = iprop(∃ f, ⌜src.view.read (Elt F) f = X⌝ ∗ (src.view.loc (c : Thread nD τ) ↦[src.view.set]{q} f)) from rfl)) $$ Hs
  ihave Hd := (Entails.of_eq (show owns (c' : Thread nD τ) dst fullShare Y = iprop(∃ f, ⌜dst.view.read (Elt F) f = Y⌝ ∗ (dst.view.loc (c' : Thread nD τ) ↦[dst.view.set]{fullShare} f)) from rfl)) $$ Hd
  icases Hs with ⟨%fs, %hfs, Hs⟩
  icases Hd with ⟨%fd, -, Hd⟩
  iapply (Rounds.wp_send_pointsTo 𝒱₀ ER (rd I) (c : Thread nD τ) none (c' := (c' : Thread nD τ)) (src := src) (dst := dst)
      (sS := .dma (dsem k p d)) (sem := .dma (dsem k' p e)) (q := q) (fs := fs) (κ₁ := K (cell k p d c)) (κ₂ := K (cell k' p e c'))
      (r₁ := 0) (r₂ := 0) (d₁ := 0) (d₂ := 0) (fd := fd)
      (by rw [duties_cell]; exact Finset.mem_singleton_self _) (by rw [duties_cell]; exact Finset.mem_singleton_self _)
      () () (Nn p) hN (amount_cell I c k p d 0) (amount_cell I c' k' p e 0) O rfl (W := W)
      (by rw [payload_cell]; exact (hfs ▸ owns_intro (c : Thread nD τ) src q fs).trans hp1)
      (by
        rw [payload_cell]
        refine BI.Entails.trans ?_ hp2
        refine BI.Entails.trans (owns_intro (c' : Thread nD τ) dst fullShare _) ?_
        rw [View.read_write_univ, hfs]
        exact BI.Entails.refl _)) $$ [Hs Hd HO Ht1 Hr1 Ht2 Hr2]
  · isplitr; · iapply (invs_cell I K k p d c); iexact Hi
    isplitr; · iapply (invs_cell I K k' p e c'); iexact Hi
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc] <;> iassumption

/-- The barrier signals to the listed devices. -/
theorem sig_run (O : CellTallies nD τ sig Unit) (W : Waits sig Unit) (κ : Prog (TpuEff nD τ sig (Elt F) Λ₀ .tc) PUnit) (Kt : PUnit → sProp 𝕄) :
    ∀ l : List (Fin 8), iprop(invs I K ∗ sL (fun d : Fin 8 => iprop(reached ER (barCell d) 0 ∗ dutyTok ER (barCell d) 0 c ∗ barPay d c)) l
      ∗ owes (c : Thread nD τ) (owe barCell 1 O l) W ∗ (owes (c : Thread nD τ) O W -∗ run c κ Kt)) ⊢ run c (l.foldr sigP κ) Kt
  | [] => by
    show iprop(invs I K ∗ emp ∗ owes (c : Thread nD τ) O W ∗ (owes (c : Thread nD τ) O W -∗ run c κ Kt)) ⊢ run c κ Kt
    iintro ⟨-, -, HO, Hk⟩
    iapply Hk; iexact HO
  | d :: l => by
    show iprop(invs I K ∗ ((reached ER (barCell d) 0 ∗ dutyTok ER (barCell d) 0 c ∗ barPay d c) ∗ sL (fun d : Fin 8 => iprop(reached ER (barCell d) 0 ∗ dutyTok ER (barCell d) 0 c ∗ barPay d c)) l)
      ∗ owes (c : Thread nD τ) (owe barCell 1 O l + tallyAt (barCell d) () 1) W ∗ (owes (c : Thread nD τ) O W -∗ run c κ Kt))
      ⊢ run c (.op (.semSignal (Dev.tc (d : Dev nD)) barS 1) fun _ => l.foldr sigP κ) Kt
    iintro ⟨#Hi, ⟨⟨Hr, Ht, Hp⟩, Hl⟩, HO, Hk⟩
    iapply (Rounds.wp_signal 𝒱₀ ER (rd I) (c : Thread nD τ) none (dst := ((d : Dev nD) : Thread nD τ)) (sem := barS) (r := 0) (d := c) (κ := K (barCell d))
      (by rw [duties_bar]; exact Finset.mem_univ _) (amount_bar I d c) () (owe barCell 1 O l) rfl) $$ [HO Ht Hp Hr]
    · isplitr; · iapply (invs_bar I K d); iexact Hi
      isplitl [HO]; · iexact HO
      isplitl [Ht]; · iexact Ht
      isplitl [Hp]; · rw [payload_bar]; iexact Hp
      iexact Hr
    iintro HO
    iapply (sig_run O W κ Kt l)
    isplitr; · iexact Hi
    isplitl [Hl]; · iexact Hl
    isplitl [HO] <;> iassumption

end Cert.KernelIdeal.Pf

end
-- ==== Proof.Comp.lean ====
/- A step's computation on one device: its tiles fill the context, its partial product is stored, and the eight blocks
   of it are sent. Also how a list of program pieces is run, piece by piece. -/
module

public import proofs.«01_k».proof.Proof.Wp

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pg" => Prog (TpuEff nD τ sig (Elt F) Λ₀ Proc.tc) PUnit

variable (I : Dev nD → Ins F) (K : GSem nD τ sig → ℕ) (c : Dev nD)

/-- Owing `O`, whatever has been waited on. -/
def owesE (O : CellTallies nD τ sig Unit) : sProp 𝕄 := iprop(∃ W, owes (c : Thread nD τ) O W)

theorem mem_fin4 : ∀ j : Fin 4, j ∈ fin4 := by decide
theorem mem_fin8 : ∀ h : Fin 8, h ∈ fin8 := by decide

/-- The rectangles the program reads and writes. -/
abbrev rT (s : Step) (j : Fin 4) (h : Fin 8) (t : Fin s.nc) : Rect S1024x1024 :=
  Rect.unit (s := S1024x1024) ![256 * t.val + 64 * j.val, 128 * h.val] S64x128.size (s.inbT j h t)
abbrev rKV (j : Fin 4) (h : Fin 8) : Rect S4x8x512x128 := Rect.unit (s := S4x8x512x128) ![j.val, h.val, 0, 0] S1x1x512x128.size (inbKV j h)
abbrev rX (s : Step) : Rect S2048x1024 := Rect.unit (s := S2048x1024) ![s.base, 0] (SRow s.nc).size s.inbX
abbrev rC (s : Step) : Rect S1024x1024 := Rect.unit (s := S1024x1024) ![0, 0] (SRow s.nc).size s.inbC
abbrev rW : Rect S1024x1024 := Rect.unit (s := S1024x1024) ![0, 0] S1024x1024.size inb_S1024x1024_S1024x1024_0_0

/-! ## Lists of pieces -/

/-- Pieces that each turn an `A` into a `B` and keep `R`. -/
theorem foldr_res {α : Type} (R : sProp 𝕄) (A B : α → sProp 𝕄) (f : α → Pg → Pg) (Kt : PUnit → sProp 𝕄)
    (h : ∀ a κ, iprop(R ∗ A a ∗ (R ∗ B a -∗ run c κ Kt)) ⊢ run c (f a κ) Kt) (κ : Pg) :
    ∀ l : List α, iprop(R ∗ sL A l ∗ (R ∗ sL B l -∗ run c κ Kt)) ⊢ run c (l.foldr f κ) Kt
  | [] => by
    show iprop(R ∗ emp ∗ (R ∗ emp -∗ run c κ Kt)) ⊢ run c κ Kt
    iintro ⟨HR, -, Hk⟩
    iapply Hk
    isplitl [HR]; · iexact HR
    iempintro
  | a :: l => by
    show iprop(R ∗ (A a ∗ sL A l) ∗ (R ∗ (B a ∗ sL B l) -∗ run c κ Kt)) ⊢ run c (f a (l.foldr f κ)) Kt
    iintro ⟨HR, ⟨Ha, Hl⟩, Hk⟩
    iapply (h a (l.foldr f κ))
    isplitl [HR]; · iexact HR
    isplitl [Ha]; · iexact Ha
    iintro ⟨HR, Hb⟩
    iapply (foldr_res R A B f Kt h κ l)
    isplitl [HR]; · iexact HR
    isplitl [Hl]; · iexact Hl
    iintro ⟨HR, Hl⟩
    iapply Hk
    isplitl [HR]; · iexact HR
    isplitl [Hb] <;> iassumption

/-- Pieces that each pay one of the listed payments. -/
theorem foldr_owe (R : sProp 𝕄) [BI.Persistent R] (A B : Fin 8 → sProp 𝕄) (f : Fin 8 → Pg → Pg) (g : Fin 8 → GSem nD τ sig) (n : ℕ) (Kt : PUnit → sProp 𝕄)
    (O : CellTallies nD τ sig Unit)
    (h : ∀ a κ O, iprop(R ∗ A a ∗ owesE c (O + tallyAt (g a) () n) ∗ (B a ∗ owesE c O -∗ run c κ Kt)) ⊢ run c (f a κ) Kt) (κ : Pg) :
    ∀ l : List (Fin 8), iprop(R ∗ sL A l ∗ owesE c (owe g n O l) ∗ (sL B l ∗ owesE c O -∗ run c κ Kt)) ⊢ run c (l.foldr f κ) Kt
  | [] => by
    show iprop(R ∗ emp ∗ owesE c O ∗ (emp ∗ owesE c O -∗ run c κ Kt)) ⊢ run c κ Kt
    iintro ⟨-, -, HO, Hk⟩
    iapply Hk
    isplitr; · iempintro
    iexact HO
  | a :: l => by
    show iprop(R ∗ (A a ∗ sL A l) ∗ owesE c (owe g n O l + tallyAt (g a) () n) ∗ ((B a ∗ sL B l) ∗ owesE c O -∗ run c κ Kt)) ⊢ run c (f a (l.foldr f κ)) Kt
    iintro ⟨#HR, ⟨Ha, Hl⟩, HO, Hk⟩
    iapply (h a (l.foldr f κ) (owe g n O l))
    isplitr; · iexact HR
    isplitl [Ha]; · iexact Ha
    isplitl [HO]; · iexact HO
    iintro ⟨Hb, HO⟩
    iapply (foldr_owe R A B f g n Kt O h κ l)
    isplitr; · iexact HR
    isplitl [Hl]; · iexact Hl
    isplitl [HO]; · iexact HO
    iintro ⟨Hl, HO⟩
    iapply Hk
    isplitl [Hb Hl]
    · isplitl [Hb] <;> iassumption
    · iexact HO

/-! ## The context -/

/-- The elements of a tile in the context buffer. -/
abbrev tileV (s : Step) (j : Fin 4) (h : Fin 8) (t : Fin s.nc) : View sig .tc .vmem S64x128 .bf16 :=
  aCtx.access (Rect.unit (s := S1024x1024) ![256 * t.val + 64 * j.val, 128 * h.val] S64x128.size (s.inbT j h t))

/-- The context buffer, right at the elements `P` speaks of. -/
def ctxA (s : Step) (P : S1024x1024.Idx → Prop) : sProp 𝕄 :=
  iprop(∃ f, ⌜∀ a, P a → f a = ctxV (I c) s a⌝ ∗ (aCtx.view.loc (c : Thread nD τ) ↦{fullShare} f))

theorem ctxA_mono (s : Step) (P Q : S1024x1024.Idx → Prop) (h : ∀ a, Q a → P a) : ctxA I c s P ⊢ ctxA I c s Q := by
  unfold ctxA
  iintro ⟨%f, %hf, H⟩
  iexists f
  isplitr; · ipureintro; exact fun a ha => hf a (h a ha)
  iexact H

/-- Pieces that each fill a part of the context. -/
theorem foldr_ctx {α : Type} (s : Step) (R : sProp 𝕄) (T : α → S1024x1024.Idx → Prop) (f : α → Pg → Pg) (Kt : PUnit → sProp 𝕄)
    (h : ∀ a κ P, iprop(R ∗ ctxA I c s P ∗ (R ∗ ctxA I c s (fun i => P i ∨ T a i) -∗ run c κ Kt)) ⊢ run c (f a κ) Kt) (κ : Pg) :
    ∀ (l : List α) (P : S1024x1024.Idx → Prop),
      iprop(R ∗ ctxA I c s P ∗ (R ∗ ctxA I c s (fun i => P i ∨ ∃ a ∈ l, T a i) -∗ run c κ Kt)) ⊢ run c (l.foldr f κ) Kt
  | [], P => by
    show _ ⊢ run c κ Kt
    iintro ⟨HR, HC, Hk⟩
    iapply Hk
    isplitl [HR]; · iexact HR
    iapply (ctxA_mono I c s P _ (fun a ha => by simpa using ha)) $$ HC
  | a :: l, P => by
    show _ ⊢ run c (f a (l.foldr f κ)) Kt
    iintro ⟨HR, HC, Hk⟩
    iapply (h a (l.foldr f κ) P)
    isplitl [HR]; · iexact HR
    isplitl [HC]; · iexact HC
    iintro ⟨HR, HC⟩
    iapply (foldr_ctx s R T f Kt h κ l _)
    isplitl [HR]; · iexact HR
    isplitl [HC]; · iexact HC
    iintro ⟨HR, HC⟩
    iapply Hk
    isplitl [HR]; · iexact HR
    iapply (ctxA_mono I c s _ _ (fun i hi => by
      rcases hi with hi | ⟨b, hb, hi⟩
      · exact Or.inl (Or.inl hi)
      · rcases List.mem_cons.mp hb with rfl | hb
        · exact Or.inl (Or.inr hi)
        · exact Or.inr ⟨b, hb, hi⟩)) $$ HC

/-- The keys and values. -/
def kv : sProp 𝕄 := iprop((aK.view.loc (c : Thread nD τ) ↦{fullShare} (I c).k) ∗ (aV.view.loc (c : Thread nD τ) ↦{fullShare} (I c).v))

/-- One tile is stored. -/
theorem tile_run (s : Step) (j : Fin 4) (h : Fin 8) (t : Fin s.nc) (κ : Pg) (P : S1024x1024.Idx → Prop) (Kt : PUnit → sProp 𝕄) :
    iprop(kv I c ∗ ctxA I c s P ∗ (kv I c ∗ ctxA I c s (fun i => P i ∨ i ∈ (tileV s j h t).set) -∗ run c κ Kt))
      ⊢ run c (s.tileP j h (xR (I c) s) (wqR (I c)) (kR (I c) j h) (vR (I c) j h) t κ) Kt := by
  unfold ctxA Step.tileP
  iintro ⟨HR, ⟨%f, %hf, HC⟩, Hk⟩
  iapply (wp_load_rect 𝒱₀ (c : Thread nD τ) none Set.univ (m := aCtx) (r := rT s j h t) (Finset.subset_univ _)) $$ HC; iintro HC
  iapply (wp_store 𝒱₀ (c : Thread nD τ) none Set.univ (m := aCtx) (r := rT s j h t) (Finset.subset_univ _)) $$ HC; iintro HC
  iapply Hk
  isplitl [HR]; · iexact HR
  iexists _
  isplitr
  swap
  · iexact HC
  ipureintro
  intro a ha
  by_cases hm : a ∈ (tileV s j h t).set
  · obtain ⟨b, -, rfl⟩ := Finset.mem_map.mp hm
    rw [ctxV_tile, View.write_emb_of_mem _ _ (Finset.mem_univ _), cast_eq]
    rfl
  · rw [View.write_of_not_mem]
    · exact hf a (ha.resolve_right hm)
    · exact hm

/-- One head of one group. -/
theorem head_run (s : Step) (j : Fin 4) (h : Fin 8) (κ : Pg) (P : S1024x1024.Idx → Prop) (Kt : PUnit → sProp 𝕄) :
    iprop(kv I c ∗ ctxA I c s P ∗ (kv I c ∗ ctxA I c s (fun i => P i ∨ ∃ t ∈ s.ts, i ∈ (tileV s j h t).set) -∗ run c κ Kt))
      ⊢ run c (s.headP j (xR (I c) s) (wqR (I c)) h κ) Kt := by
  unfold Step.headP
  iintro ⟨HR, HC, Hk⟩
  ihave HR := (Entails.of_eq (show kv I c = iprop((aK.view.loc (c : Thread nD τ) ↦{fullShare} (I c).k) ∗ (aV.view.loc (c : Thread nD τ) ↦{fullShare} (I c).v)) from rfl)) $$ HR
  icases HR with ⟨H1, H2⟩
  iapply (wp_load_rect 𝒱₀ (c : Thread nD τ) none Set.univ (m := aK) (r := rKV j h) (Finset.subset_univ _)) $$ H1; iintro H1
  iapply (wp_load_rect 𝒱₀ (c : Thread nD τ) none Set.univ (m := aV) (r := rKV j h) (Finset.subset_univ _)) $$ H2; iintro H2
  iapply (foldr_ctx I c s (kv I c) (fun t i => i ∈ (tileV s j h t).set) _ Kt (fun t κ P => tile_run I c s j h t κ P Kt) κ s.ts P)
  isplitl [H1 H2]; · unfold kv; isplitl [H1] <;> iassumption
  isplitl [HC]; · iexact HC
  iexact Hk

/-- All heads of all groups. -/
theorem heads_run (s : Step) (κ : Pg) (P : S1024x1024.Idx → Prop) (Kt : PUnit → sProp 𝕄) :
    iprop(kv I c ∗ ctxA I c s P ∗ (kv I c ∗ ctxA I c s (fun i => P i ∨ ∃ j ∈ fin4, ∃ h ∈ fin8, ∃ t ∈ s.ts, i ∈ (tileV s j h t).set) -∗ run c κ Kt))
      ⊢ run c (fin4.foldr (fun j κ => fin8.foldr (s.headP j (xR (I c) s) (wqR (I c))) κ) κ) Kt :=
  foldr_ctx I c s (kv I c) (fun j i => ∃ h ∈ fin8, ∃ t ∈ s.ts, i ∈ (tileV s j h t).set) _ Kt
    (fun j κ P => foldr_ctx I c s (kv I c) (fun h i => ∃ t ∈ s.ts, i ∈ (tileV s j h t).set) _ Kt
      (fun h κ P => head_run I c s j h κ P Kt) κ fin8 P) κ fin4 P

/-! ## The sends -/

/-- What the copy of block `d` needs of the protocol. -/
def rsTok (p : Fin 4) (d : Fin 8) : sProp 𝕄 :=
  iprop(some' d ((stp p).slot c) ∗ dutyTok ER (cell 0 p d c) 0 0 ∗ reached ER (cell 0 p d c) 0 ∗ dutyTok ER (cell 1 p c d) 0 0 ∗ reached ER (cell 1 p c d) 0)

theorem rsSend_run (p : Fin 4) (d : Fin 8) (κ : Pg) (O : CellTallies nD τ sig Unit) (Kt : PUnit → sProp 𝕄) :
    iprop(invs I K ∗ (owns (c : Thread nD τ) ((stp p).sndBlk d) fullShare (blkV (stp p) (ppV (I c) (stp p)) d) ∗ rsTok c p d)
      ∗ owesE c (O + tallyAt (cell 1 p c d) () (Nn p)) ∗ (cred (tallyAt (cell 0 p d c) () (Nn p)) ∗ owesE c O -∗ run c κ Kt))
      ⊢ run c ((stp p).rsSendP c d κ) Kt := by
  unfold rsTok owesE Step.rsSendP
  iintro ⟨#Hi, ⟨Hs, Hd, Ht1, Hr1, Ht2, Hr2⟩, ⟨%W, HO⟩, Hk⟩
  ihave Hd := (Entails.of_eq (show some' (F := F) d ((stp p).slot c) = some' d ((stp p).slotMine c) by rw [slotMine_eq])) $$ Hd
  iapply (send_cell I K c d 0 p d 1 c (sem0 p d) (sem1m p c) (credit_slotMine p c) fullShare (blkV (stp p) (ppV (I c) (stp p)) d)
    (BI.Entails.refl _) (by rw [slotMine_eq]; exact BI.Entails.refl _) O W Kt)
  isplitr; · iexact Hi
  isplitl [Hs]; · iexact Hs
  isplitl [Hd]; · iexact Hd
  isplitl [HO]; · iexact HO
  isplitl [Ht1]; · iexact Ht1
  isplitl [Hr1]; · iexact Hr1
  isplitl [Ht2]; · iexact Ht2
  isplitl [Hr2]; · iexact Hr2
  iintro ⟨Hc, HO⟩
  iapply Hk
  isplitl [Hc]; · iexact Hc
  iexists _; iexact HO

/-- The stored rows are the eight blocks to send. -/
theorem snd_split (p : Fin 4) (f : S2048x1024.Idx → Elt F .bf16) (w : FVec F (SRow (stp p).nc) .bf16) :
    (aSnd.view.loc (c : Thread nD τ) ↦[rowS (stp p)]{fullShare} (rowV (stp p)).write (Elt F) f w Finset.univ : sProp 𝕄)
      ⊢ sL (fun d => owns (c : Thread nD τ) ((stp p).sndBlk d) fullShare (blkV (stp p) w d)) fin8 := by
  rw [row_eq, pointsTo_biUnion _ _ (fun d _ d' _ h => snd_disjoint (stp p) d d' h), bigSep_fin8]
  refine sL_mono _ _ (fun d => ?_) fin8
  rw [← read_sndBlk (stp p) d f w]
  exact owns_intro (c : Thread nD τ) ((stp p).sndBlk d) fullShare _

/-! ## A step's computation -/

/-- The operands a device has been given. -/
def ops : sProp 𝕄 :=
  iprop((aX.view.loc (c : Thread nD τ) ↦{fullShare} (I c).x) ∗ (aWq.view.loc (c : Thread nD τ) ↦{fullShare} (I c).wq)
    ∗ (aWo.view.loc (c : Thread nD τ) ↦{fullShare} (I c).wo) ∗ kv I c)

/-- The context buffer, at whatever it holds. -/
def ctxE : sProp 𝕄 := iprop(∃ f, aCtx.view.loc (c : Thread nD τ) ↦{fullShare} f)

/-- A step's rows of the send buffer. -/
def rowE (p : Fin 4) : sProp 𝕄 := iprop(∃ f, aSnd.view.loc (c : Thread nD τ) ↦[rowS (stp p)]{fullShare} f)

theorem comp_run (p : Fin 4) (κ : Pg) (O : CellTallies nD τ sig Unit) (Kt : PUnit → sProp 𝕄) :
    iprop(invs I K ∗ ops I c ∗ ctxE c ∗ rowE c p ∗ sL (rsTok c p) fin8 ∗ owesE c (oweR c p O)
      ∗ (ops I c ∗ ctxE c ∗ sL (fun d => cred (tallyAt (cell 0 p d c) () (Nn p))) fin8 ∗ owesE c O -∗ run c κ Kt))
      ⊢ run c ((stp p).compP c κ) Kt := by
  unfold Step.compP oweR
  iintro ⟨#Hi, Ho, HC, Hs, Ht, HO, Hk⟩
  ihave Ho := (Entails.of_eq (show ops I c = iprop((aX.view.loc (c : Thread nD τ) ↦{fullShare} (I c).x) ∗ (aWq.view.loc (c : Thread nD τ) ↦{fullShare} (I c).wq)
    ∗ (aWo.view.loc (c : Thread nD τ) ↦{fullShare} (I c).wo) ∗ kv I c) from rfl)) $$ Ho
  ihave HC := (Entails.of_eq (show ctxE (F := F) c = iprop(∃ f, aCtx.view.loc (c : Thread nD τ) ↦{fullShare} f) from rfl)) $$ HC
  ihave Hs := (Entails.of_eq (show rowE (F := F) c p = iprop(∃ f, aSnd.view.loc (c : Thread nD τ) ↦[rowS (stp p)]{fullShare} f) from rfl)) $$ Hs
  icases Ho with ⟨Hx, Hwq, Hwo, Hkv⟩
  icases HC with ⟨%f0, HC⟩
  icases Hs with ⟨%g0, Hs⟩
  iapply (wp_load_rect 𝒱₀ (c : Thread nD τ) none Set.univ (m := aX) (r := rX (stp p)) (Finset.subset_univ _)) $$ Hx; iintro Hx
  iapply (wp_load_rect 𝒱₀ (c : Thread nD τ) none Set.univ (m := aWq) (r := rW) (Finset.subset_univ _)) $$ Hwq; iintro Hwq
  iapply (heads_run I c (stp p) _ (fun _ => False) Kt)
  isplitl [Hkv]; · iexact Hkv
  isplitl [HC]
  · unfold ctxA
    iexists f0
    isplitr; · ipureintro; exact fun a h => h.elim
    iexact HC
  iintro ⟨Hkv, HC⟩
  ihave HC := (Entails.of_eq (show ctxA I c (stp p) (fun i => False ∨ ∃ j ∈ fin4, ∃ h ∈ fin8, ∃ t ∈ (stp p).ts, i ∈ (tileV (stp p) j h t).set)
    = iprop(∃ f, ⌜∀ a : S1024x1024.Idx, (False ∨ ∃ j ∈ fin4, ∃ h ∈ fin8, ∃ t ∈ (stp p).ts, a ∈ (tileV (stp p) j h t).set) → f a = ctxV (I c) (stp p) a⌝
      ∗ (aCtx.view.loc (c : Thread nD τ) ↦{fullShare} f)) from rfl)) $$ HC
  icases HC with ⟨%f, %hf, HC⟩
  iapply (wp_load_rect 𝒱₀ (c : Thread nD τ) none Set.univ (m := aCtx) (r := rC (stp p)) (Finset.subset_univ _)) $$ HC; iintro HC
  iapply (wp_load_rect 𝒱₀ (c : Thread nD τ) none Set.univ (m := aWo) (r := rW) (Finset.subset_univ _)) $$ Hwo; iintro Hwo
  iapply (wp_load_rect 𝒱₀ (c : Thread nD τ) none Set.univ (m := aSnd) (r := rX (stp p)) (Finset.Subset.refl (rowS (stp p)))) $$ Hs; iintro Hs
  iapply (wp_store 𝒱₀ (c : Thread nD τ) none Set.univ (m := aSnd) (r := rX (stp p)) (Mk := Finset.univ) (Finset.Subset.refl (rowS (stp p)))) $$ Hs; iintro Hs
  ihave Hs := (snd_split c p g0 _) $$ Hs
  have e : (aCtx.access (Rect.unit (s := S1024x1024) ![0, 0] (SRow (stp p).nc).size (stp p).inbC)).read (Elt F) f
      = (aCtx.access (Rect.unit (s := S1024x1024) ![0, 0] (SRow (stp p).nc).size (stp p).inbC)).read (Elt F) (ctxV (I c) (stp p)) := by
    refine View.read_congr fun a ha => ?_
    obtain ⟨b, -, rfl⟩ := Finset.mem_map.mp ha
    obtain ⟨j, h, t, hm⟩ := ctx_cover (stp p) b
    exact hf _ (Or.inr ⟨j, mem_fin4 j, h, mem_fin8 h, t, (stp p).hts t, hm⟩)
  iapply (foldr_owe c (invs I K)
    (fun d => iprop(owns (c : Thread nD τ) ((stp p).sndBlk d) fullShare (blkV (stp p) (ppV (I c) (stp p)) d) ∗ rsTok c p d))
    (fun d => cred (tallyAt (cell 0 p d c) () (Nn p))) _ (fun d => cell 1 p c d) (Nn p) Kt O
    (fun d κ O => rsSend_run I K c p d κ O Kt) κ fin8)
  isplitr; · iexact Hi
  isplitl [Hs Ht]
  · iapply (sL_sep _ _ fin8)
    isplitl [Hs]
    · iapply (Entails.of_eq (by unfold ppV; rw [← e]; rfl)) $$ Hs
    · iexact Ht
  isplitl [HO]; · iexact HO
  iintro ⟨Hc, HO⟩
  iapply Hk
  isplitl [Hx Hwq Hwo Hkv]
  · unfold ops
    isplitl [Hx]; · iexact Hx
    isplitl [Hwq]; · iexact Hwq
    isplitl [Hwo]; · iexact Hwo
    iexact Hkv
  isplitl [HC]; · unfold ctxE; iexists _; iexact HC
  isplitl [Hc] <;> iassumption

end Cert.KernelIdeal.Pf

end
-- ==== Proof.Acc.lean ====
/- A step's sum on one device: the eight blocks are awaited and added, and the sum is sent to every device; and the
   waits that end the program. -/
module

public import proofs.«01_k».proof.Proof.Comp

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pg" => Prog (TpuEff nD τ sig (Elt F) Λ₀ Proc.tc) PUnit

variable (I : Dev nD → Ins F) (K : GSem nD τ sig → ℕ) (c : Dev nD)

/-! ## Blocks and the buffers they are in -/

/-- A memref whose elements read as `g` does holds `g`. -/
theorem owns_pts {S : Shape} (m : Memref sig .tc .vmem S .bf16) (q : PosShare TreeShare) (X : S.Idx → Elt F .bf16)
    (g : m.view.ty.Contents (Elt F)) (h : m.view.read (Elt F) g = X) :
    owns (c : Thread nD τ) m q X ⊢ (m.view.loc (c : Thread nD τ) ↦[m.view.set]{q} g : sProp 𝕄) := by
  refine BI.Entails.trans (BIBase.Entails.of_eq (show owns (c : Thread nD τ) m q X
    = iprop(∃ f, ⌜m.view.read (Elt F) f = X⌝ ∗ (m.view.loc (c : Thread nD τ) ↦[m.view.set]{q} f)) from rfl)) ?_
  show iprop(∃ f, ⌜m.view.read (Elt F) f = X⌝ ∗ (m.view.loc (c : Thread nD τ) ↦[m.view.set]{q} f)) ⊢ (m.view.loc (c : Thread nD τ) ↦[m.view.set]{q} g : sProp 𝕄)
  iintro ⟨%f, %hf, H⟩
  have e : ∀ i ∈ m.view.set, f i = g i := by
    intro i hi
    obtain ⟨a, -, rfl⟩ := Finset.mem_map.mp hi
    have := congrFun (hf.trans h.symm) a
    rw [View.read_apply, View.read_apply] at this
    exact cast_inj _ |>.mp this
  iapply (Entails.of_eq (pointsTo_congr e)) $$ H

/-- The slots a step's blocks were received in are its part of the receive buffer. -/
theorem slots_join (p : Fin 4) :
    sL (fun d => owns (c : Thread nD τ) ((stp p).slot d) fullShare (blkV (stp p) (ppV (I d) (stp p)) c)) fin8
      ⊢ (aRs.view.loc (c : Thread nD τ) ↦[allS (stp p)]{fullShare} rsV I c : sProp 𝕄) := by
  rw [all_eq, pointsTo_biUnion _ _ (fun d _ d' _ h => slot_disjoint (stp p) d d' h), bigSep_fin8]
  exact sL_mono _ _ (fun d => owns_pts c ((stp p).slot d) fullShare _ (rsV I c) (read_slot I c p d)) fin8

/-- The stored sum, in the eight shares the copies read it by. -/
theorem acc_split (p : Fin 4) (f : S4x128x1024.Idx → Elt F .bf16) (w : FVec F (SBlk3 (stp p).nc) .bf16) (hw : w = sumV I p c) :
    (aAcc.view.loc (c : Thread nD τ) ↦[acc3S (stp p)]{fullShare} (acc3V (stp p)).write (Elt F) f w Finset.univ : sProp 𝕄)
      ⊢ sL (fun d => owns (c : Thread nD τ) (stp p).accBlk (accQ d) (accB I p c)) fin8 := by
  subst hw
  rw [pointsTo_congr (write_acc I c p f), ← accS_eq, ShareLeaves.pointsTo_leaves _ _ 3 fullShare]
  refine BI.Entails.trans (BIBase.Entails.of_eq (bigSep_fin8 _)) ?_
  refine sL_mono _ _ (fun d => ?_) fin8
  rw [← read_accBlk I c p]
  exact owns_intro (c : Thread nD τ) (stp p).accBlk (accQ d) _

/-- The places of the devices counted from `c`. -/
def rotE : Fin 8 ≃ Fin 8 where
  toFun := rot c
  invFun d := ⟨(d.val + 8 - c.val) % 8, Nat.mod_lt _ (by decide)⟩
  left_inv k := by revert k; revert c; decide
  right_inv d := by revert d; revert c; decide

theorem sL_rot (Φ : Fin 8 → sProp 𝕄) : sL Φ fin8 = sL (fun k => Φ (rot c k)) fin8 := by
  rw [← bigSep_fin8, ← bigSep_fin8]
  exact bigSep_univ_equiv (rotE c) Φ

/-! ## Waits -/

/-- What a wait needs, and what it gives. -/
def waitA (k p : Fin 4) (d : Fin 8) : sProp 𝕄 := iprop(cred (tallyAt (cell k p d c) () (Nn p)) ∗ atPos ER (cell k p d c) 0 ∅ 0)
def waitB (k p : Fin 4) (d : Fin 8) : sProp 𝕄 := iprop(atPos ER (cell k p d c) 1 ∅ 0 ∗ pay I c k p d)
/-- What every wait keeps. -/
def waitR (O : CellTallies nD τ sig Unit) : sProp 𝕄 := iprop(invs I K ∗ levAts L lv ∗ owesE c O)

theorem wait_run (k p : Fin 4) (d : Fin 8) {w : TpuEff nD τ sig (Elt F) Λ₀ .tc PUnit} {κ : PUnit → Pg}
    {sm : DmaSem sig} {n : ℕ} (hs : sm = dsem k p d) (hn : n = Nn p)
    (hw : ∀ K' : PUnit → sProp 𝕄, wpE (defs₀ (F := F)) 𝒱₀ (c : Thread nD τ) none Set.univ w K' = waitSpec (c : Thread nD τ) Set.univ (.dma sm) n K')
    (b : ℕ) (O : CellTallies nD τ sig Unit) (hO : Above b O) (hb : lv (cell k p d c) () ≤ b) (Kt : PUnit → sProp 𝕄) :
    iprop(waitR I K c O ∗ waitA c k p d ∗ (waitR I K c O ∗ waitB I c k p d -∗ run c (κ ⟨⟩) Kt)) ⊢ run c (.op w κ) Kt := by
  unfold waitR waitA waitB owesE
  iintro ⟨⟨#Hi, #Hl, %W, HO⟩, ⟨Hc, Ha⟩, Hk⟩
  iapply (wait_cell I K c k p d hs hn hw b O hO hb W Kt)
  isplitr; · iexact Hi
  isplitr; · iexact Hl
  isplitl [Hc]; · iexact Hc
  isplitl [Ha]; · iexact Ha
  isplitl [HO]; · iexact HO
  iintro ⟨HO, Ha, Hp⟩
  iapply Hk
  isplitl [HO]
  · isplitr; · iexact Hi
    isplitr; · iexact Hl
    iexact HO
  isplitl [Ha] <;> iassumption

/-- The waits for a step's blocks. -/
theorem rsWaits_run (p : Fin 4) (O : CellTallies nD τ sig Unit) (hO : Above (if p = 3 then 3 else 2) O) (κ : Pg) (Kt : PUnit → sProp 𝕄) :
    iprop(waitR I K c O ∗ sL (waitA c 1 p) fin8 ∗ (waitR I K c O ∗ sL (waitB I c 1 p) fin8 -∗ run c κ Kt)) ⊢ run c (fin8.foldr (stp p).rsWaitP κ) Kt :=
  foldr_res c (waitR I K c O) (waitA c 1 p) (waitB I c 1 p) _ Kt
    (fun d κ => wait_run I K c 1 p d (κ := fun _ => κ) (sem1 p d) (credit_slot p d)
      (wpE_waitDma2_eq (src := (stp p).slot d) (dst := (stp p).slot d) 𝒱₀ (c : Thread nD τ) none Set.univ)
      (if p = 3 then 3 else 2) O hO (le_of_eq (lv_cell1 c p d)) Kt) κ fin8

/-- The waits for a step's blocks of the result. -/
theorem agWaits_run (p : Fin 4) (κ : Pg) (Kt : PUnit → sProp 𝕄) :
    iprop(waitR I K c 0 ∗ sL (waitA c 3 p) fin8 ∗ (waitR I K c 0 ∗ sL (waitB I c 3 p) fin8 -∗ run c κ Kt)) ⊢ run c (fin8.foldr (stp p).agWaitP κ) Kt :=
  foldr_res c (waitR I K c 0) (waitA c 3 p) (waitB I c 3 p) _ Kt
    (fun d κ => wait_run I K c 3 p d (κ := fun _ => κ) (sem3 p d) (credit_out p d)
      (wpE_waitDma2_eq (src := (stp p).accBlk) (dst := (stp p).outBlk d) 𝒱₀ (c : Thread nD τ) none Set.univ)
      4 0 (above_zero 4) (lv_le c _) Kt) κ fin8

/-- The waits for a step's own copies to have left. -/
theorem endWaits_run (p : Fin 4) (κ : Pg) (Kt : PUnit → sProp 𝕄) :
    iprop(waitR I K c 0 ∗ sL (fun d => iprop(waitA c 0 p d ∗ waitA c 2 p d)) fin8
      ∗ (waitR I K c 0 ∗ sL (fun d => iprop(waitB I c 0 p d ∗ waitB I c 2 p d)) fin8 -∗ run c κ Kt)) ⊢ run c (fin8.foldr ((stp p).endWaitP c) κ) Kt := by
  refine foldr_res c (waitR I K c 0) (fun d => iprop(waitA c 0 p d ∗ waitA c 2 p d)) (fun d => iprop(waitB I c 0 p d ∗ waitB I c 2 p d)) _ Kt
    (fun d κ => ?_) κ fin8
  unfold Step.endWaitP
  iintro ⟨HR, ⟨H0, H2⟩, Hk⟩
  iapply (wait_run I K c 0 p d (sem0 p d) (credit_snd p d)
      (wpE_waitDma2_eq (src := (stp p).slotMine c) (dst := (stp p).sndBlk d) 𝒱₀ (c : Thread nD τ) none Set.univ)
      4 0 (above_zero 4) (lv_le c _) Kt)
  isplitl [HR]; · iexact HR
  isplitl [H0]; · iexact H0
  iintro ⟨HR, H0⟩
  iapply (wait_run I K c 2 p d (sem2 p d) (credit_acc p)
      (wpE_waitDma2_eq (src := (stp p).outBlk d) (dst := (stp p).accBlk) 𝒱₀ (c : Thread nD τ) none Set.univ)
      4 0 (above_zero 4) (lv_le c _) Kt)
  isplitl [HR]; · iexact HR
  isplitl [H2]; · iexact H2
  iintro ⟨HR, H2⟩
  iapply Hk
  isplitl [HR]; · iexact HR
  isplitl [H0] <;> iassumption

/-! ## A step's sum -/

/-- What the copy of the sum to device `d` needs of the protocol. -/
def agTok (p : Fin 4) (d : Fin 8) : sProp 𝕄 :=
  iprop(some' d ((stp p).outBlk c) ∗ dutyTok ER (cell 2 p d c) 0 0 ∗ reached ER (cell 2 p d c) 0 ∗ dutyTok ER (cell 3 p c d) 0 0 ∗ reached ER (cell 3 p c d) 0)

theorem agSend_run (p : Fin 4) (k : Fin 8) (κ : Pg) (O : CellTallies nD τ sig Unit) (Kt : PUnit → sProp 𝕄) :
    iprop(invs I K ∗ (owns (c : Thread nD τ) (stp p).accBlk (accQ (rot c k)) (accB I p c) ∗ agTok c p (rot c k))
      ∗ owesE c (O + tallyAt (cell 3 p c (rot c k)) () (Nn p)) ∗ (cred (tallyAt (cell 2 p (rot c k) c) () (Nn p)) ∗ owesE c O -∗ run c κ Kt))
      ⊢ run c ((stp p).agSendP c k κ) Kt := by
  have key : ∀ (e : Dev nD) (he : e = rot c k) (h3 : DmaTarget.Typed .vmem (.dma (semAt cc0_scratch7 (k0_off1 c (BitVec.ofNat 32 (8 * (stp p).p))) ((stp p).inbRv c)))
        (.remote (Dev.tc e : Thread nD τ) ((stp p).outMine c) (.dma (semAt cc0_scratch6 (k0_off5 c (BitVec.ofNat 32 (8 * (stp p).p)) (BitVec.ofNat 32 k.val)) ((stp p).inbSd c k))) rfl)),
      iprop(invs I K ∗ (owns (c : Thread nD τ) (stp p).accBlk (accQ (rot c k)) (accB I p c) ∗ agTok c p (rot c k))
        ∗ owesE c (O + tallyAt (cell 3 p c (rot c k)) () (Nn p)) ∗ (cred (tallyAt (cell 2 p (rot c k) c) () (Nn p)) ∗ owesE c O -∗ run c κ Kt))
        ⊢ run c (.op (.enqueueDma (stp p).accBlk (.remote (Dev.tc e : Thread nD τ) ((stp p).outMine c)
            (.dma (semAt cc0_scratch6 (k0_off5 c (BitVec.ofNat 32 (8 * (stp p).p)) (BitVec.ofNat 32 k.val)) ((stp p).inbSd c k))) rfl)
            (.dma (semAt cc0_scratch7 (k0_off1 c (BitVec.ofNat 32 (8 * (stp p).p))) ((stp p).inbRv c))) (stp p).wAcc ((stp p).wOutMine c) h3) fun _ => κ) Kt := by
    intro e he h3
    subst he
    unfold agTok owesE
    iintro ⟨#Hi, ⟨Hs, Hd, Ht1, Hr1, Ht2, Hr2⟩, ⟨%W, HO⟩, Hk⟩
    ihave Hd := (Entails.of_eq (show some' (F := F) (rot c k) ((stp p).outBlk c) = some' (rot c k) ((stp p).outMine c) by rw [outMine_eq])) $$ Hd
    iapply (send_cell I K c (rot c k) 2 p (rot c k) 3 c (sem2m p c k) (sem3m p c) (credit_outMine p c) (accQ (rot c k)) (accB I p c)
      (BI.Entails.refl _) (by rw [outMine_eq]; exact BI.Entails.refl _) O W Kt)
    isplitr; · iexact Hi
    isplitl [Hs]; · iexact Hs
    isplitl [Hd]; · iexact Hd
    isplitl [HO]; · iexact HO
    isplitl [Ht1]; · iexact Ht1
    isplitl [Hr1]; · iexact Hr1
    isplitl [Ht2]; · iexact Ht2
    isplitl [Hr2]; · iexact Hr2
    iintro ⟨Hc, HO⟩
    iapply Hk
    isplitl [Hc]; · iexact Hc
    iexists _; iexact HO
  unfold Step.agSendP
  exact key _ (Fin.ext (agDev_eq c k)) _

/-- A step's part of the accumulator, at whatever it holds; and its part of the receive buffer. -/
def accE (p : Fin 4) : sProp 𝕄 := iprop(∃ f, aAcc.view.loc (c : Thread nD τ) ↦[acc3S (stp p)]{fullShare} f)
def allE (p : Fin 4) : sProp 𝕄 := iprop(∃ f, aRs.view.loc (c : Thread nD τ) ↦[allS (stp p)]{fullShare} f)

theorem acc_run (p : Fin 4) (κ : Pg) (O : CellTallies nD τ sig Unit) (hO : Above (if p = 3 then 3 else 2) (oweG c p O)) (Kt : PUnit → sProp 𝕄) :
    iprop(invs I K ∗ levAts L lv ∗ sL (waitA c 1 p) fin8 ∗ accE c p ∗ sL (agTok c p) fin8 ∗ owesE c (oweG c p O)
      ∗ (sL (fun d => atPos ER (cell 1 p d c) 1 ∅ 0) fin8 ∗ allE c p ∗ sL (fun d => cred (tallyAt (cell 2 p d c) () (Nn p))) fin8 ∗ owesE c O -∗ run c κ Kt))
      ⊢ run c ((stp p).accP c κ) Kt := by
  unfold Step.accP
  iintro ⟨#Hi, #Hl, Hw, Ha, Ht, HO, Hk⟩
  iapply (rsWaits_run I K c p (oweG c p O) hO _ Kt)
  isplitl [HO]
  · unfold waitR
    isplitr; · iexact Hi
    isplitr; · iexact Hl
    iexact HO
  isplitl [Hw]; · iexact Hw
  iintro ⟨HR, Hw⟩
  ihave HR := (Entails.of_eq (show waitR I K c (oweG c p O) = iprop(invs I K ∗ levAts L lv ∗ owesE c (oweG c p O)) from rfl)) $$ HR
  icases HR with ⟨-, -, HO⟩
  ihave Hw := (Entails.of_eq (show sL (waitB I c 1 p) fin8 = sL (fun d => iprop(atPos ER (cell 1 p d c) 1 ∅ 0 ∗ pay I c 1 p d)) fin8 from rfl)) $$ Hw
  ihave Hw := (sL_unsep (fun d => atPos ER (cell 1 p d c) 1 ∅ 0) (fun d => pay I c 1 p d) fin8) $$ Hw
  icases Hw with ⟨Hat, Hp⟩
  ihave Hp := (Entails.of_eq (show sL (fun d => pay I c 1 p d) fin8
    = sL (fun d => owns (c : Thread nD τ) ((stp p).slot d) fullShare (blkV (stp p) (ppV (I d) (stp p)) c)) fin8 from rfl)) $$ Hp
  ihave Hp := (slots_join I c p) $$ Hp
  ihave Ha := (Entails.of_eq (show accE (F := F) c p = iprop(∃ f, aAcc.view.loc (c : Thread nD τ) ↦[acc3S (stp p)]{fullShare} f) from rfl)) $$ Ha
  icases Ha with ⟨%f, Ha⟩
  iapply (wp_load_rect 𝒱₀ (c : Thread nD τ) none Set.univ (m := aRs) (r := Rect.unit (s := S4x8x128x1024) ![(stp p).p, 0, 0, 0] (SAll4 (stp p).nc).size (stp p).inbAll)
    (Finset.Subset.refl (allS (stp p)))) $$ Hp; iintro Hp
  iapply (wp_load_rect 𝒱₀ (c : Thread nD τ) none Set.univ (m := aAcc) (r := Rect.unit (s := S4x128x1024) ![(stp p).p, 0, 0] (SBlk3 (stp p).nc).size (stp p).inbAcc)
    (Finset.Subset.refl (acc3S (stp p)))) $$ Ha; iintro Ha
  iapply (wp_store 𝒱₀ (c : Thread nD τ) none Set.univ (m := aAcc) (r := Rect.unit (s := S4x128x1024) ![(stp p).p, 0, 0] (SBlk3 (stp p).nc).size (stp p).inbAcc)
    (Mk := Finset.univ) (Finset.Subset.refl (acc3S (stp p)))) $$ Ha; iintro Ha
  ihave Ha := (acc_split I c p f ((stp p).sum8 ((allV (stp p)).read (Elt F) (rsV I c))) rfl) $$ Ha
  ihave Ha := (Entails.of_eq (sL_rot c _)) $$ Ha
  ihave Ht := (Entails.of_eq (sL_rot c _)) $$ Ht
  unfold oweG
  iapply (foldr_owe c (invs I K)
    (fun k => iprop(owns (c : Thread nD τ) (stp p).accBlk (accQ (rot c k)) (accB I p c) ∗ agTok c p (rot c k)))
    (fun k => cred (tallyAt (cell 2 p (rot c k) c) () (Nn p))) _ (fun k => cell 3 p c (rot c k)) (Nn p) Kt O
    (fun k κ O => agSend_run I K c p k κ O Kt) κ fin8)
  isplitr; · iexact Hi
  isplitl [Ha Ht]
  · iapply (sL_sep _ _ fin8)
    isplitl [Ha] <;> iassumption
  isplitl [HO]; · iexact HO
  iintro ⟨Hc, HO⟩
  iapply Hk
  isplitl [Hat]; · iexact Hat
  isplitl [Hp]; · unfold allE; iexists _; iexact Hp
  isplitl [Hc]; · iapply (Entails.of_eq (sL_rot c (fun d => cred (tallyAt (cell 2 p d c) () (Nn p)))).symm) $$ Hc
  iexact HO

end Cert.KernelIdeal.Pf

end
-- ==== Proof.Bufs.lean ====
/- A device's buffers cut into the parts the protocol speaks of, and put together again; and families over the four
   steps and the eight devices. -/
module

public import proofs.«01_k».proof.Proof.Acc

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pg" => Prog (TpuEff nD τ sig (Elt F) Λ₀ Proc.tc) PUnit

variable (I : Dev nD → Ins F) (K : GSem nD τ sig → ℕ) (c : Dev nD)

/-! ## Families over steps and devices -/

/-- One resource for each step. -/
def F4 (Φ : Fin 4 → sProp 𝕄) : sProp 𝕄 := iprop(Φ 0 ∗ Φ 1 ∗ Φ 2 ∗ Φ 3)

theorem bigSep_F4 (Φ : Fin 4 → sProp 𝕄) : bigSep Finset.univ Φ = F4 Φ := by
  rw [show (Finset.univ : Finset (Fin 4)) = {0, 1, 2, 3} from by decide, bigSep_insert (by decide), bigSep_insert (by decide), bigSep_insert (by decide),
    bigSep_singleton]
  rfl

/-- One resource for each step and device. -/
def grid (Φ : Fin 4 → Fin 8 → sProp 𝕄) : sProp 𝕄 := bigSep Finset.univ fun x : Fin 4 × Fin 8 => Φ x.1 x.2

theorem grid_sep (Φ Ψ : Fin 4 → Fin 8 → sProp 𝕄) : grid (fun p d => iprop(Φ p d ∗ Ψ p d)) = iprop(grid Φ ∗ grid Ψ) :=
  bigSep_sep' _ _ _
theorem grid_mono (Φ Ψ : Fin 4 → Fin 8 → sProp 𝕄) (h : ∀ p d, Φ p d ⊢ Ψ p d) : grid Φ ⊢ grid Ψ :=
  bigSep_mono fun x _ => h x.1 x.2
theorem grid_with (R : sProp 𝕄) [BI.Persistent R] (Φ Ψ : Fin 4 → Fin 8 → sProp 𝕄) (h : ∀ p d, iprop(R ∗ Φ p d) ⊢ Ψ p d) : iprop(R ∗ grid Φ) ⊢ grid Ψ :=
  bigSep_with_persistent fun x _ => h x.1 x.2
theorem grid_steps (Φ : Fin 4 → Fin 8 → sProp 𝕄) : grid Φ = F4 fun p => sL (Φ p) fin8 := by
  unfold grid
  rw [bigSep_univ_prod, bigSep_F4]
  exact congrArg F4 (funext fun p => bigSep_fin8 (Φ p))
theorem grid_devs (Φ : Fin 4 → Fin 8 → sProp 𝕄) : grid Φ = sL (fun d => F4 fun p => Φ p d) fin8 := by
  unfold grid
  rw [bigSep_univ_prod, bigSep_univ_comm, ← bigSep_fin8]
  exact bigSep_congr fun d _ => bigSep_F4 (fun p => Φ p d)

/-! ## Parts of a buffer -/

section Parts

variable {T : Type} [Fintype T] [DecidableEq T] {ℓ : Loc nD τ sig} (A : T → Finset (Idx ℓ)) (hd : ∀ t t', t ≠ t' → Disjoint (A t) (A t'))

include hd in
/-- A buffer is its parts and what they leave. -/
theorem parts_split :
    iprop(∃ f, ℓ ↦{fullShare} f) ⊢ (iprop((bigSep Finset.univ fun t => iprop(∃ f, ℓ ↦[A t]{fullShare} f)) ∗ (∃ f, ℓ ↦[Finset.univ \ Finset.univ.biUnion A]{fullShare} f)) : sProp 𝕄) := by
  iintro ⟨%f, H⟩
  ihave H := (pointsTo_split_subset (Finset.subset_univ (Finset.univ.biUnion A))).1 $$ H
  icases H with ⟨H1, H2⟩
  isplitl [H1]
  · ihave H1 := (Entails.of_eq (pointsTo_biUnion Finset.univ A (fun t _ t' _ h => hd t t' h))) $$ H1
    iapply (show bigSep Finset.univ (fun t => (ℓ ↦[A t]{fullShare} f : sProp 𝕄)) ⊢ bigSep Finset.univ fun t => iprop(∃ f, ℓ ↦[A t]{fullShare} f) from
      bigSep_mono fun t _ => by
        show (ℓ ↦[A t]{fullShare} f : sProp 𝕄) ⊢ iprop(∃ f, ℓ ↦[A t]{fullShare} f)
        iintro H; iexists f; iexact H) $$ H1
  · iexists f; iexact H2

include hd in
/-- And the other way. -/
theorem parts_join :
    (iprop((bigSep Finset.univ fun t => iprop(∃ f, ℓ ↦[A t]{fullShare} f)) ∗ (∃ f, ℓ ↦[Finset.univ \ Finset.univ.biUnion A]{fullShare} f)) : sProp 𝕄) ⊢ iprop(∃ f, ℓ ↦{fullShare} f) := by
  iintro ⟨H1, %f, H2⟩
  haveI : Nonempty (Buf (Elt F) ℓ) := ⟨f⟩
  ihave H1 := (bigSep_exists_pi Finset.univ (fun t (f : Buf (Elt F) ℓ) => (ℓ ↦[A t]{fullShare} f : sProp 𝕄))) $$ H1
  icases H1 with ⟨%fs, H1⟩
  ihave H1 := (pointsTo_biUnion_join Finset.univ A fs f (fun t _ t' _ h => hd t t' h)) $$ H1
  icases H1 with ⟨%g, -, H1⟩
  ihave H := (pointsTo_join (Finset.disjoint_sdiff (s := Finset.univ.biUnion A) (t := Finset.univ))) $$ [H1 H2]
  · isplitl [H1] <;> iassumption
  rw [Finset.union_sdiff_of_subset (Finset.subset_univ _)]
  iexists _; iexact H

end Parts

/-! ## This kernel's buffers -/

/-- What the slots, and what the steps' parts, leave of the buffers. -/
def rsRest : sProp 𝕄 := iprop(∃ f, aRs.view.loc (c : Thread nD τ) ↦[Finset.univ \ Finset.univ.biUnion fun p => allS (stp p)]{fullShare} f)
def accRest : sProp 𝕄 := iprop(∃ f, aAcc.view.loc (c : Thread nD τ) ↦[Finset.univ \ Finset.univ.biUnion fun p => acc3S (stp p)]{fullShare} f)
def sndRest : sProp 𝕄 := iprop(∃ f, aSnd.view.loc (c : Thread nD τ) ↦[Finset.univ \ Finset.univ.biUnion fun p => rowS (stp p)]{fullShare} f)
def rsW : sProp 𝕄 := iprop(∃ f, aRs.view.loc (c : Thread nD τ) ↦{fullShare} f)
def accW : sProp 𝕄 := iprop(∃ f, aAcc.view.loc (c : Thread nD τ) ↦{fullShare} f)
def sndW : sProp 𝕄 := iprop(∃ f, aSnd.view.loc (c : Thread nD τ) ↦{fullShare} f)
def outW : sProp 𝕄 := iprop(∃ f, aOut.view.loc (c : Thread nD τ) ↦{fullShare} f)

theorem rs_parts : rsW c ⊢ iprop(F4 (allE (F := F) c) ∗ rsRest c) := by
  rw [← bigSep_F4]
  exact parts_split (ℓ := aRs.view.loc (c : Thread nD τ)) (fun p : Fin 4 => allS (stp p)) all_disjoint
theorem rs_join : iprop(F4 (allE (F := F) c) ∗ rsRest c) ⊢ rsW c := by
  rw [← bigSep_F4]
  exact parts_join (ℓ := aRs.view.loc (c : Thread nD τ)) (fun p : Fin 4 => allS (stp p)) all_disjoint
theorem acc_parts : accW c ⊢ iprop(F4 (accE (F := F) c) ∗ accRest c) := by
  rw [← bigSep_F4]
  exact parts_split (ℓ := aAcc.view.loc (c : Thread nD τ)) (fun p : Fin 4 => acc3S (stp p)) acc_disjoint
theorem acc_join : iprop(F4 (accE (F := F) c) ∗ accRest c) ⊢ accW c := by
  rw [← bigSep_F4]
  exact parts_join (ℓ := aAcc.view.loc (c : Thread nD τ)) (fun p : Fin 4 => acc3S (stp p)) acc_disjoint
theorem snd_parts : sndW c ⊢ iprop(F4 (rowE (F := F) c) ∗ sndRest c) := by
  rw [← bigSep_F4]
  exact parts_split (ℓ := aSnd.view.loc (c : Thread nD τ)) (fun p : Fin 4 => rowS (stp p)) row_disjoint
theorem snd_join : iprop(F4 (rowE (F := F) c) ∗ sndRest c) ⊢ sndW c := by
  rw [← bigSep_F4]
  exact parts_join (ℓ := aSnd.view.loc (c : Thread nD τ)) (fun p : Fin 4 => rowS (stp p)) row_disjoint

theorem some'_intro {S : Shape} (m : Memref sig .tc .vmem S .bf16) (f : m.view.ty.Contents (Elt F)) :
    (m.view.loc (c : Thread nD τ) ↦[m.view.set]{fullShare} f : sProp 𝕄) ⊢ some' c m := by
  unfold some'
  iintro H
  iexists _
  iapply (owns_intro (c : Thread nD τ) m fullShare f) $$ H

/-- A step's part of the receive buffer is its eight slots. -/
theorem all_slots (p : Fin 4) : allE (F := F) c p ⊢ sL (fun d => some' c ((stp p).slot d)) fin8 := by
  unfold allE
  iintro ⟨%f, H⟩
  ihave H := (show (aRs.view.loc (c : Thread nD τ) ↦[allS (stp p)]{fullShare} f : sProp 𝕄) ⊢ sL (fun d => some' c ((stp p).slot d)) fin8 from by
    rw [all_eq, pointsTo_biUnion _ _ (fun d _ d' _ h => slot_disjoint (stp p) d d' h), bigSep_fin8]
    exact sL_mono _ _ (fun d => some'_intro c ((stp p).slot d) f) fin8) $$ H
  iexact H

/-- The result's buffer is its blocks. -/
theorem out_blocks : outW (F := F) c ⊢ grid fun p d => some' c ((stp p).outBlk d) := by
  unfold outW
  iintro ⟨%f, H⟩
  ihave H := (show (aOut.view.loc (c : Thread nD τ) ↦[Finset.univ]{fullShare} f : sProp 𝕄) ⊢ grid fun p d => some' c ((stp p).outBlk d) from by
    rw [outs_univ, pointsTo_biUnion _ _ (fun x _ x' _ h => out_disjoint x x' h)]
    exact bigSep_mono fun x _ => some'_intro c ((stp x.1).outBlk x.2) f) $$ H
  iexact H

/-- The blocks at the sums are the result. -/
theorem out_join : grid (fun p d => owns (c : Thread nD τ) ((stp p).outBlk d) fullShare (accB I p d))
    ⊢ (aOut.view.loc (c : Thread nD τ) ↦{fullShare} outV I : sProp 𝕄) := by
  show _ ⊢ (aOut.view.loc (c : Thread nD τ) ↦[Finset.univ]{fullShare} outV I : sProp 𝕄)
  rw [outs_univ, pointsTo_biUnion _ _ (fun x _ x' _ h => out_disjoint x x' h)]
  exact bigSep_mono fun x _ => owns_pts c ((stp x.1).outBlk x.2) fullShare _ (outV I) (read_outBlk I x.1 x.2)

/-- A step's sent blocks are its rows of the send buffer. -/
theorem snd_rows (p : Fin 4) (w : FVec F (SRow (stp p).nc) .bf16) :
    sL (fun d => owns (c : Thread nD τ) ((stp p).sndBlk d) fullShare (blkV (stp p) w d)) fin8 ⊢ rowE (F := F) c p := by
  unfold rowE
  have h : ∀ f : S2048x1024.Idx → Elt F .bf16, sL (fun d => owns (c : Thread nD τ) ((stp p).sndBlk d) fullShare (blkV (stp p) w d)) fin8
      ⊢ (aSnd.view.loc (c : Thread nD τ) ↦[rowS (stp p)]{fullShare} (rowV (stp p)).write (Elt F) f w Finset.univ : sProp 𝕄) := fun f => by
    rw [row_eq, pointsTo_biUnion _ _ (fun d _ d' _ h => snd_disjoint (stp p) d d' h), bigSep_fin8]
    exact sL_mono _ _ (fun d => owns_pts c ((stp p).sndBlk d) fullShare _ _ (read_sndBlk (stp p) d f w)) fin8
  iintro H
  iexists _
  iapply (h fun _ => dflt) $$ H

/-- The shares of a step's sum are its part of the accumulator. -/
theorem acc_rows (p : Fin 4) : sL (fun d => owns (c : Thread nD τ) (stp p).accBlk (accQ d) (accB I p c)) fin8 ⊢ accE (F := F) c p := by
  unfold accE
  have h : sL (fun d => owns (c : Thread nD τ) (stp p).accBlk (accQ d) (accB I p c)) fin8
      ⊢ (aAcc.view.loc (c : Thread nD τ) ↦[acc3S (stp p)]{fullShare} accV I c : sProp 𝕄) := by
    rw [← accS_eq, ShareLeaves.pointsTo_leaves _ _ 3 fullShare]
    refine BI.Entails.trans ?_ (BIBase.Entails.of_eq (bigSep_fin8 _).symm)
    exact sL_mono _ _ (fun d => owns_pts c (stp p).accBlk (accQ d) _ (accV I c) (read_accBlk I c p)) fin8
  iintro H
  iexists _
  iapply h $$ H

end Cert.KernelIdeal.Pf

end
-- ==== Proof.Body.lean ====
/- The whole body on one device: from the operands, the buffers and what the launch deals, to the result. -/
module

public import proofs.«01_k».proof.Proof.Bufs

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ
local notation "Pg" => Prog (TpuEff nD τ sig (Elt F) Λ₀ Proc.tc) PUnit

variable (I : Dev nD → Ins F) (K : GSem nD τ sig → ℕ) (c : Dev nD)

/-! ## What a device starts with -/

/-- A kind, a step and a device: one copy's semaphore. -/
abbrev Trip : Type := Fin 4 × Fin 4 × Fin 8
abbrev tcell (x : Trip) (c : Dev nD) : GSem nD τ sig := cell x.1 x.2.1 x.2.2 c

/-- The first round of each of the device's cells, reached. -/
def allReached : sProp 𝕄 := bigSep Finset.univ fun x : Trip => reached ER (tcell x c) 0
instance allReached_persistent : BI.Persistent (allReached (F := F) c) := by unfold allReached; infer_instance
theorem reached_at (k p : Fin 4) (d : Fin 8) : allReached (F := F) c ⊢ reached ER (cell k p d c) 0 :=
  bigSep_elim (Finset.mem_univ ((k, p, d) : Trip))

/-- The rights to the payments the device makes by its copies. -/
def myTok (p : Fin 4) (d : Fin 8) : sProp 𝕄 :=
  iprop(dutyTok ER (cell 0 p d c) 0 0 ∗ dutyTok ER (cell 1 p c d) 0 0 ∗ dutyTok ER (cell 2 p d c) 0 0 ∗ dutyTok ER (cell 3 p c d) 0 0)
/-- The credit for what the other devices' copies will pay. -/
def myCred (p : Fin 4) (d : Fin 8) : sProp 𝕄 := iprop(cred (tallyAt (cell 1 p d c) () (Nn p)) ∗ cred (tallyAt (cell 3 p d c) () (Nn p)))
/-- Where the device stands at the cells of one copy's kinds: at round `R`. -/
def myAt (R : ℕ) (p : Fin 4) (d : Fin 8) : sProp 𝕄 :=
  iprop(atPos ER (cell 0 p d c) R ∅ 0 ∗ atPos ER (cell 1 p d c) R ∅ 0 ∗ atPos ER (cell 2 p d c) R ∅ 0 ∗ atPos ER (cell 3 p d c) R ∅ 0)

/-- What the barrier signals need. -/
def barTok (d : Fin 8) : sProp 𝕄 := iprop(reached ER (barCell d) 0 ∗ dutyTok ER (barCell d) 0 c)

/-- The four buffers the kernel writes, at whatever they hold. -/
def bufsE : sProp 𝕄 := iprop(ctxE c ∗ sndW c ∗ rsW c ∗ accW c)

/-- All a device starts with. -/
def start : sProp 𝕄 :=
  iprop(invs I K ∗ levAts L lv ∗ allReached c ∗ ops I c ∗ bufsE c ∗ outW c ∗ owesE c (O₀ c)
    ∗ sL (barTok c) fin8 ∗ (atPos ER (barCell c) 0 ∅ 0 ∗ cred (tallyAt (barCell c) () 8)) ∗ grid (myTok c) ∗ grid (myCred c) ∗ grid (myAt c 0))

/-- All it ends with. -/
def finish : sProp 𝕄 :=
  iprop(ops I c ∗ bufsE c ∗ (aOut.view.loc (c : Thread nD τ) ↦{fullShare} outV I) ∗ owesE c 0
    ∗ semVal (barCell c) 0 ∗ bigSep Finset.univ fun x : Trip => semVal (tcell x c) 0)

/-! ## The barrier's payments -/

theorem F4_barPay (d e : Dev nD) : (F4 fun p => barPay1 d e p : sProp 𝕄) = barPay d e := rfl

/-- What the device gives away with its signals. -/
theorem give : iprop(allReached c ∗ sL (barTok c) fin8 ∗ F4 (allE (F := F) c) ∗ outW c)
    ⊢ sL (fun d : Fin 8 => iprop(reached ER (barCell d) 0 ∗ dutyTok ER (barCell d) 0 c ∗ barPay d c)) fin8 := by
  iintro ⟨#Hr, Hb, Ha, Ho⟩
  ihave Ho := (out_blocks c) $$ Ho
  ihave Ha := (show F4 (allE (F := F) c) ⊢ grid fun p d => some' c ((stp p).slot d) from by
    rw [grid_steps, ← bigSep_F4, ← bigSep_F4]
    exact bigSep_mono fun p _ => all_slots c p) $$ Ha
  ihave H := (Entails.of_eq (grid_sep (fun p d => some' (F := F) c ((stp p).slot d)) (fun p d => some' c ((stp p).outBlk d))).symm) $$ [Ha Ho]
  · isplitl [Ha] <;> iassumption
  ihave H := (grid_with (allReached c) (fun p d => iprop(some' (F := F) c ((stp p).slot d) ∗ some' c ((stp p).outBlk d))) (fun p d => barPay1 d c p) (fun p d => by
    unfold barPay1
    iintro ⟨#Hr, H1, H2⟩
    isplitl [H1]; · iexact H1
    isplitl [H2]; · iexact H2
    isplitr; · iapply (reached_at c 1 p d); iexact Hr
    iapply (reached_at c 3 p d); iexact Hr)) $$ [H]
  · isplitr; · iexact Hr
    iexact H
  ihave H := (Entails.of_eq (grid_devs (fun p d => barPay1 (F := F) d c p))) $$ H
  ihave H := (sL_sep (barTok c) (fun d => F4 fun p => barPay1 (F := F) d c p) fin8) $$ [Hb H]
  · isplitl [Hb] <;> iassumption
  iapply (sL_mono _ _ (fun d => by
    unfold barTok
    iintro ⟨⟨H1, H2⟩, H3⟩
    isplitl [H1]; · iexact H1
    isplitl [H2]; · iexact H2
    iapply (Entails.of_eq (F4_barPay d c)) $$ H3) fin8) $$ H

/-- What the device has for its copies once it has been given the others' places. -/
theorem take : iprop(allReached c ∗ bigSep Finset.univ (barPay (F := F) c) ∗ grid (myTok c))
    ⊢ iprop(F4 (fun p => sL (rsTok (F := F) c p) fin8) ∗ F4 (fun p => sL (agTok (F := F) c p) fin8)) := by
  rw [← grid_steps, ← grid_steps, ← grid_sep, bigSep_fin8]
  iintro ⟨#Hr, Hb, Ht⟩
  ihave Hb := (Entails.of_eq (show sL (barPay (F := F) c) fin8 = sL (fun d => F4 fun p => barPay1 (F := F) c d p) fin8 from rfl)) $$ Hb
  ihave Hb := (Entails.of_eq (grid_devs (fun p d => barPay1 (F := F) c d p)).symm) $$ Hb
  ihave H := (Entails.of_eq (grid_sep (fun p d => barPay1 (F := F) c d p) (myTok c)).symm) $$ [Hb Ht]
  · isplitl [Hb] <;> iassumption
  iapply (grid_with (allReached c) (fun p d => iprop(barPay1 (F := F) c d p ∗ myTok c p d)) (fun p d => iprop(rsTok c p d ∗ agTok c p d)) (fun p d => by
    unfold barPay1 myTok rsTok agTok
    iintro ⟨#Hr, ⟨H1, H2, H3, H4⟩, T0, T1, T2, T3⟩
    isplitl [H1 H3 T0 T1]
    · isplitl [H1]; · iexact H1
      isplitl [T0]; · iexact T0
      isplitr; · iapply (reached_at c 0 p d); iexact Hr
      isplitl [T1] <;> iassumption
    · isplitl [H2]; · iexact H2
      isplitl [T2]; · iexact T2
      isplitr; · iapply (reached_at c 2 p d); iexact Hr
      isplitl [T3] <;> iassumption)) $$ [H]
  isplitr; · iexact Hr
  iexact H

/-! ## The cells are closed -/

/-- A family over all the device's copies' cells, kind by kind. -/
theorem trips (Φ : Fin 4 → Fin 4 → Fin 8 → sProp 𝕄) :
    bigSep Finset.univ (fun x : Trip => Φ x.1 x.2.1 x.2.2) = grid fun p d => F4 fun k => Φ k p d := by
  rw [bigSep_univ_prod, bigSep_univ_comm]
  exact bigSep_congr fun x _ => bigSep_F4 fun k => Φ k x.1 x.2

theorem close_bar : iprop(invs I K ∗ atPos ER (barCell c) 1 ∅ 0) ⊢ (|={Set.univ}=> semVal (barCell c) 0 : sProp 𝕄) := by
  iintro ⟨#Hi, H⟩
  iapply (Rounds.cell_close ER (rd I) (Set.mem_univ (K (barCell c))) id (duties_later I (barCell c)))
  isplitr; · iapply (invs_bar I K c); iexact Hi
  iexact H

theorem close_cells : iprop(invs I K ∗ grid (myAt (F := F) c 1)) ⊢ (|={Set.univ}=> bigSep Finset.univ fun x : Trip => semVal (tcell x c) 0 : sProp 𝕄) := by
  iintro ⟨#Hi, H⟩
  ihave H := (Entails.of_eq (show grid (myAt (F := F) c 1) = bigSep Finset.univ fun x : Trip => atPos ER (tcell x c) 1 ∅ 0 from
    (trips fun k p d => atPos ER (cell k p d c) 1 ∅ 0).symm)) $$ H
  iapply (Rounds.cells_close ER (rd I) Finset.univ (fun x : Trip => tcell x c) (fun x => K (tcell x c)) (fun _ _ => Set.mem_univ _) (fun _ _ => id) (fun _ => 1)
    (fun x _ => duties_later I (tcell x c)))
  iapply (bigSep_with_persistent (R := invs I K) (Φ := fun x : Trip => atPos ER (tcell x c) 1 ∅ 0) fun x _ => by
    iintro ⟨#Hi, H⟩
    isplitr; · iapply (invs_cell I K x.1 x.2.1 x.2.2 c); iexact Hi
    iexact H) $$ [H]
  isplitr; · iexact Hi
  iexact H

/-- What the last waits of a step need. -/
theorem endA (p : Fin 4) : iprop(sL (fun d => cred (tallyAt (cell 0 p d c) () (Nn p))) fin8 ∗ sL (fun d => atPos ER (cell 0 p d c) 0 ∅ 0) fin8
      ∗ sL (fun d => cred (tallyAt (cell 2 p d c) () (Nn p))) fin8 ∗ sL (fun d => atPos ER (cell 2 p d c) 0 ∅ 0) fin8)
    ⊢ (sL (fun d => iprop(waitA c 0 p d ∗ waitA c 2 p d)) fin8 : sProp 𝕄) := by
  iintro ⟨H1, H2, H3, H4⟩
  iapply (sL_sep (fun d => waitA (F := F) c 0 p d) (fun d => waitA c 2 p d) fin8)
  isplitl [H1 H2]
  · iapply (sL_sep (fun d => cred (tallyAt (cell 0 p d c) () (Nn p))) (fun d => atPos ER (cell 0 p d c) 0 ∅ 0) fin8)
    isplitl [H1] <;> iassumption
  · iapply (sL_sep (fun d => cred (tallyAt (cell 2 p d c) () (Nn p))) (fun d => atPos ER (cell 2 p d c) 0 ∅ 0) fin8)
    isplitl [H3] <;> iassumption

/-- What all the waits have given, put together. -/
theorem ends : iprop(grid (fun p d => iprop(waitB I c 0 p d ∗ waitB I c 2 p d)) ∗ grid (waitB I c 3) ∗ grid (fun p d => atPos ER (cell 1 p d c) 1 ∅ 0))
    ⊢ (iprop(F4 (rowE c) ∗ F4 (accE c) ∗ (aOut.view.loc (c : Thread nD τ) ↦{fullShare} outV I) ∗ grid (myAt c 1)) : sProp 𝕄) := by
  unfold waitB myAt
  rw [grid_sep, grid_sep, grid_sep, grid_sep, grid_sep, grid_sep, grid_sep]
  iintro ⟨⟨⟨A0, P0⟩, A2, P2⟩, ⟨A3, P3⟩, A1⟩
  isplitl [P0]
  · iapply (show grid (fun p d => pay I c 0 p d) ⊢ F4 (rowE c) from by
      rw [grid_steps, ← bigSep_F4, ← bigSep_F4]
      exact bigSep_mono fun p _ => snd_rows c p (ppV (I c) (stp p))) $$ P0
  isplitl [P2]
  · iapply (show grid (fun p d => pay I c 2 p d) ⊢ F4 (accE c) from by
      rw [grid_steps, ← bigSep_F4, ← bigSep_F4]
      exact bigSep_mono fun p _ => acc_rows I c p) $$ P2
  isplitl [P3]; · iapply (show grid (fun p d => pay I c 3 p d) ⊢ (aOut.view.loc (c : Thread nD τ) ↦{fullShare} outV I : sProp 𝕄) from out_join I c) $$ P3
  isplitl [A0]; · iexact A0
  isplitl [A1]; · iexact A1
  isplitl [A2] <;> iassumption

/-! ## The body -/

/-- The program, its steps by number. -/
theorem mainP_eq : mainP (F := F) c = fin8.foldr sigP (.op (.semWait barS 8) fun _ =>
  (stp 0).compP c <| (stp 1).compP c <| (stp 2).compP c <| (stp 0).accP c <| (stp 3).compP c <| (stp 1).accP c <| (stp 2).accP c <| (stp 3).accP c <|
  fin8.foldr (stp 0).agWaitP <| fin8.foldr (stp 1).agWaitP <| fin8.foldr (stp 2).agWaitP <| fin8.foldr (stp 3).agWaitP <|
  fin8.foldr ((stp 0).endWaitP c) <| fin8.foldr ((stp 1).endWaitP c) <| fin8.foldr ((stp 2).endWaitP c) <| fin8.foldr ((stp 3).endWaitP c) <|
  .ret ⟨⟩) := rfl

/-! What the device owes at each step's sum lies above what it waits for. -/

theorem ab0 : Above (if (0 : Fin 4) = 3 then 3 else 2) (oweG c 0 (oweR c 3 (oweG c 1 (oweG c 2 (oweG c 3 0))))) :=
  show Above 2 _ from above_oweG 2 c 0 _ (above_oweR 2 c 3 _ (above_oweG 2 c 1 _ (above_oweG 2 c 2 _ (above_oweG 2 c 3 0 (above_zero 2) (by decide)) (by decide)) (by decide)) (by decide)) (by decide)
theorem ab1 : Above (if (1 : Fin 4) = 3 then 3 else 2) (oweG c 1 (oweG c 2 (oweG c 3 0))) :=
  show Above 2 _ from above_oweG 2 c 1 _ (above_oweG 2 c 2 _ (above_oweG 2 c 3 0 (above_zero 2) (by decide)) (by decide)) (by decide)
theorem ab2 : Above (if (2 : Fin 4) = 3 then 3 else 2) (oweG c 2 (oweG c 3 0)) :=
  show Above 2 _ from above_oweG 2 c 2 _ (above_oweG 2 c 3 0 (above_zero 2) (by decide)) (by decide)
theorem ab3 : Above (if (3 : Fin 4) = 3 then 3 else 2) (oweG c 3 (0)) :=
  show Above 3 _ from above_oweG 3 c 3 0 (above_zero 3) (by decide)

/-- The body's weakest precondition: from the start, the result everywhere and every cell at zero. -/
theorem body_run (Kt : PUnit → sProp 𝕄) : iprop(start I K c ∗ (finish I c -∗ Kt ⟨⟩)) ⊢ run c (mainP c) Kt := by
  rw [mainP_eq]
  unfold start bufsE
  iintro ⟨⟨#Hi, #Hl, #Hr, Ho, ⟨HC, Hsnd, Hrs, Hacc⟩, Hout, HO, Hbt, ⟨HaB, HcB⟩, Ht, Hcr, Hat⟩, Hk⟩
  ihave Hsnd := (snd_parts c) $$ Hsnd
  icases Hsnd with ⟨Hsnd, HsndR⟩
  ihave Hrs := (rs_parts c) $$ Hrs
  icases Hrs with ⟨Hrs, HrsR⟩
  ihave Hacc := (acc_parts c) $$ Hacc
  icases Hacc with ⟨Hacc, HaccR⟩
  ihave Hg := (give (F := F) c) $$ [Hbt Hrs Hout]
  · isplitr; · iexact Hr
    isplitl [Hbt]; · iexact Hbt
    isplitl [Hrs] <;> iassumption
  ihave HO := (Entails.of_eq (show owesE (F := F) c (O₀ c) = iprop(∃ W, owes (c : Thread nD τ) (owe barCell 1 (O1 c) fin8) W) from rfl)) $$ HO
  icases HO with ⟨%W, HO⟩
  -- the barrier
  iapply (sig_run I K c (O1 c) W _ Kt fin8)
  isplitr; · iexact Hi
  isplitl [Hg]; · iexact Hg
  isplitl [HO]; · iexact HO
  iintro HO
  iapply (Rounds.wp_wait_rest_token 𝒱₀ ER (rd I) (c : Thread nD τ) none (κ := K (barCell c)) (wpE_semWait_eq 𝒱₀ (c : Thread nD τ) none Set.univ)
    (Set.mem_univ _) () (O := O1 c) (W := W) (R := 0) (m := 0) (T := ∅) ((Nat.zero_add _).trans (expect_bar I c).symm)) $$ [HcB HaB HO]
  · isplitr; · iapply (invs_bar I K c); iexact Hi
    isplitl [HcB]; · iexact HcB
    isplitl [HO]; · iexact HO
    isplitr; · iapply (mayWait_above c (.reg barS) 1 (O1 c) (above_O1 c) (le_of_eq (lv_bar c))); iexact Hl
    iexact HaB
  iintro ⟨HO, HaB, -, Hp⟩
  ihave Hp := (Entails.of_eq (rest_bar I c)) $$ Hp
  ihave Htk := (take (F := F) c) $$ [Hp Ht]
  · isplitr; · iexact Hr
    isplitl [Hp] <;> iassumption
  -- everything by step
  unfold myCred myAt
  ihave Hcr := (Entails.of_eq (grid_sep _ _)) $$ Hcr
  ihave Hat := (Entails.of_eq (grid_sep _ _)) $$ Hat
  icases Hcr with ⟨Hcr1, Hcr3⟩
  icases Hat with ⟨Hat0, Hat⟩
  ihave Hat := (Entails.of_eq (grid_sep _ _)) $$ Hat
  icases Hat with ⟨Hat1, Hat⟩
  ihave Hat := (Entails.of_eq (grid_sep _ _)) $$ Hat
  icases Hat with ⟨Hat2, Hat3⟩
  ihave Hw1 := (show iprop(grid (fun p d => cred (tallyAt (cell 1 p d c) () (Nn p))) ∗ grid (fun p d => atPos ER (cell 1 p d c) 0 ∅ 0)) ⊢ grid (fun p d => waitA (F := F) c 1 p d) from
    Entails.of_eq (grid_sep _ _).symm) $$ [Hcr1 Hat1]
  · isplitl [Hcr1] <;> iassumption
  ihave Hw3 := (show iprop(grid (fun p d => cred (tallyAt (cell 3 p d c) () (Nn p))) ∗ grid (fun p d => atPos ER (cell 3 p d c) 0 ∅ 0)) ⊢ grid (fun p d => waitA (F := F) c 3 p d) from
    Entails.of_eq (grid_sep _ _).symm) $$ [Hcr3 Hat3]
  · isplitl [Hcr3] <;> iassumption
  ihave Hw1 := (Entails.of_eq (grid_steps (fun p d => waitA (F := F) c 1 p d))) $$ Hw1
  ihave Hw3 := (Entails.of_eq (grid_steps (fun p d => waitA (F := F) c 3 p d))) $$ Hw3
  ihave Hat0 := (Entails.of_eq (grid_steps _)) $$ Hat0
  ihave Hat2 := (Entails.of_eq (grid_steps _)) $$ Hat2
  unfold F4
  icases Htk with ⟨⟨R0, R1, R2, R3⟩, G0, G1, G2, G3⟩
  icases Hsnd with ⟨S0, S1, S2, S3⟩
  icases Hacc with ⟨A0, A1, A2, A3⟩
  icases Hw1 with ⟨W0, W1, W2, W3⟩
  icases Hw3 with ⟨V0, V1, V2, V3⟩
  icases Hat0 with ⟨P0, P1, P2, P3⟩
  icases Hat2 with ⟨Q0, Q1, Q2, Q3⟩
  ihave HO := (show (owes (c : Thread nD τ) (O1 c) _ : sProp 𝕄) ⊢ owesE c (O1 c) from by unfold owesE; iintro H; iexists _; iexact H) $$ HO
  unfold O1
  -- the first three steps' computations
  iapply (comp_run I K c 0 _ _ Kt)
  isplitr; · iexact Hi
  isplitl [Ho]; · iexact Ho
  isplitl [HC]; · iexact HC
  isplitl [S0]; · iexact S0
  isplitl [R0]; · iexact R0
  isplitl [HO]; · iexact HO
  iintro ⟨Ho, HC, D0, HO⟩
  iapply (comp_run I K c 1 _ _ Kt)
  isplitr; · iexact Hi
  isplitl [Ho]; · iexact Ho
  isplitl [HC]; · iexact HC
  isplitl [S1]; · iexact S1
  isplitl [R1]; · iexact R1
  isplitl [HO]; · iexact HO
  iintro ⟨Ho, HC, D1, HO⟩
  iapply (comp_run I K c 2 _ _ Kt)
  isplitr; · iexact Hi
  isplitl [Ho]; · iexact Ho
  isplitl [HC]; · iexact HC
  isplitl [S2]; · iexact S2
  isplitl [R2]; · iexact R2
  isplitl [HO]; · iexact HO
  iintro ⟨Ho, HC, D2, HO⟩
  -- the first step's sum
  iapply (acc_run I K c 0 _ _ (ab0 c) Kt)
  isplitr; · iexact Hi
  isplitr; · iexact Hl
  isplitl [W0]; · iexact W0
  isplitl [A0]; · iexact A0
  isplitl [G0]; · iexact G0
  isplitl [HO]; · iexact HO
  iintro ⟨X0, B0, E0, HO⟩
  -- the last step's computation
  iapply (comp_run I K c 3 _ _ Kt)
  isplitr; · iexact Hi
  isplitl [Ho]; · iexact Ho
  isplitl [HC]; · iexact HC
  isplitl [S3]; · iexact S3
  isplitl [R3]; · iexact R3
  isplitl [HO]; · iexact HO
  iintro ⟨Ho, HC, D3, HO⟩
  -- the other sums
  iapply (acc_run I K c 1 _ _ (ab1 c) Kt)
  isplitr; · iexact Hi
  isplitr; · iexact Hl
  isplitl [W1]; · iexact W1
  isplitl [A1]; · iexact A1
  isplitl [G1]; · iexact G1
  isplitl [HO]; · iexact HO
  iintro ⟨X1, B1, E1, HO⟩
  iapply (acc_run I K c 2 _ _ (ab2 c) Kt)
  isplitr; · iexact Hi
  isplitr; · iexact Hl
  isplitl [W2]; · iexact W2
  isplitl [A2]; · iexact A2
  isplitl [G2]; · iexact G2
  isplitl [HO]; · iexact HO
  iintro ⟨X2, B2, E2, HO⟩
  iapply (acc_run I K c 3 _ _ (ab3 c) Kt)
  isplitr; · iexact Hi
  isplitr; · iexact Hl
  isplitl [W3]; · iexact W3
  isplitl [A3]; · iexact A3
  isplitl [G3]; · iexact G3
  isplitl [HO]; · iexact HO
  iintro ⟨X3, B3, E3, HO⟩
  -- the waits
  ihave HR := (show iprop(invs I K ∗ levAts L lv ∗ owesE c 0) ⊢ waitR I K c 0 from BI.Entails.refl _) $$ [HO]
  · isplitr; · iexact Hi
    isplitr; · iexact Hl
    iexact HO
  iapply (agWaits_run I K c 0 _ Kt)
  isplitl [HR]; · iexact HR
  isplitl [V0]; · iexact V0
  iintro ⟨HR, V0⟩
  iapply (agWaits_run I K c 1 _ Kt)
  isplitl [HR]; · iexact HR
  isplitl [V1]; · iexact V1
  iintro ⟨HR, V1⟩
  iapply (agWaits_run I K c 2 _ Kt)
  isplitl [HR]; · iexact HR
  isplitl [V2]; · iexact V2
  iintro ⟨HR, V2⟩
  iapply (agWaits_run I K c 3 _ Kt)
  isplitl [HR]; · iexact HR
  isplitl [V3]; · iexact V3
  iintro ⟨HR, V3⟩
  iapply (endWaits_run I K c 0 _ Kt)
  isplitl [HR]; · iexact HR
  isplitl [D0 E0 P0 Q0]; · iapply (endA c 0); isplitl [D0]; (· iexact D0); isplitl [P0]; (· iexact P0); isplitl [E0] <;> iassumption
  iintro ⟨HR, Y0⟩
  iapply (endWaits_run I K c 1 _ Kt)
  isplitl [HR]; · iexact HR
  isplitl [D1 E1 P1 Q1]; · iapply (endA c 1); isplitl [D1]; (· iexact D1); isplitl [P1]; (· iexact P1); isplitl [E1] <;> iassumption
  iintro ⟨HR, Y1⟩
  iapply (endWaits_run I K c 2 _ Kt)
  isplitl [HR]; · iexact HR
  isplitl [D2 E2 P2 Q2]; · iapply (endA c 2); isplitl [D2]; (· iexact D2); isplitl [P2]; (· iexact P2); isplitl [E2] <;> iassumption
  iintro ⟨HR, Y2⟩
  iapply (endWaits_run I K c 3 _ Kt)
  isplitl [HR]; · iexact HR
  isplitl [D3 E3 P3 Q3]; · iapply (endA c 3); isplitl [D3]; (· iexact D3); isplitl [P3]; (· iexact P3); isplitl [E3] <;> iassumption
  iintro ⟨HR, Y3⟩
  ihave HR := (Entails.of_eq (show waitR I K c 0 = iprop(invs I K ∗ levAts L lv ∗ owesE c 0) from rfl)) $$ HR
  icases HR with ⟨-, -, HO⟩
  -- the end
  ihave HY := (show iprop(sL (fun d => iprop(waitB I c 0 0 d ∗ waitB I c 2 0 d)) fin8 ∗ sL (fun d => iprop(waitB I c 0 1 d ∗ waitB I c 2 1 d)) fin8
      ∗ sL (fun d => iprop(waitB I c 0 2 d ∗ waitB I c 2 2 d)) fin8 ∗ sL (fun d => iprop(waitB I c 0 3 d ∗ waitB I c 2 3 d)) fin8)
      ⊢ grid (fun p d => iprop(waitB I c 0 p d ∗ waitB I c 2 p d)) from Entails.of_eq (grid_steps (fun p d => iprop(waitB I c 0 p d ∗ waitB I c 2 p d))).symm) $$ [Y0 Y1 Y2 Y3]
  · isplitl [Y0]; · iexact Y0
    isplitl [Y1]; · iexact Y1
    isplitl [Y2] <;> iassumption
  ihave HV := (show iprop(sL (waitB I c 3 0) fin8 ∗ sL (waitB I c 3 1) fin8 ∗ sL (waitB I c 3 2) fin8 ∗ sL (waitB I c 3 3) fin8)
      ⊢ grid (waitB I c 3) from Entails.of_eq (grid_steps (waitB I c 3)).symm) $$ [V0 V1 V2 V3]
  · isplitl [V0]; · iexact V0
    isplitl [V1]; · iexact V1
    isplitl [V2] <;> iassumption
  ihave HX := (show iprop(sL (fun d => atPos ER (cell 1 0 d c) 1 ∅ 0) fin8 ∗ sL (fun d => atPos ER (cell 1 1 d c) 1 ∅ 0) fin8
      ∗ sL (fun d => atPos ER (cell 1 2 d c) 1 ∅ 0) fin8 ∗ sL (fun d => atPos ER (cell 1 3 d c) 1 ∅ 0) fin8)
      ⊢ (grid (fun p d => atPos ER (cell 1 p d c) 1 ∅ 0) : sProp 𝕄) from Entails.of_eq (grid_steps (fun p d => atPos ER (cell 1 p d c) 1 ∅ 0)).symm) $$ [X0 X1 X2 X3]
  · isplitl [X0]; · iexact X0
    isplitl [X1]; · iexact X1
    isplitl [X2] <;> iassumption
  ihave HB := (show iprop(allE (F := F) c 0 ∗ allE c 1 ∗ allE c 2 ∗ allE c 3) ⊢ F4 (allE c) from BI.Entails.refl _) $$ [B0 B1 B2 B3]
  · isplitl [B0]; · iexact B0
    isplitl [B1]; · iexact B1
    isplitl [B2] <;> iassumption
  ihave HE := (ends I c) $$ [HY HV HX]
  · isplitl [HY]; · iexact HY
    isplitl [HV] <;> iassumption
  icases HE with ⟨Hsnd, Hacc, Hout, Hat⟩
  unfold run
  rw [wp_ret]
  imod (close_bar I K c) $$ [HaB] with HaB
  · isplitr; · iexact Hi
    iexact HaB
  imod (close_cells I K c) $$ [Hat] with Hat
  · isplitr; · iexact Hi
    iexact Hat
  imodintro
  iapply Hk
  unfold finish bufsE
  isplitl [Ho]; · iexact Ho
  isplitl [HC Hsnd HsndR HB HrsR Hacc HaccR]
  · isplitl [HC]; · iexact HC
    isplitl [Hsnd HsndR]; · iapply (snd_join c); isplitl [Hsnd] <;> iassumption
    isplitl [HB HrsR]; · iapply (rs_join c); isplitl [HB] <;> iassumption
    iapply (acc_join c); isplitl [Hacc] <;> iassumption
  isplitl [Hout]; · iexact Hout
  isplitl [HO]; · iexact HO
  isplitl [HaB] <;> iassumption

end Cert.KernelIdeal.Pf

end
-- ==== Proof.Region.lean ====
/- The kernel's region: what it is given, what it leaves, and its record among @main's items. -/
module

public import proofs.«01_k».proof.Proof.Body
public import proofs.«01_k».proof.Proof.Gen.KernelIdeal.Points
public import Idealize.ShloMosaic.Lib.Pipeline.ValueKit

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ UU ℕ

variable (I : Dev nD → Ins F) (o : Dev nD → S2048x1024.Idx → Elt F .bf16) (K : GSem nD τ sig → ℕ) (c : Dev nD)

/-! ## The kernel's own semaphores -/

/-- The copies' semaphores. -/
abbrev osem (x : Trip) : SemLoc sig := .dma (dsem x.1 x.2.1 x.2.2)

theorem dsem_inj {x y : Trip} (h : dsem x.1 x.2.1 x.2.2 = dsem y.1 y.2.1 y.2.2) : x = y := by
  have e := congrArg decode h
  rw [decode_dsem, decode_dsem] at e
  exact Option.some.inj e
theorem osem_inj : Function.Injective osem := fun x y h => dsem_inj (SemLoc.dma.inj h)
theorem osem_scoped : ∀ s : DmaSem sig, (SemLoc.dma s : SemLoc sig).isScoped .tc = true := by decide +kernel
theorem stage_sems : ∀ (w : Fin 6) (s : Fin (spec0 w).nbuf), ((spec0 w).sem s).val < 6 := by decide +kernel
theorem ownFacts : Pipeline.OwnSemFacts spec0 osem where
  isScoped x := osem_scoped _
  inj := osem_inj
  disj x w s h := by
    have h1 := congrArg Fin.val (SemLoc.dma.inj h)
    have h2 := stage_sems w s
    have h3 : (dsem x.1 x.2.1 x.2.2).val = 6 + 32 * x.1.val + 8 * x.2.1.val + x.2.2.val := rfl
    omega

/-! ## What the region is given and leaves -/

/-- A device's part of the protocol, its copies' cells not yet open. -/
def shut : sProp 𝕄 :=
  iprop(invs I K ∗ sL (barTok (F := F) c) fin8 ∗ (atPos ER (barCell c) 0 ∅ 0 ∗ cred (tallyAt (barCell c) () 8)) ∗ grid (myTok c) ∗ grid (myCred c)
    ∗ bigSep Finset.univ fun x : Trip => openTok ER (tcell x c))
/-- The same with its cells open. -/
def opened : sProp 𝕄 :=
  iprop(invs I K ∗ levAts L lv ∗ allReached c ∗ sL (barTok (F := F) c) fin8 ∗ (atPos ER (barCell c) 0 ∅ 0 ∗ cred (tallyAt (barCell c) () 8))
    ∗ grid (myTok c) ∗ grid (myCred c) ∗ grid (myAt c 0))

def Tk : sProp 𝕄 := iprop(∃ K, shut I K c)
def Xk : sProp 𝕄 := iprop(∃ K, opened I K c)
def Yk : sProp 𝕄 := semVal (barCell c) 0

/-- The pipeline's data: the five operands as they come, the result as the protocol leaves it. -/
def dat : Dat τ (Elt F) Unit ℕ UU ℕ cfg0 c where
  A w := match w with
    | ⟨0, _⟩ => (I c).x
    | ⟨1, _⟩ => (I c).wq
    | ⟨2, _⟩ => (I c).k
    | ⟨3, _⟩ => (I c).v
    | ⟨4, _⟩ => (I c).wo
    | ⟨5, _⟩ => o c
  after w _ := match w with
    | ⟨0, _⟩ => (I c).x
    | ⟨1, _⟩ => (I c).wq
    | ⟨2, _⟩ => (I c).k
    | ⟨3, _⟩ => (I c).v
    | ⟨4, _⟩ => (I c).wo
    | ⟨5, _⟩ => outV I
  Φ t := match t with
    | ⟨0, _⟩ => iprop(Xk I c ∗ bufsE c ∗ ∃ r, prngReg c r)
    | ⟨_ + 1, _⟩ => iprop(Yk c ∗ (bigSep Finset.univ fun x : Trip => semVal (tcell x c) 0) ∗ bufsE c ∗ ∃ r, prngReg c r)
  q _ := fullShare
  owed t := match t with
    | ⟨0, _⟩ => O₀ c
    | ⟨_ + 1, _⟩ => 0

abbrev pdats : (p : Fin 1) → (c : Dev nD) → Dat τ (Elt F) Unit ℕ UU ℕ (cfgs p) c := fun _ c => dat I o c

/-! ## The windows -/

/-- A whole buffer's contents held. -/
theorem owns_whole (b : Ref sig .tc) (X : b.ty.Contents (Elt F)) :
    (owns (Ix := Unit) (Name := ℕ) (U := UU) (Lvl := ℕ) (c : Thread nD τ) (Memref.whole b) fullShare X : sProp 𝕄) = iprop((c : Thread nD τ).loc b ↦{fullShare} X) := by
  have e : (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
    unfold owns
    simp only [Memref.view_whole, View.read_whole, View.set_whole]
  rw [e]
  refine BI.equiv_iff.mp ⟨?_, ?_⟩
  · show iprop(∃ f : Buf (Elt F) ((c : Thread nD τ).loc b), ⌜f = X⌝ ∗ ((c : Thread nD τ).loc b ↦{fullShare} f)) ⊢ (iprop((c : Thread nD τ).loc b ↦{fullShare} X) : sProp 𝕄)
    iintro ⟨%f, %h, H⟩
    subst h
    iexact H
  · show (iprop((c : Thread nD τ).loc b ↦{fullShare} X) : sProp 𝕄) ⊢ iprop(∃ f : Buf (Elt F) ((c : Thread nD τ).loc b), ⌜f = X⌝ ∗ ((c : Thread nD τ).loc b ↦{fullShare} f))
    iintro H
    iexists X
    isplitr
    · ipureintro; rfl
    iexact H

theorem idx0 (a : Fin 2) : win0_0.index t0_0 a = 0 := by fin_cases a <;> rfl
theorem before0 (d) : (dat I o c).before 0 t0_0 d = (I c).x := by
  rw [Dat.before_fetched _ _ _ (fetch0_0 t0_0)]
  funext i
  show (I c).x ((win0_0.blk t0_0).view.emb i) = (I c).x i
  congr 1
  funext a
  refine Fin.ext ?_
  blk_simp
  have h : win0_0.index t0_0 a = 0 := idx0 a
  rw [h, Nat.zero_mul, Nat.zero_add]
theorem idx1 (a : Fin 2) : win0_1.index t0_0 a = 0 := by fin_cases a <;> rfl
theorem before1 (d) : (dat I o c).before 1 t0_0 d = (I c).wq := by
  rw [Dat.before_fetched _ _ _ (fetch0_1 t0_0)]
  funext i
  show (I c).wq ((win0_1.blk t0_0).view.emb i) = (I c).wq i
  congr 1
  funext a
  refine Fin.ext ?_
  blk_simp
  have h : win0_1.index t0_0 a = 0 := idx1 a
  rw [h, Nat.zero_mul, Nat.zero_add]
theorem idx2 (a : Fin 4) : win0_2.index t0_0 a = 0 := by fin_cases a <;> rfl
theorem before2 (d) : (dat I o c).before 2 t0_0 d = (I c).k := by
  rw [Dat.before_fetched _ _ _ (fetch0_2 t0_0)]
  funext i
  show (I c).k ((win0_2.blk t0_0).view.emb i) = (I c).k i
  congr 1
  funext a
  refine Fin.ext ?_
  blk_simp
  have h : win0_2.index t0_0 a = 0 := idx2 a
  rw [h, Nat.zero_mul, Nat.zero_add]
theorem idx3 (a : Fin 4) : win0_3.index t0_0 a = 0 := by fin_cases a <;> rfl
theorem before3 (d) : (dat I o c).before 3 t0_0 d = (I c).v := by
  rw [Dat.before_fetched _ _ _ (fetch0_3 t0_0)]
  funext i
  show (I c).v ((win0_3.blk t0_0).view.emb i) = (I c).v i
  congr 1
  funext a
  refine Fin.ext ?_
  blk_simp
  have h : win0_3.index t0_0 a = 0 := idx3 a
  rw [h, Nat.zero_mul, Nat.zero_add]
theorem idx4 (a : Fin 2) : win0_4.index t0_0 a = 0 := by fin_cases a <;> rfl
theorem before4 (d) : (dat I o c).before 4 t0_0 d = (I c).wo := by
  rw [Dat.before_fetched _ _ _ (fetch0_4 t0_0)]
  funext i
  show (I c).wo ((win0_4.blk t0_0).view.emb i) = (I c).wo i
  congr 1
  funext a
  refine Fin.ext ?_
  blk_simp
  have h : win0_4.index t0_0 a = 0 := idx4 a
  rw [h, Nat.zero_mul, Nat.zero_add]

/-- The result's array ends at what the protocol leaves in the result's buffer. -/
theorem arr5 : (dat I o c).arrAt 5 cfg0.N = outV I := by
  refine (dat I o c).arrAt_eq_of_after_last 5 t0_0 (by decide +kernel) _ fun j => ?_
  show outV I _ = outV I _
  congr 1

/-! ## The body -/

theorem owesAt_intro (t : Fin (cfg0.N + 1)) (O : CellTallies nD τ sig Unit) (h : (dat I o c).owed t = O) :
    owesE (F := F) c O ⊢ ((dat I o c).owesAt () t : sProp 𝕄) := by
  unfold owesE Dat.owesAt Pipeline.owesWithin Dat.bound
  rw [h, show (dat I o c).recorded t = Set.univ from rfl]
  iintro ⟨%W, HO⟩
  iexists W
  isplitr
  · ipureintro; exact fun _ _ => Or.inl trivial
  iexact HO
theorem owesAt_elim (t : Fin (cfg0.N + 1)) (O : CellTallies nD τ sig Unit) (h : (dat I o c).owed t = O) :
    ((dat I o c).owesAt () t : sProp 𝕄) ⊢ owesE (F := F) c O := by
  unfold owesE Dat.owesAt Pipeline.owesWithin
  rw [h]
  iintro ⟨%W, -, HO⟩
  iexists W
  iexact HO

theorem after0 : (dat I o c).after 0 t0_0 = (I c).x := by dsimp only [dat]
theorem after1 : (dat I o c).after 1 t0_0 = (I c).wq := by dsimp only [dat]
theorem after2 : (dat I o c).after 2 t0_0 = (I c).k := by dsimp only [dat]
theorem after3 : (dat I o c).after 3 t0_0 = (I c).v := by dsimp only [dat]
theorem after4 : (dat I o c).after 4 t0_0 = (I c).wo := by dsimp only [dat]
theorem after5 : (dat I o c).after 5 t0_0 = outV I := by dsimp only [dat]

/-- One staging buffer's contents. -/
abbrev stg (b : Ref sig .tc) (X : b.ty.Contents (Elt F)) : sProp 𝕄 := iprop((c : Thread nD τ).loc b ↦{fullShare} X)

/-- What the body is handed. -/
def pre0 : sProp 𝕄 :=
  iprop((Xk I c ∗ bufsE c ∗ ∃ r, prngReg c r) ∗ (dat I o c).owesAt () t0_0.castSucc
    ∗ (∃ d, stg c cc0_stg0_0 ((dat I o c).before 0 t0_0 d)) ∗ (∃ d, stg c cc0_stg1_0 ((dat I o c).before 1 t0_0 d))
    ∗ (∃ d, stg c cc0_stg2_0 ((dat I o c).before 2 t0_0 d)) ∗ (∃ d, stg c cc0_stg3_0 ((dat I o c).before 3 t0_0 d))
    ∗ (∃ d, stg c cc0_stg4_0 ((dat I o c).before 4 t0_0 d)) ∗ (∃ d, stg c cc0_stg5_0 ((dat I o c).before 5 t0_0 d)))
/-- What it hands back. -/
def post0 : sProp 𝕄 :=
  iprop((Yk c ∗ (bigSep Finset.univ fun x : Trip => semVal (tcell x c) 0) ∗ bufsE c ∗ ∃ r, prngReg c r) ∗ (dat I o c).owesAt () t0_0.succ
    ∗ stg c cc0_stg0_0 (I c).x ∗ stg c cc0_stg1_0 (I c).wq ∗ stg c cc0_stg2_0 (I c).k ∗ stg c cc0_stg3_0 (I c).v ∗ stg c cc0_stg4_0 (I c).wo
    ∗ stg c cc0_stg5_0 (outV I))

theorem body_stage (Kt : PUnit → sProp 𝕄) : iprop(pre0 I o c ∗ (post0 I o c -∗ Kt ⟨⟩)) ⊢ run c (mainP c) Kt := by
  unfold pre0 Xk opened
  simp only [before0, before1, before2, before3, before4]
  iintro ⟨⟨⟨⟨%K, #Hi, #Hl, #Hr, Hbt, Hb, Ht, Hcr, Hat⟩, HB, Hp⟩, HO, ⟨%_, H0⟩, ⟨%_, H1⟩, ⟨%_, H2⟩, ⟨%_, H3⟩, ⟨%_, H4⟩, ⟨%d5, H5⟩⟩, Hk⟩
  ihave HO := (owesAt_elim I o c t0_0.castSucc (O₀ c) rfl) $$ HO
  iapply (body_run I K c Kt)
  isplitr [Hk Hp]
  · unfold start ops kv outW
    isplitr; · iexact Hi
    isplitr; · iexact Hl
    isplitr; · iexact Hr
    isplitl [H0 H1 H2 H3 H4]
    · isplitl [H0]; · iexact H0
      isplitl [H1]; · iexact H1
      isplitl [H4]; · iexact H4
      isplitl [H2] <;> iassumption
    isplitl [HB]; · iexact HB
    isplitl [H5]; · iexists _; iexact H5
    isplitl [HO]; · iexact HO
    isplitl [Hbt]; · iexact Hbt
    isplitl [Hb]; · iexact Hb
    isplitl [Ht]; · iexact Ht
    isplitl [Hcr] <;> iassumption
  unfold finish ops kv
  iintro ⟨⟨H0, H1, H4, H2, H3⟩, HB, H5, HO, Hs, Hcl⟩
  iapply Hk
  unfold post0 Yk
  isplitl [Hs Hcl HB Hp]
  · isplitl [Hs]; · iexact Hs
    isplitl [Hcl]; · iexact Hcl
    isplitl [HB] <;> iassumption
  isplitl [HO]; · iapply (owesAt_intro I o c t0_0.succ 0 rfl); iexact HO
  isplitl [H0]; · iexact H0
  isplitl [H1]; · iexact H1
  isplitl [H2]; · iexact H2
  isplitl [H3]; · iexact H3
  isplitl [H4] <;> iassumption

theorem phi_pre : (dat I o c).Φ t0_0.castSucc = iprop(Xk I c ∗ bufsE c ∗ ∃ r, prngReg c r) := rfl
theorem phi_post : (dat I o c).Φ t0_0.succ = iprop(Yk c ∗ (bigSep Finset.univ fun x : Trip => semVal (tcell x c) 0) ∗ bufsE c ∗ ∃ r, prngReg c r) := rfl
theorem prog_eq : defs₀ (F := F) Proc.tc cfg0.body (cfg0.bodyArgs t0_0 (cfg0.slots t0_0)) = bodyAt0 t0_0 := rfl

theorem self_and_back (A B : sProp 𝕄) : A ⊢ iprop(A ∗ (B -∗ B)) := by
  iintro H
  isplitl [H]; · iexact H
  iintro H; iexact H

/-- The body, as the pipeline wants it: from what it is handed to what it hands back. -/
theorem body_obligation : Pipeline.BodyObligation (dat I o c) (defs₀ (F := F)) 𝒱₀ () Set.univ := fun t => by
  obtain rfl := fin_N0 t
  rw [bigSep_W0, bigSep_W0]
  simp only [owns_whole]
  rw [after0, after1, after2, after3, after4, after5]
  rw [phi_pre, phi_post, prog_eq]
  rw [body_eq, wp_deviceId]
  rw [show ((c : Thread nD τ)).1 = c from rfl]
  have key := body_stage I o c (fun _ => post0 I o c)
  unfold run wpE at key
  unfold pre0 post0 at key
  generalize mainP (F := F) c = P at key ⊢
  exact BI.Entails.trans (self_and_back _ _) key

end Cert.KernelIdeal.Pf
-- ==== Proof.Record.lean ====
/- The region's record among @main's items: what it is entered with and left with, the unscoped buffers included. -/
module

public import proofs.«01_k».proof.Proof.Region
public import Idealize.ShloMosaic.Lib.Pipeline.RegionArrays

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ UU ℕ

section Generic

variable (I : Dev nD → Ins F) (o : Dev nD → S2048x1024.Idx → Elt F .bf16) (c : Dev nD)

/-- The device's own copies' cells are opened when its region starts. -/
theorem region_open : iprop(Tk I c ∗ Pipeline.ownSems0 osem c ∗ levAts L lv) ⊢ (|={Set.univ}=> Xk I c : sProp 𝕄) := by
  unfold Tk Xk shut
  iintro ⟨⟨%K, #Hi, Hbt, Hb, Ht, Hcr, Hop⟩, Hs, #Hl⟩
  have hinv : invs I K ⊢ (bigSep Finset.univ fun x : Trip => cellInv ER (rd I) (K (tcell x c)) (tcell x c) : sProp 𝕄) := by
    have h := bigSep_with_persistent (S := (Finset.univ : Finset Trip)) (R := invs I K) (Φ := fun _ => (iprop(emp) : sProp 𝕄))
      (Ψ := fun x : Trip => (cellInv ER (rd I) (K (tcell x c)) (tcell x c) : sProp 𝕄))
      (fun x _ => by iintro ⟨H, -⟩; iapply (invs_cell I K x.1 x.2.1 x.2.2 c); iexact H)
    iintro #H
    iapply h
    isplitr; · iexact H
    iapply (Entails.of_eq (BI.bigSep_emp_const (Finset.univ : Finset Trip)).symm)
    iempintro
  imod (Rounds.cells_open ER (rd I) (Finset.univ : Finset Trip) (fun x => tcell x c) (fun x => K (tcell x c)) (fun _ _ => Set.mem_univ _)) $$ [Hop Hs] with H
  · isplitl [Hop]
    · iapply (Entails.of_eq (bigSep_sep' (Finset.univ : Finset Trip) (fun x => (cellInv ER (rd I) (K (tcell x c)) (tcell x c) : sProp 𝕄)) fun x => openTok ER (tcell x c)).symm)
      isplitr; · iapply hinv; iexact Hi
      iexact Hop
    · iapply (Entails.of_eq (show Pipeline.ownSems0 osem c = bigSep Finset.univ fun x : Trip => (semVal (tcell x c) 0 : sProp 𝕄) from rfl)) $$ Hs
  ihave H2 := (Entails.of_eq (bigSep_sep' (Finset.univ : Finset Trip) (fun x => (atPos ER (tcell x c) 0 ∅ 0 : sProp 𝕄)) fun x => reached ER (tcell x c) 0)) $$ H
  icases H2 with ⟨Hat, #Hr⟩
  imodintro
  iexists K
  unfold opened allReached
  isplitr; · iexact Hi
  isplitr; · iexact Hl
  isplitr; · iexact Hr
  isplitl [Hbt]; · iexact Hbt
  isplitl [Hb]; · iexact Hb
  isplitl [Ht]; · iexact Ht
  isplitl [Hcr]; · iexact Hcr
  iapply (Entails.of_eq (trips (F := F) fun k p d => atPos ER (cell k p d c) 0 ∅ 0)) $$ Hat

theorem held_empty (V : Valuation τ sig (Elt F)) : (StableHlo.held (c : Thread nD τ) ∅ V : sProp 𝕄) = BI.emp := by
  unfold StableHlo.held
  exact BI.bigSep_empty

theorem region_in (V : Valuation τ sig (Elt F)) :
    iprop(Pipeline.scopedRest (Pipeline.pin (pcfgs (F := F)) adm 0).spec c ∗ (∃ r, prngReg c r) ∗ StableHlo.held (c : Thread nD τ) ∅ V ∗ Xk I c) ⊢ (dat I o c).Φ 0 := by
  rw [show (dat I o c).Φ 0 = iprop(Xk I c ∗ bufsE c ∗ ∃ r, prngReg c r) from rfl, scopedRest0_eq]
  unfold bufsE ctxE sndW rsW accW
  iintro ⟨Hs, Hp, -, HX⟩
  isplitl [HX]; · iexact HX
  isplitl [Hs]; · iexact Hs
  iexact Hp

theorem region_out (V : Valuation τ sig (Elt F)) :
    (dat I o c).Φ (Fin.last (Pipeline.pin (pcfgs (F := F)) adm 0).N)
      ⊢ iprop(Pipeline.scopedRest (Pipeline.pin (pcfgs (F := F)) adm 0).spec c ∗ (∃ r, prngReg c r) ∗ StableHlo.held (c : Thread nD τ) ∅ V ∗ Pipeline.ownSems0 osem c ∗ Yk c) := by
  rw [show (dat I o c).Φ (Fin.last (Pipeline.pin (pcfgs (F := F)) adm 0).N)
    = iprop(Yk c ∗ (bigSep Finset.univ fun x : Trip => semVal (tcell x c) 0) ∗ bufsE c ∗ ∃ r, prngReg c r) from rfl, scopedRest0_eq, held_empty]
  unfold bufsE ctxE sndW rsW accW Pipeline.ownSems0
  iintro ⟨HY, Hs, HB, Hp⟩
  isplitl [HB]; · iexact HB
  isplitl [Hp]; · iexact Hp
  isplitr; · iempintro
  isplitl [Hs]; · iexact Hs
  iexact HY

theorem share_eq (w) : (dat I o c).share w = fullShare := by unfold Dat.share; split <;> rfl

theorem lv_stage (w : Fin 6) (s : Fin (spec0 w).nbuf) : lv ((c : Thread nD τ), .dma ((spec0 w).sem s)) () ≤ 0 := by
  have h := stage_sems w s
  show (match decode ((spec0 w).sem s) with
    | some (1, p, _) => if p = 3 then 3 else 2
    | some (3, _, _) => 4
    | _ => 0) ≤ 0
  rw [show decode ((spec0 w).sem s) = none from dif_neg (by omega)]

theorem owed_cut (t : Fin (cfg0.N + 1)) : Above 0 ((dat I o c).owed t) := by
  obtain ⟨n, hn⟩ := t
  cases n with
  | zero => exact above_O₀ c
  | succ n => exact above_zero 0

end Generic

/-! ## The record -/

variable (m : (ℓ : Loc nD τ sig) → Buf (Elt F) ℓ)

/-- The five operands each device's region is entered with. -/
def IN (c : Dev nD) : Ins F where
  x := V1 m c main_v23
  wq := V1 m c main_v9
  k := V1 m c main_v18
  v := V1 m c main_v22
  wo := V1 m c main_v14

/-- What the result's buffer holds when the region starts. -/
def pre24 (c : Dev nD) : S2048x1024.Idx → Elt F .bf16 := V1 m c main_v24

/-- What the region leaves in the buffer it changes. -/
def outs : Outs (F := F) := fun _ r c => if h : r = main_v24 then h ▸ (outV (IN m) : Buf (Elt F) ((c : Thread nD τ).loc main_v24)) else V1 m c r

theorem outs_24 (c : Dev nD) : outs m 2 main_v24 c = (outV (IN m) : Buf (Elt F) ((c : Thread nD τ).loc main_v24)) := by
  unfold outs
  rw [dif_pos rfl]

theorem v2_24 (c : Dev nD) : V2 m (outs m) c main_v24 = (outV (IN m) : Buf (Elt F) ((c : Thread nD τ).loc main_v24)) := by
  show Function.update (V1 m c) (main_v24 : DevRef τ sig) (outs m 2 main_v24 c) main_v24 = _
  rw [Function.update_self, outs_24]

/-- The buffers the windows' arrays are not. -/
abbrev others : Finset (DevRef τ sig) := Pipeline.ucRefs τ sig \ Pipeline.arrRefs spec0

theorem arrs_sub : Pipeline.arrRefs (τ := τ) spec0 ⊆ Pipeline.ucRefs τ sig :=
  Pipeline.arrRefs_sub_ucRefs spec0 (by decide)

theorem arr_mem (w : Fin 6) : (Proc.devRef .tc (Pipeline.arrRef spec0 w) : DevRef τ sig) ∈ Pipeline.arrRefs (τ := τ) spec0 :=
  Finset.mem_map.mpr ⟨_, Finset.mem_image.mpr ⟨w, Finset.mem_univ _, rfl⟩, rfl⟩

theorem others_same (c : Dev nD) (b : DevRef τ sig) (hb : b ∈ others \ ∅) : V2 m (outs m) c b = V1 m c b := by
  have h := (Finset.mem_sdiff.mp (Finset.mem_sdiff.mp hb).1).2
  refine Function.update_of_ne (fun e => h ?_) _ _
  rw [e]
  exact arr_mem 5

theorem arr_in (c : Dev nD) : ∀ w : Fin 6, (dat (IN m) (pre24 m) c).arrAt w 0 = V1 m c (Proc.devRef .tc (Pipeline.arrRef spec0 w)) := fun w => by
  fin_cases w <;> rfl

theorem arr_out (c : Dev nD) : ∀ w : Fin 6, (dat (IN m) (pre24 m) c).arrAt w cfg0.N = V2 m (outs m) c (Proc.devRef .tc (Pipeline.arrRef spec0 w)) := fun w => by
  fin_cases w
  · exact ((dat (IN m) (pre24 m) c).arrAt_in 0 rfl _).trans (V2_of m (outs m) c main_v23 (by decide)).symm
  · exact ((dat (IN m) (pre24 m) c).arrAt_in 1 rfl _).trans (V2_of m (outs m) c main_v9 (by decide)).symm
  · exact ((dat (IN m) (pre24 m) c).arrAt_in 2 rfl _).trans (V2_of m (outs m) c main_v18 (by decide)).symm
  · exact ((dat (IN m) (pre24 m) c).arrAt_in 3 rfl _).trans (V2_of m (outs m) c main_v22 (by decide)).symm
  · exact ((dat (IN m) (pre24 m) c).arrAt_in 4 rfl _).trans (V2_of m (outs m) c main_v14 (by decide)).symm
  · exact (arr5 (IN m) (pre24 m) c).trans (v2_24 m c).symm

set_option backward.isDefEq.respectTransparency.types false in
/-- The region among @main's items. -/
def reg : Pipeline.RegionSeg (pcfgs (F := F)) adm (pdats (IN m) (pre24 m)) () defs₀ 𝒱₀ L lv 0 :=
  Pipeline.RegionSeg.ofTalk (pcfgs (F := F)) adm (pdats (IN m) (pre24 m)) () defs₀ 𝒱₀ L lv 0 osem ownFacts
    ∅ others (Finset.empty_subset _) launch0.toP rfl (fun c => (body_obligation (IN m) (pre24 m) c).loose)
    (fun _ => 0) O₀ (fun c => (zero_add _).symm) (fun c => rfl) (fun _ => rfl) (fun c w => share_eq (IN m) (pre24 m) c w)
    (V1 m) (V2 m (outs m)) (others_same m)
    (Tk (IN m)) Yk (Xk (IN m)) Yk (region_open (IN m)) (fun c => region_in (IN m) (pre24 m) c (V1 m c)) (fun c => region_out (IN m) (pre24 m) c (V2 m (outs m) c))
    (fun c => by iintro H; imodintro; iexact H)
    (fun _ => 0)
    ⟨fun c w s => by rw [L_tc]; exact Finset.mem_singleton_self _, fun c w s => lv_stage c w s, fun c t g i h => owed_cut (IN m) (pre24 m) c t g i h⟩
    (fun _ => iprop(emp))
    (arr_in m) (arr_out m)

/-- What rides along with the buffers before the region, and after it. -/
def E : Fin 2 → Dev nD → sProp 𝕄
  | 0, c => iprop(Tk (IN m) c ∗ (∃ r, prngReg c r) ∗ owesE c (O₀ c))
  | 1, c => iprop(Yk c ∗ owesE c 0)

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk (IN m) c ∗ ∃ Wd, owes (c : Thread nD τ) (0 + O₀ c) Wd)
  rw [StableHlo.held_sub_split (c : Thread nD τ) arrs_sub (V1 m c), zero_add]
  unfold E owesE
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg_post (c : Dev nD) : (reg m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [StableHlo.held_sub_split (c : Thread nD τ) arrs_sub (V2 m (outs m) c)]
  unfold E owesE
  iintro ⟨Ha, -, ⟨Ho, -⟩, HY, HO⟩
  isplitl [Ha Ho]
  · isplitl [Ha] <;> iassumption
  isplitl [HY]; · iexact HY
  iexact HO

end Cert.KernelIdeal.Pf
-- ==== Proof.Deal.lean ====
/- What the launch deals: the cells, the rights to pay them, and the credit for what will be paid, each handed to the device that uses it. -/
module

public import proofs.«01_k».proof.Proof.Record

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The cells and the payments -/

theorem cell_eq {k p k' p' : Fin 4} {d d' : Fin 8} {c c' : Dev nD} :
    cell k p d c = cell k' p' d' c' ↔ (k = k' ∧ p = p' ∧ d = d') ∧ c = c' := by
  constructor
  · intro h
    have h1 : (c : Thread nD τ) = (c' : Thread nD τ) := congrArg Prod.fst h
    have h2 : dsem k p d = dsem k' p' d' := SemLoc.dma.inj (congrArg Prod.snd h)
    have h3 := dsem_inj (x := (k, p, d)) (y := (k', p', d')) h2
    exact ⟨⟨congrArg Prod.fst h3, congrArg (fun x : Trip => x.2.1) h3, congrArg (fun x : Trip => x.2.2) h3⟩, congrArg (fun t : Thread nD τ => t.1) h1⟩
  · rintro ⟨⟨rfl, rfl, rfl⟩, rfl⟩; rfl
theorem bar_eq {c c' : Dev nD} : barCell c = barCell c' ↔ c = c' :=
  ⟨fun h => congrArg (fun g : GSem nD τ sig => g.1.1) h, fun h => by rw [h]⟩
theorem bar_ne_cell (k p : Fin 4) (d : Fin 8) (c c' : Dev nD) : barCell c ≠ cell k p d c' :=
  fun h => nomatch (congrArg Prod.snd h : (SemLoc.reg barS : SemLoc sig) = .dma (dsem k p d))

def barEmb : Dev nD ↪ GSem nD τ sig := ⟨fun c => barCell c, fun _ _ h => bar_eq.mp h⟩
def cellEmb : Trip × Dev nD ↪ GSem nD τ sig :=
  ⟨fun x => tcell x.1 x.2, fun x y h => by
    obtain ⟨⟨h1, h2, h3⟩, h4⟩ := cell_eq.mp h
    exact Prod.ext (Prod.ext h1 (Prod.ext h2 h3)) h4⟩

/-- The barriers' cells, and the copies'. -/
abbrev barCells : Finset (GSem nD τ sig) := Finset.univ.map barEmb
abbrev copyCells : Finset (GSem nD τ sig) := Finset.univ.map cellEmb

theorem cells_disjoint : Disjoint (barCells : Finset (GSem nD τ sig)) copyCells := by
  rw [Finset.disjoint_left]
  rintro g h1 h2
  obtain ⟨c, -, rfl⟩ := Finset.mem_map.mp h1
  obtain ⟨x, -, h⟩ := Finset.mem_map.mp h2
  exact bar_ne_cell _ _ _ _ _ h.symm

def barTokEmb : Dev nD × Fin 8 ↪ GSem nD τ sig × ℕ × Fin 8 :=
  ⟨fun x => (barCell x.1, 0, x.2), fun x y h => Prod.ext (bar_eq.mp (congrArg Prod.fst h)) (congrArg (fun t => t.2.2) h)⟩
def copyTokEmb : Trip × Dev nD ↪ GSem nD τ sig × ℕ × Fin 8 :=
  ⟨fun x => (cellEmb x, 0, 0), fun x y h => cellEmb.injective (congrArg Prod.fst h)⟩
abbrev barToks : Finset (GSem nD τ sig × ℕ × Fin 8) := Finset.univ.map barTokEmb
abbrev copyToks : Finset (GSem nD τ sig × ℕ × Fin 8) := Finset.univ.map copyTokEmb

theorem toks_disjoint : Disjoint (barToks : Finset (GSem nD τ sig × ℕ × Fin 8)) copyToks := by
  rw [Finset.disjoint_left]
  rintro g h1 h2
  obtain ⟨c, -, rfl⟩ := Finset.mem_map.mp h1
  obtain ⟨x, -, h⟩ := Finset.mem_map.mp h2
  exact bar_ne_cell _ _ _ _ _ (congrArg Prod.fst h).symm

/-! ## The rights to pay -/

/-- The rights to pay a device's copies' cells, all devices' together, by the device that pays. -/
theorem deal_copies :
    bigSep copyToks (fun x => (dutyTok ER x.1 x.2.1 x.2.2 : sProp 𝕄)) = bigSep Finset.univ fun c : Dev nD => grid (myTok (F := F) c) := by
  have swap : ∀ Φ : Fin 4 → Fin 8 → Dev nD → sProp 𝕄,
      (grid fun p d => bigSep Finset.univ fun c : Dev nD => Φ p d c) = grid fun p d => bigSep Finset.univ fun c : Dev nD => Φ p c d := fun Φ => by
    unfold grid
    rw [bigSep_univ_prod, bigSep_univ_prod]
    exact bigSep_congr fun p _ => bigSep_univ_comm _
  have grid_comm : ∀ Φ : Fin 4 → Fin 8 → Dev nD → sProp 𝕄,
      (grid fun p d => bigSep Finset.univ fun c : Dev nD => Φ p d c) = bigSep Finset.univ fun c : Dev nD => grid fun p d => Φ p d c := fun Φ => by
    unfold grid
    rw [bigSep_univ_comm]
  rw [bigSep_map, bigSep_univ_prod]
  have h1 : (bigSep Finset.univ fun x : Trip => bigSep Finset.univ fun c : Dev nD => (dutyTok ER (copyTokEmb (x, c)).1 (copyTokEmb (x, c)).2.1 (copyTokEmb (x, c)).2.2 : sProp 𝕄))
      = grid fun p d => F4 fun k => bigSep Finset.univ fun c : Dev nD => dutyTok ER (cell k p d c) 0 0 :=
    trips fun k p d => bigSep Finset.univ fun c : Dev nD => dutyTok ER (cell k p d c) 0 0
  rw [h1]
  unfold F4
  rw [grid_sep, grid_sep, grid_sep, swap fun p d c => dutyTok ER (cell 1 p d c) 0 0, swap fun p d c => dutyTok ER (cell 3 p d c) 0 0,
    grid_comm, grid_comm, grid_comm, grid_comm, ← bigSep_sep', ← bigSep_sep', ← bigSep_sep']
  refine bigSep_congr fun c _ => ?_
  unfold myTok
  rw [grid_sep, grid_sep, grid_sep]

/-- The rights to signal the barriers, by the device that signals. -/
theorem deal_bars :
    bigSep barToks (fun x => (dutyTok ER x.1 x.2.1 x.2.2 : sProp 𝕄))
      = bigSep Finset.univ fun c : Dev nD => bigSep Finset.univ fun d : Fin 8 => dutyTok ER (barCell d) 0 c := by
  rw [bigSep_map, bigSep_univ_prod, bigSep_univ_comm]
  rfl

/-! ## The credit -/

theorem owe_apply (g : Fin 8 → GSem nD τ sig) (n : ℕ) (O : CellTallies nD τ sig Unit) (h : GSem nD τ sig) :
    ∀ l : List (Fin 8), owe g n O l h () = O h () + (l.map fun d => if h = g d then n else 0).sum
  | [] => rfl
  | d :: l => by
    show (owe g n O l + tallyAt (g d) () n) h () = _
    rw [Pi.add_apply, Finsupp.add_apply, owe_apply g n O h l, tallyAt_apply, List.map_cons, List.sum_cons]
    simp only [and_true]
    omega
theorem owe_other (g : Fin 8 → GSem nD τ sig) (n : ℕ) (O : CellTallies nD τ sig Unit) (h : GSem nD τ sig) (hne : ∀ d, h ≠ g d) (l : List (Fin 8)) :
    owe g n O l h () = O h () := by
  rw [owe_apply]
  have e : (l.map fun d => if h = g d then n else 0) = l.map fun _ => 0 := List.map_congr_left fun d _ => if_neg (hne d)
  rw [e]
  simp

theorem one_hit (n : ℕ) (f : Fin 8 → Fin 8) (c : Fin 8) : (∀ c' : Fin 8, (fin8.filter fun d => c' = f d).length = 1) →
    (fin8.map fun d => if c = f d then n else 0).sum = n := by
  intro hf
  have : ∀ l : List (Fin 8), (l.map fun d => if c = f d then n else 0).sum = (l.filter fun d => c = f d).length * n := fun l => by
    induction l with
    | nil => simp
    | cons a l ih =>
      rw [List.map_cons, List.sum_cons, ih]
      by_cases h : c = f a
      · rw [if_pos h, List.filter_cons_of_pos (by simpa using h), List.length_cons, Nat.succ_mul, Nat.add_comm]
      · rw [if_neg h, List.filter_cons_of_neg (by simpa using h), Nat.zero_add]
  rw [this, hf c, Nat.one_mul]

theorem rot_once : ∀ (d : Dev nD) (c' : Fin 8), (fin8.filter fun k => c' = rot d k).length = 1 := by decide +kernel
theorem id_once : ∀ c' : Fin 8, (fin8.filter fun k => c' = k).length = 1 := by decide +kernel

section Owed
variable (d c : Dev nD) (p q : Fin 4) (e : Fin 8) (O : CellTallies nD τ sig Unit)

theorem oweR_bar : oweR d p O (barCell c) () = O (barCell c) () := owe_other _ _ _ _ (fun _ => bar_ne_cell _ _ _ _ _) _
theorem oweG_bar : oweG d p O (barCell c) () = O (barCell c) () := owe_other _ _ _ _ (fun _ => bar_ne_cell _ _ _ _ _) _
theorem oweR_cell3 : oweR d p O (cell 3 q e c) () = O (cell 3 q e c) () :=
  owe_other _ _ _ _ (fun _ h => absurd (cell_eq.mp h).1.1 (by decide)) _
theorem oweG_cell1 : oweG d p O (cell 1 q e c) () = O (cell 1 q e c) () :=
  owe_other _ _ _ _ (fun _ h => absurd (cell_eq.mp h).1.1 (by decide)) _
theorem oweR_cell1 : oweR d p O (cell 1 q e c) () = O (cell 1 q e c) () + if q = p ∧ e = d then Nn q else 0 := by
  by_cases h : q = p ∧ e = d
  · obtain ⟨rfl, rfl⟩ := h
    rw [if_pos ⟨rfl, rfl⟩]
    unfold oweR
    rw [owe_apply]
    have s : (fin8.map fun d' => if cell 1 q e c = cell 1 q e d' then Nn q else 0) = fin8.map fun d' => if c = d' then Nn q else 0 :=
      List.map_congr_left fun d' _ => if_congr (cell_eq.trans ⟨fun h => h.2, fun h => ⟨⟨rfl, rfl, rfl⟩, h⟩⟩) rfl rfl
    rw [s, one_hit (Nn q) (fun d => d) c id_once]
  · rw [if_neg h, Nat.add_zero]
    exact owe_other _ _ _ _ (fun _ h' => h ⟨(cell_eq.mp h').1.2.1, (cell_eq.mp h').1.2.2⟩) _
theorem oweG_cell3 : oweG d p O (cell 3 q e c) () = O (cell 3 q e c) () + if q = p ∧ e = d then Nn q else 0 := by
  by_cases h : q = p ∧ e = d
  · obtain ⟨rfl, rfl⟩ := h
    rw [if_pos ⟨rfl, rfl⟩]
    unfold oweG
    rw [owe_apply]
    have s : (fin8.map fun k => if cell 3 q e c = cell 3 q e (rot e k) then Nn q else 0) = fin8.map fun k => if c = rot e k then Nn q else 0 :=
      List.map_congr_left fun d' _ => if_congr (cell_eq.trans ⟨fun h => h.2, fun h => ⟨⟨rfl, rfl, rfl⟩, h⟩⟩) rfl rfl
    rw [s, one_hit (Nn q) (rot e) c (rot_once e)]
  · rw [if_neg h, Nat.add_zero]
    exact owe_other _ _ _ _ (fun _ h' => h ⟨(cell_eq.mp h').1.2.1, (cell_eq.mp h').1.2.2⟩) _

theorem owed_bar : O₀ d (barCell c) () = 1 := by
  unfold O₀ O1
  rw [owe_apply, oweR_bar, oweR_bar, oweR_bar, oweG_bar, oweR_bar, oweG_bar, oweG_bar, oweG_bar]
  have s : (fin8.map fun d' => if barCell c = barCell d' then 1 else 0) = fin8.map fun d' => if c = d' then 1 else 0 :=
    List.map_congr_left fun d' _ => if_congr bar_eq rfl rfl
  rw [s, one_hit 1 (fun d => d) c id_once]
  rfl
theorem owed_cell1 : O₀ d (cell 1 q e c) () = if e = d then Nn q else 0 := by
  unfold O₀ O1
  rw [owe_other _ _ _ _ (fun _ => (bar_ne_cell _ _ _ _ _).symm), oweR_cell1, oweR_cell1, oweR_cell1, oweG_cell1, oweR_cell1, oweG_cell1, oweG_cell1, oweG_cell1]
  by_cases h : e = d
  · fin_cases q <;> simp [h]
  · simp [h]
theorem owed_cell3 : O₀ d (cell 3 q e c) () = if e = d then Nn q else 0 := by
  unfold O₀ O1
  rw [owe_other _ _ _ _ (fun _ => (bar_ne_cell _ _ _ _ _).symm), oweR_cell3, oweR_cell3, oweR_cell3, oweG_cell3, oweR_cell3, oweG_cell3, oweG_cell3, oweG_cell3]
  by_cases h : e = d
  · fin_cases q <;> simp [h]
  · simp [h]

end Owed

/-- What the launch credits a cell with is what all devices owe it. -/
theorem credit_of (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem credit_bar (c : Dev nD) : tallyOn (barCell c) (launchCredit (Pipeline.owing O₀) 0 (barCell c)) = (tallyAt (barCell c) () 8 : CellTallies nD τ sig Unit) :=
  credit_of _ _ (by rw [Finset.sum_congr rfl fun d _ => owed_bar d c]; rfl)
theorem credit_cell1 (c : Dev nD) (p : Fin 4) (d : Fin 8) :
    tallyOn (cell 1 p d c) (launchCredit (Pipeline.owing O₀) 0 (cell 1 p d c)) = (tallyAt (cell 1 p d c) () (Nn p) : CellTallies nD τ sig Unit) :=
  credit_of _ _ (by rw [Finset.sum_congr rfl fun e _ => owed_cell1 e c p d, Finset.sum_ite_eq Finset.univ d fun _ => Nn p, if_pos (Finset.mem_univ _)])
theorem credit_cell3 (c : Dev nD) (p : Fin 4) (d : Fin 8) :
    tallyOn (cell 3 p d c) (launchCredit (Pipeline.owing O₀) 0 (cell 3 p d c)) = (tallyAt (cell 3 p d c) () (Nn p) : CellTallies nD τ sig Unit) :=
  credit_of _ _ (by rw [Finset.sum_congr rfl fun e _ => owed_cell3 e c p d, Finset.sum_ite_eq Finset.univ d fun _ => Nn p, if_pos (Finset.mem_univ _)])

def osemEmb : Trip ↪ SemLoc sig := ⟨osem, osem_inj⟩

/-- A device's credit: its barrier's eight signals, and the copies of the others. -/
theorem credits (c : Dev nD) : (Pipeline.launchCred O₀ c : sProp 𝕄) ⊢ iprop(cred (tallyAt (barCell c) () 8) ∗ grid (myCred (F := F) c)) := by
  unfold Pipeline.launchCred
  rw [bigSep_univ_at _ (SemLoc.reg barS), credit_bar]
  refine sep_mono_right ?_
  have hsub : (Finset.univ.map osemEmb : Finset (SemLoc sig)) ⊆ Finset.univ.erase (SemLoc.reg barS) := fun s hs => by
    obtain ⟨x, -, rfl⟩ := Finset.mem_map.mp hs
    exact Finset.mem_erase.mpr ⟨(fun h => nomatch (h : (SemLoc.dma (dsem x.1 x.2.1 x.2.2) : SemLoc sig) = .reg barS)), Finset.mem_univ _⟩
  refine BI.Entails.trans (BI.bigSep_subset hsub) ?_
  rw [bigSep_map]
  refine BI.Entails.trans (Entails.of_eq (trips (F := F) fun k p d => cred (tallyOn (cell k p d c) (launchCredit (Pipeline.owing O₀) 0 (cell k p d c))))) ?_
  refine grid_mono _ _ fun p d => ?_
  unfold F4 myCred
  beta_reduce
  rw [credit_cell1, credit_cell3]
  show (_ : sProp 𝕄) ⊢ _
  iintro ⟨-, H1, -, H3⟩
  isplitl [H1] <;> iassumption

end Cert.KernelIdeal.Pf
-- ==== Proof.Run.lean ====
/- The whole run: what is launched, and what every weakly fair execution ends with. -/
module

public import proofs.«01_k».proof.Proof.Deal

@[expose] public section

noncomputable section

namespace Cert.KernelIdeal.Pf

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ UU ℕ

/-! ## The launch -/

/-- What the protocol is launched with. -/
abbrev ghost0 : UT := launchOf barCells copyCells (barToks ∪ copyToks)

def u₀ : UU :=
  (initOf (Pipeline.cells (Pipeline.pin (pcfgs (F := F)) adm) cellOf_inj) (Pipeline.launchToks (Pipeline.pin (pcfgs (F := F)) adm) cellOf_inj), ghost0)

/-- All of the protocol's ghost state is first kept by device 0. -/
def G (c : Dev nD) : sProp 𝕄 := if c = 0 then BI.own (ER ghost0) else iprop(emp)
theorem all_G : bigSep Finset.univ (G (F := F)) = BI.own (ER ghost0) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G
  rw [if_pos rfl]
  exact BI.equiv_iff.mp sep_emp

theorem sems_launch (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

variable (m : (ℓ : Loc nD τ sig) → Buf (Elt F) ℓ) (ρ : Dev nD → PrngReg)

/-- What every device may consult: all the invariants, and that all the barriers' cells are open. -/
def records (K : GSem nD τ sig → ℕ) : sProp 𝕄 :=
  iprop((bigSep (barCells ∪ copyCells) fun g => cellInv ER (rd (IN m)) (K g) g) ∗ bigSep barCells fun g => reached ER g 0)
instance records_persistent (K : GSem nD τ sig → ℕ) : BI.Persistent (records m K) := by unfold records; infer_instance

/-- What one device keeps of the launch. -/
def mine (c : Dev nD) : sProp 𝕄 :=
  iprop(atPos ER (barCell c) 0 ∅ 0 ∗ (bigSep Finset.univ fun x : Trip => openTok ER (tcell x c))
    ∗ (bigSep Finset.univ fun d : Fin 8 => dutyTok ER (barCell d) 0 c) ∗ grid (myTok c))
def rest (c : Dev nD) : sProp 𝕄 :=
  iprop((cred (tallyAt (barCell c) () 8) ∗ grid (myCred c)) ∗ owes (c : Thread nD τ) (O₀ c) ∅ ∗ ∃ r, prngReg c r)

theorem records_invs (K : GSem nD τ sig → ℕ) : records m K ⊢ invs (IN m) K := by
  have h : (bigSep (barCells ∪ copyCells) fun g => (cellInv ER (rd (IN m)) (K g) g : sProp 𝕄)) = invs (IN m) K := by
    unfold invs
    rw [bigSep_union cells_disjoint, bigSep_map, bigSep_map]
    rfl
  unfold records
  rw [h]
  iintro ⟨H, -⟩
  iexact H

theorem E_intro (K : GSem nD τ sig → ℕ) (c : Dev nD) : iprop(records m K ∗ (mine c ∗ rest c)) ⊢ E m 0 c := by
  unfold mine rest E Tk shut owesE
  iintro ⟨#HR, ⟨Hat, Hop, Hbt, Ht⟩, ⟨⟨Hc8, Hcr⟩, HO, Hp⟩⟩
  isplitr [HO Hp]
  · iexists K
    isplitr; · iapply (records_invs m K); iexact HR
    isplitl [Hbt]
    · have h : iprop(records m K ∗ bigSep Finset.univ fun d : Fin 8 => dutyTok ER (barCell d) 0 c) ⊢ (sL (barTok (F := F) c) fin8 : sProp 𝕄) := by
        rw [← bigSep_fin8]
        refine bigSep_with_persistent fun d _ => ?_
        unfold records barTok
        rw [bigSep_map (s := Finset.univ) barEmb (Φ := fun g : GSem nD τ sig => (reached ER g 0 : sProp 𝕄))]
        show iprop((_ ∗ bigSep Finset.univ fun d : Dev nD => reached ER (barCell d) 0) ∗ dutyTok ER (barCell d) 0 c) ⊢ (_ : sProp 𝕄)
        iintro ⟨⟨-, Hr⟩, Ht⟩
        isplitl [Hr]
        · iapply (show_elim (Φ := fun d : Dev nD => (reached ER (barCell d) 0 : sProp 𝕄)) (Finset.mem_univ d)) $$ Hr
        iexact Ht
      iapply h
      isplitr; · iexact HR
      iexact Hbt
    isplitl [Hat Hc8]; · isplitl [Hat] <;> iassumption
    isplitl [Ht]; · iexact Ht
    isplitl [Hcr]; · iexact Hcr
    iexact Hop
  isplitl [Hp]; · iexact Hp
  iexists ∅
  iexact HO

/-- The launch makes what rides along on every device. -/
theorem launch :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have each (c : Dev nD) : iprop(unscopedSems0 c ∗ owes (c : Thread nD τ) (O₀ c) ∅ ∗ Pipeline.launchCred O₀ c ∗ prngReg c (ρ c) ∗ G c)
      ⊢ (iprop(rest c ∗ (semVal (barCell c) 0 ∗ G c)) : sProp 𝕄) := by
    rw [sems_launch]
    unfold rest
    iintro ⟨Hs, HO, Hcr, Hp, HG⟩
    ihave Hc := (credits (F := F) c) $$ Hcr
    isplitl [Hc HO Hp]
    · isplitl [Hc]; · iexact Hc
      isplitl [HO]; · iexact HO
      iexists (ρ c); iexact Hp
    isplitl [Hs] <;> iassumption
  have hsem : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep copyCells (fun g => (openTok ER g : sProp 𝕄)) ⊢ bigSep Finset.univ (fun c : Dev nD => bigSep Finset.univ fun x : Trip => (openTok ER (tcell x c) : sProp 𝕄)) :=
    Entails.of_eq (by rw [bigSep_map, bigSep_univ_prod, bigSep_univ_comm]; rfl)
  have htok : bigSep (barToks ∪ copyToks) (fun x => (dutyTok ER x.1 x.2.1 x.2.2 : sProp 𝕄))
      ⊢ iprop((bigSep Finset.univ fun c : Dev nD => bigSep Finset.univ fun d : Fin 8 => dutyTok ER (barCell d) 0 c) ∗ bigSep Finset.univ fun c : Dev nD => grid (myTok (F := F) c)) :=
    Entails.of_eq (by rw [bigSep_union toks_disjoint, deal_bars, deal_copies]; rfl)
  have hpair (Φ Ψ : Dev nD → sProp 𝕄) : iprop(bigSep Finset.univ Φ ∗ bigSep Finset.univ Ψ) ⊢ bigSep Finset.univ fun c => iprop(Φ c ∗ Ψ c) :=
    Entails.of_eq (bigSep_sep' _ _ _).symm
  have hall : (bigSep Finset.univ fun c : Dev nD => iprop(unscopedSems0 c ∗ owes (c : Thread nD τ) (O₀ c) ∅ ∗ Pipeline.launchCred O₀ c ∗ prngReg c (ρ c) ∗ G c))
      ⊢ (iprop((bigSep Finset.univ fun c : Dev nD => rest c) ∗ (bigSep Finset.univ fun c : Dev nD => semVal (barCell c) 0) ∗ bigSep Finset.univ G) : sProp 𝕄) := by
    rw [← bigSep_sep', ← bigSep_sep']
    exact bigSep_mono fun c _ => each c
  iintro ⟨H, -⟩
  ihave H := hall $$ H
  icases H with ⟨Hrest, Hv, HG⟩
  ihave Hu := (Entails.of_eq (all_G (F := F))) $$ HG
  imod (Rounds.fund_launch ER (rd (IN m)) cells_disjoint (fun g _ h => h) (barToks ∪ copyToks)) $$ [Hv Hu] with ⟨%K, -, #Hinv, #Hr, Hat, Hop, Htok⟩
  · isplitl [Hv]
    · iapply hsem $$ Hv
    · iexact Hu
  imodintro
  iapply (bigSep_with_persistent (R := records m K) (Φ := fun c => iprop(mine (F := F) c ∗ rest c)) fun c _ => E_intro m K c)
  isplitr
  · unfold records
    isplitr; · iexact Hinv
    iexact Hr
  ihave Ht := htok $$ Htok
  icases Ht with ⟨Hbt, Hct⟩
  iapply (hpair mine rest)
  isplitr [Hrest]
  · unfold mine
    iapply (hpair (fun c => atPos ER (barCell c) 0 ∅ 0) fun c => iprop((bigSep Finset.univ fun x : Trip => openTok ER (tcell x c))
      ∗ (bigSep Finset.univ fun d : Fin 8 => dutyTok ER (barCell d) 0 c) ∗ grid (myTok c)))
    isplitl [Hat]; · iapply hat $$ Hat
    iapply (hpair (fun c => bigSep Finset.univ fun x : Trip => openTok ER (tcell x c)) fun c => iprop((bigSep Finset.univ fun d : Fin 8 => dutyTok ER (barCell d) 0 c) ∗ grid (myTok c)))
    isplitl [Hop]; · iapply hop $$ Hop
    iapply (hpair (fun c => bigSep Finset.univ fun d : Fin 8 => dutyTok ER (barCell d) 0 c) fun c => grid (myTok c))
    isplitl [Hbt] <;> iassumption
  · iexact Hrest

/-! ## The run -/

theorem unscoped_bar : ∀ sm : SemLoc sig, sm.isScoped .tc = false → sm = .reg barS := by decide +kernel

theorem result_val (c : Dev nD) : V3 m (outs m) c main_v25 = StableHlo.after hostOps1 (V2 m (outs m) c) main_v25 := rfl

/-- What a device's memory holds at the end: each argument as launched, the result as the last valuation has it, the barrier's counter at zero. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
    ∧ s.mem ((c.tc : Thread nD τ).loc main_v25) = V3 m (outs m) c main_v25

theorem uc_mem (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

set_option backward.isDefEq.respectTransparency.types false in
/-- Every weakly fair execution from a memory with zero counters terminates; at the end every argument is as launched, the
    result is what the last valuation says, and every counter is zero. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats (IN m) (pre24 m)) () cellOf_inj EP defs₀ 𝒱₀ L lv m ρ main
    (segs m (outs m) 𝒱₀ L lv (E m) () (pdats (IN m) (pre24 m)) (reg m))
    (fun c Q => by
      rewrite [main_chain c, Seg.run_eq_chain,
        show (segs m (outs m) 𝒱₀ L lv (E m) () (pdats (IN m) (pre24 m)) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne G u₀
    (by
      unfold u₀
      iintro Hu
      ihave H := (ownU_pair _ _) $$ Hu
      icases H with ⟨HP, HX⟩
      imodintro
      isplitl [HP]; · iexact HP
      rw [all_G]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, reg_pre m c, reg_post m c, ?_⟩)
    (hinit := ?_) (QY := fun c s => Ends m c s ∧ s.sem (barCell c) = 0)
    (hfin := fun c s' => ?_) (hQ := fun s h hs => ⟨fun c => (h c).1, sem_eq_zero hs fun c sm hsm => by
      obtain rfl := unscoped_bar sm hsm
      exact (h c).2⟩)
  · show iprop(StableHlo.held (c : Thread nD τ) (Pipeline.ucRefs τ sig) (V3 m (outs m) c) ∗ (semVal (barCell c) 0 ∗ ∃ W, owes (c : Thread nD τ) 0 W))
      ⊢ iprop((StableHlo.held (c : Thread nD τ) (Pipeline.ucRefs τ sig) (V3 m (outs m) c) ∗ semVal (barCell c) 0) ∗ ∃ W, owes (c : Thread nD τ) 0 W)
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨⟨(h _ (uc_mem main_arg0 (by decide))).trans (V3_main_arg0 m (outs m) c), (h _ (uc_mem main_arg1 (by decide))).trans (V3_main_arg1 m (outs m) c),
        (h _ (uc_mem main_arg2 (by decide))).trans (V3_main_arg2 m (outs m) c), (h _ (uc_mem main_arg3 (by decide))).trans (V3_main_arg3 m (outs m) c),
        (h _ (uc_mem main_arg4 (by decide))).trans (V3_main_arg4 m (outs m) c)⟩, h _ (uc_mem main_v25 (by decide))⟩, by simpa using hb⟩
    · iexact HSI

end Cert.KernelIdeal.Pf
-- ==== Proof.Kernel.Scale.lean ====
module

public import proofs.«01_k».proof.Proof.Gen.Kernel.Launch
public import proofs.«01_k».proof.Proof.Gen.Kernel.Points

@[expose] public section

noncomputable section

namespace Cert.Kernel.Pf

open Idealize.ShloMosaic

/-- The factor the query projection is multiplied by. -/
def scaleC (F : FTy → Type) [FloatOps F] : F .bf16 := Scalar.ofBits .bf16 0x3DB5#16

end Cert.Kernel.Pf

end
-- ==== Proof.Frames.lean ====
/-
  The claims that say how the programs end: each of the two kernel programs, and the reference, runs to its end on
  every device, leaves its arguments as they were and every semaphore counter at zero; and the named constant.
-/
module

public import proofs.«01_k».proof.Defs
public import proofs.«01_k».proof.Proof.Gen.ReferenceIdeal
public import proofs.«01_k».proof.Proof.Gen.ReferenceIdeal.Run
public import proofs.«01_k».proof.Proof.Run
public import proofs.«01_k».proof.Proof.Kernel.Run
public import Idealize.ShloMosaic.Lib.Quiescent

@[expose] public section

noncomputable section

namespace Cert.Proof

open Idealize.ShloMosaic Idealize.SL.Sem

/-- The kernel, on words: it runs, its arguments stay, its counters end at zero. -/
theorem frame_kernel : Cert.quiescent_Kernel (hKernel := Cert.Kernel.Gen.facts) := fun m g _ =>
  (θ_run (Cert.Kernel.defs (F := Bits)) _ _).mono (fun _ h => ⟨fun c => (h.1 c).1, h.2⟩)
    (Cert.Kernel.Pf.run_main (F := Bits) m g)

/-- The kernel over the reals: it runs, its arguments stay, its counters end at zero. -/
theorem frame_kernelIdeal : Cert.quiescent_KernelIdeal (hKernelIdeal := Cert.KernelIdeal.Gen.facts) := fun m g _ =>
  (θ_run (Cert.KernelIdeal.defs (F := Ideal)) _ _).mono (fun _ h => ⟨fun c => (h.1 c).1, h.2⟩)
    (Cert.KernelIdeal.Pf.run_main (F := Ideal) m g)

/-- The reference over the reals: it runs, its arguments stay, and it has no counter. -/
theorem frame_referenceIdeal :
    Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- The scale's word is the rounding of `1/√128`. -/
theorem preserves : Cert.preserves_Kernel_KernelIdeal :=
  IdealRules.named_const.statement Cert.KernelIdeal.κ "scale" .bf16 0x3DB5#16 _ rfl

end Cert.Proof

end
-- ==== Proof.HostIn.lean ====
/-
  What the region of device `c` finds in its operands, element by element: its rows are all of `x`; its query weights
  columns `1024 c` onward and its output weights rows `1024 c` onward of the whole ones; its keys and values its block of
  the whole ones with the rows grouped, group `j` holding the blocks of 64 rows whose number is `j` modulo 4.
-/
module

public import proofs.«01_k».proof.Proof.Run
public import Idealize.ShloMosaic.Lib.DynamicIndex

@[expose] public section

noncomputable section

namespace Cert.KernelIdeal.Pf

open Idealize.ShloMosaic hiding ix1 ix2 ix3 ix4 ix5 ix6
open Idealize.ShloMosaic.TcCoe Cert.KernelIdeal.Gen Idealize.ShloMosaic.ValueIdx
open Idealize.ShloMosaic.StableHlo

variable {F : FTy → Type} [FloatOps F] [Named F]

/-- Row `l` of group `j`, in the order of the whole array. -/
def krow (j : Fin 4) (l : Fin 512) : Fin 2048 := ⟨(l.val / 64 * 4 + j.val) * 64 + l.val % 64, by omega⟩

/-- The rows of one device's keys (or values), grouped. -/
def regroup (x : S1x2048x8x128.Idx → Elt F .bf16) : S4x8x512x128.Idx → Elt F .bf16 :=
  shapeCast S4x8x512x128 (transpose S4x8x8x64x128 [1, 3, 0, 2, 4] (shapeCast S8x4x64x8x128
    (shapeCast S2048x8x128 x shapeCasts_S1x2048x8x128_S2048x8x128) shapeCasts_S2048x8x128_S8x4x64x8x128)
    transposes_S8x4x64x8x128_S4x8x8x64x128_1_3_0_2_4) shapeCasts_S4x8x8x64x128_S4x8x512x128

/-- The regrouped rows, element by element. -/
theorem regroup_apply (x : S1x2048x8x128.Idx → Elt F .bf16) (j : Fin 4) (h : Fin 8) (l : Fin 512) (d : Fin 128) :
    regroup x (ix4 j h l d) = x (ix4 (0 : Fin 1) (krow j l) h d) := by
  have hl : l.val / 64 < 8 := by omega
  have hm : l.val % 64 < 64 := by omega
  unfold regroup
  refine (shapeCast_apply _ _ _ (ix5 j h (⟨l.val / 64, hl⟩ : Fin 8) (⟨l.val % 64, hm⟩ : Fin 64) d) ?_).trans ?_
  · rw [Shape.rowMajor_val_five, Shape.rowMajor_val_four]
    show (((j.val * 8 + h.val) * 8 + l.val / 64) * 64 + l.val % 64) * 128 + d.val = ((j.val * 8 + h.val) * 512 + l.val) * 128 + d.val
    omega
  refine (transpose_apply _ _ _ _ (ix5 (⟨l.val / 64, hl⟩ : Fin 8) j (⟨l.val % 64, hm⟩ : Fin 64) h d) ?_).trans ?_
  · intro b
    match b with
    | ⟨0, _⟩ => rfl
    | ⟨1, _⟩ => rfl
    | ⟨2, _⟩ => rfl
    | ⟨3, _⟩ => rfl
    | ⟨4, _⟩ => rfl
  refine (shapeCast_apply _ _ _ (ix3 (krow j l) h d) ?_).trans ?_
  · rw [Shape.rowMajor_val_three, Shape.rowMajor_val_five]
    show (((l.val / 64 * 4 + j.val) * 64 + l.val % 64) * 8 + h.val) * 128 + d.val
      = (((l.val / 64 * 4 + j.val) * 64 + l.val % 64) * 8 + h.val) * 128 + d.val
    rfl
  exact shapeCast_1abc_abc_apply _ _ _ _ _

variable (m : (ℓ : Loc nD τ sig) → Buf (Elt F) ℓ) (c : Dev nD)

theorem V1_k : V1 m c main_v18 = regroup (m ((c : Thread nD τ).loc main_arg2)) := by
  unfold V1 hostOps0
  after_results_simp
  rfl

theorem V1_v : V1 m c main_v22 = regroup (m ((c : Thread nD τ).loc main_arg3)) := by
  unfold V1 hostOps0
  after_results_simp
  rfl

theorem V1_x (i : Fin 2048) (k : Fin 1024) :
    V1 m c main_v23 (ix2 i k) = m ((c : Thread nD τ).loc main_arg0) (ix3 (0 : Fin 1) i k) := by
  unfold V1 hostOps0
  after_results_simp
  exact shapeCast_1ab_ab_apply _ _ _ _

/-- A block of columns at a start inside the operand, element by element. -/
theorem cols_apply (x : S1024x8192.Idx → Elt F .bf16) (start : Fin S1024x8192.rank → Int) (h : S1024x8192.Slices (fun _ => 0) S1024x1024)
    (k : ℕ) (hk : k < 8) (h0 : start 0 = 0) (h1 : start 1 = ((k * 1024 : ℕ) : Int)) (i : Fin 1024) (n : Fin 1024) :
    Host.dynamicSlice S1024x1024 x start h (ix2 i n) = x (ix2 i (⟨k * 1024 + n.val, by omega⟩ : Fin 8192)) := by
  have hs : S1024x8192.Slices (![0, k * 1024] : Fin 2 → ℕ) S1024x1024 := by
    refine ⟨rfl, fun a => ?_⟩
    match a with
    | ⟨0, _⟩ => show 0 + 1024 ≤ 1024; omega
    | ⟨1, _⟩ => show k * 1024 + 1024 ≤ 8192; omega
  refine (congrFun (Host.dynamicSlice_eq_extractStridedSlice _ x start (![0, k * 1024] : Fin 2 → ℕ) h hs fun a => ?_) _).trans ?_
  · match a with
    | ⟨0, _⟩ => exact h0
    | ⟨1, _⟩ => exact h1
  · refine extractStridedSlice_apply _ _ _ _ _ fun a => ?_
    match a with
    | ⟨0, _⟩ => show i.val = 0 + i.val; omega
    | ⟨1, _⟩ => rfl

/-- A block of rows at a start inside the operand, element by element. -/
theorem rows_apply (x : S8192x1024.Idx → Elt F .bf16) (start : Fin S8192x1024.rank → Int) (h : S8192x1024.Slices (fun _ => 0) S1024x1024)
    (k : ℕ) (hk : k < 8) (h0 : start 0 = ((k * 1024 : ℕ) : Int)) (h1 : start 1 = 0) (n : Fin 1024) (i : Fin 1024) :
    Host.dynamicSlice S1024x1024 x start h (ix2 n i) = x (ix2 (⟨k * 1024 + n.val, by omega⟩ : Fin 8192) i) := by
  have hs : S8192x1024.Slices (![k * 1024, 0] : Fin 2 → ℕ) S1024x1024 := by
    refine ⟨rfl, fun a => ?_⟩
    match a with
    | ⟨0, _⟩ => show k * 1024 + 1024 ≤ 8192; omega
    | ⟨1, _⟩ => show 0 + 1024 ≤ 1024; omega
  refine (congrFun (Host.dynamicSlice_eq_extractStridedSlice _ x start (![k * 1024, 0] : Fin 2 → ℕ) h hs fun a => ?_) _).trans ?_
  · match a with
    | ⟨0, _⟩ => exact h0
    | ⟨1, _⟩ => exact h1
  · refine extractStridedSlice_apply _ _ _ _ _ fun a => ?_
    match a with
    | ⟨0, _⟩ => rfl
    | ⟨1, _⟩ => show i.val = 0 + i.val; omega

/-- The number of a device's first column (or row), as the host computes it from the device's word. -/
def startW (w : BitVec 32) : BitVec 32 :=
  select (cmpi .slt (muli (id (Host.remui (Host.divui (constantI S_ 32 w) (constantI S_ 32 1#32)) (constantI S_ 32 8#32))) (constantI S_ 32 1024#32))
      (constantI S_ 32 0#32))
    (addi (muli (id (Host.remui (Host.divui (constantI S_ 32 w) (constantI S_ 32 1#32)) (constantI S_ 32 8#32))) (constantI S_ 32 1024#32))
      (constantI S_ 32 8192#32))
    (muli (id (Host.remui (Host.divui (constantI S_ 32 w) (constantI S_ 32 1#32)) (constantI S_ 32 8#32))) (constantI S_ 32 1024#32))
    (Shape.Idx.first h_S_)

/-- It is `1024 c`. -/
theorem startW_eq : ∀ c : Dev nD, (startW c.word).toInt = ((c.val * 1024 : ℕ) : Int) := by decide +kernel

/-- The query weights of a device, element by element. -/
theorem V1_wq (i : Fin 1024) (n : Fin 1024) : V1 m c main_v9 (ix2 i n)
    = m ((c : Thread nD τ).loc main_arg1) (ix2 i (⟨c.val * 1024 + n.val, by have h : c.val < 8 := c.isLt; omega⟩ : Fin 8192)) := by
  have hc : c.val < 8 := c.isLt
  unfold V1 hostOps0
  after_results_simp
  refine cols_apply _ _ _ _ hc ?_ ?_ _ _
  · dsimp only [Matrix.cons_val_zero, Matrix.cons_val_one]
    after_results_simp
    rfl
  · dsimp only [Matrix.cons_val_zero, Matrix.cons_val_one]
    after_results_simp
    exact startW_eq c

/-- The output weights of a device, element by element. -/
theorem V1_wo (n : Fin 1024) (i : Fin 1024) : V1 m c main_v14 (ix2 n i)
    = m ((c : Thread nD τ).loc main_arg4) (ix2 (⟨c.val * 1024 + n.val, by have h : c.val < 8 := c.isLt; omega⟩ : Fin 8192) i) := by
  have hc : c.val < 8 := c.isLt
  unfold V1 hostOps0
  after_results_simp
  refine rows_apply _ _ _ _ hc ?_ ?_ _ _
  · dsimp only [Matrix.cons_val_zero, Matrix.cons_val_one]
    after_results_simp
    exact startW_eq c
  · dsimp only [Matrix.cons_val_zero, Matrix.cons_val_one]
    after_results_simp
    rfl

end Cert.KernelIdeal.Pf

end
-- ==== Proof.Soft.lean ====
/-
  The arithmetic of the claim over the extended reals: a score computed with scaled weights is the score divided by
  `√128`, and attention without the running maximum over the unmasked keys is softmax attention over all of them.
-/
module

public import Idealize.ShloMosaic.PureOps.Ideal
public import Idealize.ShloMosaic.Lib.IdealHost

@[expose] public section

noncomputable section

namespace Cert.Soft

open Idealize.ShloMosaic

/-- An extended real that is neither infinity. -/
def Fin1 (x : EReal) : Prop := ∃ r : ℝ, x = r

theorem Fin1.of_abs {x : EReal} (h : max x (-x) < ⊤) : Fin1 x := by
  induction x with
  | bot => simp at h
  | top => simp at h
  | coe r => exact ⟨r, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale. -/
abbrev scale : EReal := (((Real.sqrt 128)⁻¹ : ℝ) : EReal)

/-- With finite operands the score from scaled weights is the plain score over `√128`, and it is finite. -/
theorem score_eq {n d : ℕ} (x : Fin n → EReal) (w : Fin n → Fin d → EReal) (k : Fin d → EReal)
    (hx : ∀ i, Fin1 (x i)) (hw : ∀ i j, Fin1 (w i j)) (hk : ∀ j, Fin1 (k j)) :
    Fin1 (∑ j, (∑ i, x i * (w i j * scale)) * k j) ∧
      Ideal.div (∑ j, (∑ i, x i * w i j) * k j) (((Real.sqrt 128 : ℝ)) : EReal) = ∑ j, (∑ i, x i * (w i j * scale)) * k j := by
  choose x' hx using hx
  choose w' hw using hw
  choose k' hk using hk
  have e1 : ∑ j, (∑ i, x i * (w i j * scale)) * k j = ((∑ j, (∑ i, x' i * (w' i j * (Real.sqrt 128)⁻¹)) * k' j : ℝ) : EReal) := by
    rw [coe_sum]
    refine Finset.sum_congr rfl fun j _ => ?_
    rw [EReal.coe_mul, coe_sum, hk]
    congr 1
    exact Finset.sum_congr rfl fun i _ => by rw [EReal.coe_mul, EReal.coe_mul, hx, hw]
  have e2 : ∑ j, (∑ i, x i * w i j) * k j = ((∑ j, (∑ i, x' i * w' i j) * k' j : ℝ) : EReal) := by
    rw [coe_sum]
    refine Finset.sum_congr rfl fun j _ => ?_
    rw [EReal.coe_mul, coe_sum, hk]
    congr 1
    exact Finset.sum_congr rfl fun i _ => by rw [EReal.coe_mul, hx, hw]
  refine ⟨⟨_, e1⟩, ?_⟩
  have h0 : Real.sqrt 128 ≠ 0 := by positivity
  rw [e1, e2, Ideal.div_coe h0, ← EReal.coe_mul]
  congr 1
  rw [Finset.sum_mul]
  refine Finset.sum_congr rfl fun j _ => ?_
  have : ∑ i, x' i * (w' i j * (Real.sqrt 128)⁻¹) = (∑ i, x' i * w' i j) * (Real.sqrt 128)⁻¹ := by
    rw [Finset.sum_mul]; exact Finset.sum_congr rfl fun i _ => by ring
  rw [this]; ring

/-- A finite nonnegative factor goes into a sum of extended reals. -/
theorem sum_mul_nonneg {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A maximum, from `⊥`, of extended reals below `⊤`, one of which is finite, is finite. -/
theorem fold_max_fin {ι : Type} (s : Finset ι) (f : ι → EReal) (ht : ∀ i ∈ s, f i < ⊤) (i₀ : ι) (h₀ : i₀ ∈ s)
    (hb : ⊥ < f i₀) : Fin1 (s.fold max ⊥ f) := by
  have h1 : s.fold max ⊥ f < ⊤ := (Finset.fold_max_lt ⊤).mpr ⟨bot_lt_top, ht⟩
  have h2 : ⊥ < s.fold max ⊥ f := (Finset.lt_fold_max ⊥).mpr (.inr ⟨i₀, h₀, hb⟩)
  exact ⟨_, (EReal.coe_toReal h1.ne h2.ne').symm⟩

/-- Softmax attention over masked keys, with the maximum `M` taken off, is the attention over the unmasked keys
    without it: the factor `exp (-M)` is in every weight and in their sum. -/
theorem attn_eq {n k : ℕ} (σ : Fin n → EReal) (hσ : ∀ j, Fin1 (σ j)) (P : Fin n → Prop) [DecidablePred P]
    (e : Fin k → Fin n) (he : Function.Injective e) (hP : ∀ j, P j ↔ ∃ l, e l = j) (hk : 0 < k)
    (v : Fin n → EReal) (M : EReal) (hM : Fin1 M) :
    ∑ j, v j * Ideal.div (Ideal.exp ((if P j then σ j else ⊥) - M)) (∑ j, Ideal.exp ((if P j then σ j else ⊥) - M))
      = (∑ l, Ideal.exp (σ (e l)) * v (e l)) * Ideal.div 1 (∑ l, Ideal.exp (σ (e l))) := by
  choose s hs using hσ
  obtain ⟨μ, rfl⟩ := hM
  have hw1 : ∀ l, Ideal.exp ((if P (e l) then σ (e l) else ⊥) - (μ : EReal)) = ((Real.exp (s (e l)) * Real.exp (-μ) : ℝ) : EReal) := by
    intro l
    rw [if_pos ((hP _).mpr ⟨l, rfl⟩), hs, ← EReal.coe_sub, Ideal.exp_coe, ← Real.exp_add, sub_eq_add_neg]
  have hw0 : ∀ j, (¬ ∃ l, e l = j) → Ideal.exp ((if P j then σ j else ⊥) - (μ : EReal)) = 0 := by
    intro j hj
    rw [if_neg (fun h => hj ((hP j).mp h)), EReal.bot_sub, Ideal.exp_bot]
  have hD : ∑ j, Ideal.exp ((if P j then σ j else ⊥) - (μ : EReal)) = ((∑ l, Real.exp (s (e l)) * Real.exp (-μ) : ℝ) : EReal) := by
    rw [coe_sum]
    symm
    refine Finset.sum_of_injOn e he.injOn (by simp) (fun j _ hj => hw0 j ?_) (fun l _ => (hw1 l).symm)
    rintro ⟨l, hl⟩
    exact hj ⟨l, by simp, hl⟩
  have hZ : ∑ l, Ideal.exp (σ (e l)) = ((∑ l, Real.exp (s (e l)) : ℝ) : EReal) := by
    rw [coe_sum]
    exact Finset.sum_congr rfl fun l _ => by rw [hs, Ideal.exp_coe]
  have hZp : 0 < ∑ l, Real.exp (s (e l)) :=
    Finset.sum_pos (fun l _ => Real.exp_pos _) ⟨⟨0, hk⟩, Finset.mem_univ _⟩
  have hDp : 0 < ∑ l, Real.exp (s (e l)) * Real.exp (-μ) := by
    rw [← Finset.sum_mul]; exact mul_pos hZp (Real.exp_pos _)
  rw [hD, hZ, Ideal.div_coe hZp.ne', one_mul, sum_mul_nonneg _ _ _ (by positivity)]
  symm
  refine Finset.sum_of_injOn e he.injOn (by simp) (fun j _ hj => ?_) (fun l _ => ?_)
  · rw [hw0 j (by rintro ⟨l, hl⟩; exact hj ⟨l, by simp, hl⟩), Ideal.div_coe hDp.ne', zero_mul, mul_zero]
  · rw [hw1 l, Ideal.div_coe hDp.ne', ← EReal.coe_mul, hs, Ideal.exp_coe, mul_comm _ (v (e l)), mul_assoc, ← EReal.coe_mul]
    congr 2
    rw [← Finset.sum_mul]
    field_simp

end Cert.Soft

end
-- ==== Proof.KVal.lean ====
/-
  One step of the kernel over the extended reals, element by element: its queries, the exponentials of its scores, its
  attention, its partial product and the sum of the eight partial products received.
-/
module

public import proofs.«01_k».proof.Proof.Vals
public import proofs.«01_k».proof.Proof.Soft
public import Idealize.ShloMosaic.Lib.MatmulPlain
public import Idealize.ShloMosaic.Lib.ValueLayoutCasts

@[expose] public section

noncomputable section

namespace Cert.KernelIdeal.Pf

open Idealize.ShloMosaic
open Idealize.ShloMosaic.TcCoe Cert.KernelIdeal.Gen Idealize.ShloMosaic.ValueIdx
open Cert.Soft (scale)

/-- The named factor is `1 / √128`. -/
theorem scaleC_ideal : scaleC Ideal = scale := rfl

/-- A product onto zero, element by element. -/
theorem plain0 {M K N : ℕ} {φ₁ φ₂ : FTy} (a : FVec Ideal ⟨2, ![M, K]⟩ φ₁) (b : FVec Ideal ⟨2, ![K, N]⟩ φ₂) (r : Fin M) (c : Fin N) :
    matmul (DotDims.plain M K N) none a b (constant ⟨2, ![M, N]⟩ .f32 0x00000000#32) (ix2 r c) = ∑ k : Fin K, a (ix2 r k) * b (ix2 k c) := by
  refine (Ideal.matmul_plain_apply none a b _ r c).trans ?_
  rw [constant_apply, Ideal.ofBits_zero_f32, zero_add]

/-- A product with the second operand transposed onto zero, element by element. -/
theorem trans0 {M K N : ℕ} {φ₁ φ₂ : FTy} (a : FVec Ideal ⟨2, ![M, K]⟩ φ₁) (b : FVec Ideal ⟨2, ![N, K]⟩ φ₂) (r : Fin M) (c : Fin N) :
    matmul (DotDims.transposedRhs M K N) none a b (constant ⟨2, ![M, N]⟩ .f32 0x00000000#32) (ix2 r c) = ∑ k : Fin K, a (ix2 r k) * b (ix2 c k) := by
  refine (Ideal.matmul_transposedRhs_apply none a b _ r c).trans ?_
  rw [constant_apply, Ideal.ofBits_zero_f32, zero_add]

/-- A block of keys or values without its two unit axes, element by element. -/
theorem cast11 (x : Vec Ideal S1x1x512x128 .bf16) (l : Fin 512) (d : Fin 128) :
    shapeCast S512x128 x shapeCasts_S1x1x512x128_S512x128 (ix2 l d) = x (ix4 (0 : Fin 1) (0 : Fin 1) l d) := by
  refine shapeCast_apply _ _ _ _ ?_
  rw [Shape.rowMajor_val_four, Shape.rowMajor_val_two]
  show ((0 * 1 + 0) * 512 + l.val) * 128 + d.val = l.val * 128 + d.val
  omega

namespace Step

variable (s : Step)

theorem q_at (x : Vec Ideal (SRow s.nc) .bf16) (wq : Vec Ideal S1024x1024 .bf16) (r : Fin (256 * s.nc)) (n : Fin 1024) :
    s.q x wq (ix2 r n) = ∑ k : Fin 1024, x (ix2 r k) * (wq (ix2 k n) * scale) := by
  unfold Step.q
  rw [truncf_apply, shapeCast_self, shapeCast_self, plain0]
  rfl

theorem ex_at (h : Fin 8) (g : FVec Ideal (SGrp s.nc) .bf16) (k : Vec Ideal S1x1x512x128 .bf16) (r : Fin (64 * s.nc)) (l : Fin 512) :
    s.ex h g k (ix2 r l) = Ideal.exp (∑ d : Fin 128, g (ix2 r (⟨128 * h.val + d.val, by omega⟩ : Fin 1024)) * k (ix4 (0 : Fin 1) (0 : Fin 1) l d)) := by
  unfold Step.ex
  show Ideal.exp _ = _
  rw [trans0]
  congr 1
  refine Finset.sum_congr rfl fun d _ => ?_
  rw [cast11]
  congr 1
  refine extractStridedSlice_apply _ _ _ _ _ fun a => ?_
  match a with
  | ⟨0, _⟩ => show r.val = 0 + r.val; omega
  | ⟨1, _⟩ => rfl

theorem att_at (h : Fin 8) (g : FVec Ideal (SGrp s.nc) .bf16) (k v : Vec Ideal S1x1x512x128 .bf16) (r : Fin (64 * s.nc)) (d : Fin 128) :
    s.att h g k v (ix2 r d) = (∑ l : Fin 512, s.ex h g k (ix2 r l) * v (ix4 (0 : Fin 1) (0 : Fin 1) l d))
      * Ideal.div 1 (∑ l : Fin 512, s.ex h g k (ix2 r l)) := by
  unfold Step.att
  rw [truncf_apply, mulf_apply, plain0]
  congr 1
  · refine Finset.sum_congr rfl fun l _ => ?_
    rw [cast11, truncf_apply]
  · refine (broadcastTo_apply _ _ _ (ix2 r (0 : Fin 1)) fun a => ?_).trans ?_
    · match a with
      | ⟨0, _⟩ =>
        show r.val = if 64 * s.nc = 1 then 0 else r.val
        rw [if_neg (by omega)]
      | ⟨1, _⟩ => rfl
    · rw [divf_apply, shapeCast_a_a1_apply]
      congr 1
      · exact Ideal.ofBits_one_f32
      · refine (Ideal.multiReduction_add_single _ _ _ _ _ _).trans ?_
        refine Finset.sum_congr rfl fun l _ => congrArg _ (funext fun a => ?_)
        match a with
        | ⟨0, _⟩ => rfl
        | ⟨1, _⟩ => rfl

theorem pp_at (ctx : Vec Ideal (SRow s.nc) .bf16) (wo : Vec Ideal S1024x1024 .bf16) (r : Fin (256 * s.nc)) (b : Fin 1024) :
    s.pp ctx wo (ix2 r b) = ∑ n : Fin 1024, ctx (ix2 r n) * wo (ix2 n b) := by
  unfold Step.pp
  rw [shapeCast_self, truncf_apply, plain0, shapeCast_self]

theorem sum8_at (b : Vec Ideal (SAll4 s.nc) .bf16) (r : Fin (32 * s.nc)) (n : Fin 1024) :
    s.sum8 b (ix3 (0 : Fin 1) r n) = ∑ d : Fin 8, b (ix4 (0 : Fin 1) d r n) := by
  unfold Step.sum8
  refine (shapeCast_ab_1ab_apply _ _ _ _ _).trans ?_
  rw [truncf_apply]
  refine (Ideal.multiReduction_add_single _ _ _ _ _ _).trans ?_
  refine Finset.sum_congr rfl fun d _ => ?_
  rw [extf_apply]
  refine Eq.trans (congrArg _ (funext fun a => ?_)) (shapeCast_1abc_abc_apply _ _ d r n)
  match a with
  | ⟨0, _⟩ => rfl
  | ⟨1, _⟩ => rfl
  | ⟨2, _⟩ => rfl

end Step

/-- How a step gathers the rows of a group, and a chunk's rows out of a group's. -/
structure Gathers (s : Step) : Prop where
  qj : ∀ (j : Fin 4) (g : FVec Ideal (SRow s.nc) .bf16) (t : Fin s.nc) (r : Fin 64) (n : Fin 1024),
    s.qj j g (ix2 (⟨64 * t.val + r.val, by omega⟩ : Fin (64 * s.nc)) n) = g (ix2 (⟨256 * t.val + 64 * j.val + r.val, by omega⟩ : Fin (256 * s.nc)) n)
  tile : ∀ (t : Fin s.nc) (g : FVec Ideal (SCtx s.nc) .bf16) (r : Fin 64) (d : Fin 128),
    s.tile t g (ix2 r d) = g (ix2 (⟨64 * t.val + r.val, by omega⟩ : Fin (64 * s.nc)) d)

/-- A chunk's rows out of a group's. -/
theorem slice_rows {nc : ℕ} (g : FVec Ideal (SCtx nc) .bf16) (k : ℕ) (hs : (SCtx nc).Slices ![k, 0] S64x128) (r : Fin 64) (d : Fin 128)
    (hr : k + r.val < 64 * nc) : extractStridedSlice S64x128 ![k, 0] g hs (ix2 r d) = g (ix2 (⟨k + r.val, hr⟩ : Fin (64 * nc)) d) := by
  refine extractStridedSlice_apply _ _ _ _ _ fun a => ?_
  match a with
  | ⟨0, _⟩ => rfl
  | ⟨1, _⟩ => show d.val = 0 + d.val; omega

/-- A chunk's rows of one group out of all the rows. -/
theorem slice_group {nc : ℕ} (g : FVec Ideal (SRow nc) .bf16) (k : ℕ) (hs : (SRow nc).Slices ![k, 0] S64x1024) (r : Fin 64) (n : Fin 1024)
    (hr : k + r.val < 256 * nc) : extractStridedSlice S64x1024 ![k, 0] g hs (ix2 r n) = g (ix2 (⟨k + r.val, hr⟩ : Fin (256 * nc)) n) := by
  refine extractStridedSlice_apply _ _ _ _ _ fun a => ?_
  match a with
  | ⟨0, _⟩ => rfl
  | ⟨1, _⟩ => show n.val = 0 + n.val; omega

/-- The rows of a group, chunk after chunk, read at one chunk. -/
theorem concat_rows {N : ℕ} (xs : List ((s : Shape) × (s.Idx → EReal))) (h : Shape.Concatenates (xs.map (·.1)) ⟨2, ![64 * N, 1024]⟩ 0)
    (x : FVec Ideal S64x1024 .bf16) (t : ℕ) (ht : t < xs.length) (hx : xs[t] = ⟨S64x1024, x⟩)
    (hpre : (((xs.take t).map (·.1)).map fun s => if h : s.rank = 2 then s.size ((0 : Fin 2).cast h.symm) else 0).sum = 64 * t)
    (r : Fin 64) (n : Fin 1024) (hr : 64 * t + r.val < 64 * N) :
    concatenate ⟨2, ![64 * N, 1024]⟩ 0 xs h (ix2 (⟨64 * t + r.val, hr⟩ : Fin (64 * N)) n) = x (ix2 r n) := by
  refine concatenate_apply_piece (0 : Fin (Shape.rank ⟨2, ![64 * N, 1024]⟩)) xs h _ t ht S64x1024 x hx rfl (64 * t) hpre (ix2 r n) (fun b hb => ?_) rfl
  match b with
  | ⟨0, _⟩ => exact absurd rfl hb
  | ⟨1, _⟩ => rfl

theorem tile0 (t : Fin 4) (g : FVec Ideal (SCtx 4) .bf16) (r : Fin 64) (d : Fin 128) :
    st0.tile t g (ix2 r d) = g (ix2 (⟨64 * t.val + r.val, by omega⟩ : Fin (64 * 4)) d) :=
  slice_rows g _ (by revert t; decide) r d _

theorem tile1 (t : Fin 2) (g : FVec Ideal (SCtx 2) .bf16) (r : Fin 64) (d : Fin 128) :
    st1.tile t g (ix2 r d) = g (ix2 (⟨64 * t.val + r.val, by omega⟩ : Fin (64 * 2)) d) :=
  slice_rows g _ (by revert t; decide) r d _

/-- The four chunks' rows of group `j`. -/
def rows4 (j : Fin 4) (q : FVec Ideal (SRow 4) .bf16) : List ((s : Shape) × (s.Idx → EReal)) :=
  [⟨S64x1024, extractStridedSlice S64x1024 ![64 * j.val, 0] q (by revert j; decide)⟩,
    ⟨S64x1024, extractStridedSlice S64x1024 ![256 + 64 * j.val, 0] q (by revert j; decide)⟩,
    ⟨S64x1024, extractStridedSlice S64x1024 ![512 + 64 * j.val, 0] q (by revert j; decide)⟩,
    ⟨S64x1024, extractStridedSlice S64x1024 ![768 + 64 * j.val, 0] q (by revert j; decide)⟩]

/-- The two chunks' rows of group `j`. -/
def rows2 (j : Fin 4) (q : FVec Ideal (SRow 2) .bf16) : List ((s : Shape) × (s.Idx → EReal)) :=
  [⟨S64x1024, extractStridedSlice S64x1024 ![64 * j.val, 0] q (by revert j; decide)⟩,
    ⟨S64x1024, extractStridedSlice S64x1024 ![256 + 64 * j.val, 0] q (by revert j; decide)⟩]

theorem qj0 (j : Fin 4) (g : FVec Ideal (SRow 4) .bf16) (t : Fin 4) (r : Fin 64) (n : Fin 1024) :
    st0.qj j g (ix2 (⟨64 * t.val + r.val, by omega⟩ : Fin (64 * 4)) n) = g (ix2 (⟨256 * t.val + 64 * j.val + r.val, by omega⟩ : Fin (256 * 4)) n) := by
  have hs : (SRow 4).Slices ![256 * t.val + 64 * j.val, 0] S64x1024 := by revert t j; decide
  refine (concat_rows (N := 4) (rows4 j g) concatenates_S64x1024_S64x1024_S64x1024_S64x1024_S256x1024_d0
    (extractStridedSlice S64x1024 ![256 * t.val + 64 * j.val, 0] g hs) t.val t.isLt ?_ ?_ r n (by omega)).trans (slice_group g _ hs r n _)
  · fin_cases t <;> fin_cases j <;> rfl
  · fin_cases t <;> rfl

theorem qj1 (j : Fin 4) (g : FVec Ideal (SRow 2) .bf16) (t : Fin 2) (r : Fin 64) (n : Fin 1024) :
    st1.qj j g (ix2 (⟨64 * t.val + r.val, by omega⟩ : Fin (64 * 2)) n) = g (ix2 (⟨256 * t.val + 64 * j.val + r.val, by omega⟩ : Fin (256 * 2)) n) := by
  have hs : (SRow 2).Slices ![256 * t.val + 64 * j.val, 0] S64x1024 := by revert t j; decide
  refine (concat_rows (N := 2) (rows2 j g) concatenates_S64x1024_S64x1024_S128x1024_d0
    (extractStridedSlice S64x1024 ![256 * t.val + 64 * j.val, 0] g hs) t.val t.isLt ?_ ?_ r n (by omega)).trans (slice_group g _ hs r n _)
  · fin_cases t <;> fin_cases j <;> rfl
  · fin_cases t <;> rfl

/-- With one chunk the rows of a group are one slice. -/
theorem qj23 (j : Fin 4) (g : FVec Ideal (SRow 1) .bf16) (t : Fin 1) (r : Fin 64) (n : Fin 1024) (hs : (SRow 1).Slices ![64 * j.val, 0] S64x1024) :
    extractStridedSlice S64x1024 ![64 * j.val, 0] g hs (ix2 (⟨64 * t.val + r.val, by omega⟩ : Fin (64 * 1)) n)
      = g (ix2 (⟨256 * t.val + 64 * j.val + r.val, by omega⟩ : Fin (256 * 1)) n) := by
  obtain rfl : t = 0 := Subsingleton.elim _ _
  have e : (⟨64 * (0 : Fin 1).val + r.val, by omega⟩ : Fin (64 * 1)) = r := Fin.ext (by show 64 * 0 + r.val = r.val; omega)
  refine (congrArg _ (congrArg (fun r : Fin 64 => ix2 r n) e)).trans ((slice_group g _ hs r n (by omega)).trans (congrArg _ ?_))
  exact congrArg (fun r : Fin (256 * 1) => ix2 r n) (Fin.ext (by show 64 * j.val + r.val = 256 * 0 + 64 * j.val + r.val; omega))

/-- With one chunk a group's rows are the chunk's. -/
theorem tile23 (t : Fin 1) (g : FVec Ideal (SCtx 1) .bf16) (r : Fin 64) (d : Fin 128) :
    g (ix2 r d) = g (ix2 (⟨64 * t.val + r.val, by omega⟩ : Fin (64 * 1)) d) := by
  obtain rfl : t = 0 := Subsingleton.elim _ _
  exact congrArg _ (congrArg (fun r : Fin 64 => ix2 r d) (Fin.ext (by show r.val = 64 * 0 + r.val; omega)))

theorem gathers : ∀ p, Gathers (stp p)
  | 0 => ⟨qj0, tile0⟩
  | 1 => ⟨qj1, tile1⟩
  | 2 => ⟨fun j g t r n => qj23 j g t r n (by revert j; decide), tile23⟩
  | 3 => ⟨fun j g t r n => qj23 j g t r n (by revert j; decide), tile23⟩

end Cert.KernelIdeal.Pf

end
-- ==== Proof.Spec.lean ====
/-
  What the reference and the kernel compute, as sums over the whole arrays, and that these are equal where the rows, the
  query weights and the keys are finite.
-/
module

public import proofs.«01_k».proof.Proof.Soft

@[expose] public section

noncomputable section

namespace Cert.Spec

open Idealize.ShloMosaic Cert.Soft

/-- The five whole arrays. -/
structure Args where
  x : Fin 2048 → Fin 1024 → EReal
  wq : Fin 1024 → Fin 8192 → EReal
  k : Fin 2048 → Fin 64 → Fin 128 → EReal
  v : Fin 2048 → Fin 64 → Fin 128 → EReal
  wo : Fin 8192 → Fin 1024 → EReal

/-- The rows, the query weights and the keys are finite. -/
structure Args.Finite (A : Args) : Prop where
  x : ∀ i k, Fin1 (A.x i k)
  wq : ∀ k n, Fin1 (A.wq k n)
  k : ∀ j h d, Fin1 (A.k j h d)

/-- Column `d` of head `h`. -/
def col (h : Fin 64) (d : Fin 128) : Fin 8192 := ⟨h.val * 128 + d.val, by omega⟩

/-- The keys a row sees: those whose block of 64 is in its group. -/
def Sees (i j : Fin 2048) : Prop := j.val / 64 % 4 = i.val / 64 % 4

instance (i : Fin 2048) : DecidablePred (Sees i) := fun j => inferInstanceAs (Decidable (_ = _))

/-- Key `l` of group `g`. -/
def keyAt (g : Fin 4) (l : Fin 512) : Fin 2048 := ⟨(l.val / 64 * 4 + g.val) * 64 + l.val % 64, by omega⟩

/-- The group of a row. -/
def grp (i : Fin 2048) : Fin 4 := ⟨i.val % 256 / 64, by omega⟩

theorem keyAt_inj (g : Fin 4) : Function.Injective (keyAt g) := fun a b h => by
  have h := congrArg Fin.val h
  unfold keyAt at h
  apply Fin.ext
  simp only at h
  omega

theorem sees_iff (i j : Fin 2048) : Sees i j ↔ ∃ l, keyAt (grp i) l = j := by
  unfold Sees keyAt grp
  constructor
  · intro h
    refine ⟨⟨j.val / 256 * 64 + j.val % 64, by omega⟩, Fin.ext ?_⟩
    simp only
    omega
  · rintro ⟨l, rfl⟩
    simp only
    omega

variable (A : Args)

/-- The reference's score. -/
def rScore (i : Fin 2048) (h : Fin 64) (j : Fin 2048) : EReal :=
  Ideal.div (∑ d, (∑ k, A.x i k * A.wq k (col h d)) * A.k j h d) (((Real.sqrt 128 : ℝ)) : EReal)

/-- The score where the row sees the key, else `-∞`. -/
def rMasked (i : Fin 2048) (h : Fin 64) (j : Fin 2048) : EReal := if Sees i j then rScore A i h j else ⊥

/-- Its maximum over the keys. -/
def rMax (i : Fin 2048) (h : Fin 64) : EReal := Finset.univ.fold max ⊥ (rMasked A i h)

/-- The reference's context. -/
def rCtx (i : Fin 2048) (h : Fin 64) (d : Fin 128) : EReal :=
  ∑ j, A.v j h d * Ideal.div (Ideal.exp (rMasked A i h j - rMax A i h)) (∑ j, Ideal.exp (rMasked A i h j - rMax A i h))

/-- The head and the column in it of one of the 8192 columns. -/
def hd (n : Fin 8192) : Fin 64 := ⟨n.val / 128, by omega⟩
def lane (n : Fin 8192) : Fin 128 := ⟨n.val % 128, by omega⟩

/-- The reference's result. -/
def rOut (i : Fin 2048) (m : Fin 1024) : EReal := ∑ n, rCtx A i (hd n) (lane n) * A.wo n m

/-- The kernel's score. -/
def kScore (i : Fin 2048) (h : Fin 64) (j : Fin 2048) : EReal :=
  ∑ d, (∑ k, A.x i k * (A.wq k (col h d) * scale)) * A.k j h d

/-- The kernel's context. -/
def kCtx (i : Fin 2048) (h : Fin 64) (d : Fin 128) : EReal :=
  (∑ l, Ideal.exp (kScore A i h (keyAt (grp i) l)) * A.v (keyAt (grp i) l) h d)
    * Ideal.div 1 (∑ l, Ideal.exp (kScore A i h (keyAt (grp i) l)))

/-- Column `n` of device `c`'s 1024. -/
def dcol (c : Fin 8) (n : Fin 1024) : Fin 8192 := ⟨c.val * 1024 + n.val, by omega⟩

/-- The kernel's result: the devices' partial products, summed. -/
def kOut (i : Fin 2048) (m : Fin 1024) : EReal :=
  ∑ c, ∑ n, kCtx A i (hd (dcol c n)) (lane (dcol c n)) * A.wo (dcol c n) m

variable {A}

theorem score_spec (hA : A.Finite) (i : Fin 2048) (h : Fin 64) (j : Fin 2048) :
    Fin1 (kScore A i h j) ∧ rScore A i h j = kScore A i h j :=
  score_eq (A.x i) (fun k d => A.wq k (col h d)) (A.k j h) (hA.x i) (fun _ _ => hA.wq _ _) (hA.k j h)

theorem rMax_fin (hA : A.Finite) (i : Fin 2048) (h : Fin 64) : Fin1 (rMax A i h) := by
  have fin : ∀ j, Fin1 (rScore A i h j) := fun j => (score_spec hA i h j).2 ▸ (score_spec hA i h j).1
  refine fold_max_fin _ _ (fun j _ => ?_) i (Finset.mem_univ _) ?_
  · obtain ⟨r, hr⟩ := fin j
    unfold rMasked
    split
    · rw [hr]; exact EReal.coe_lt_top r
    · exact bot_lt_top
  · obtain ⟨r, hr⟩ := fin i
    unfold rMasked
    rw [if_pos (show Sees i i from rfl), hr]; exact EReal.bot_lt_coe r

/-- The two contexts are equal. -/
theorem ctx_eq (hA : A.Finite) (i : Fin 2048) (h : Fin 64) (d : Fin 128) : rCtx A i h d = kCtx A i h d := by
  have e : ∀ j, rScore A i h j = kScore A i h j := fun j => (score_spec hA i h j).2
  unfold kCtx
  rw [← attn_eq (kScore A i h) (fun j => (score_spec hA i h j).1) (Sees i) (keyAt (grp i)) (keyAt_inj _) (sees_iff i)
    (by decide) (fun j => A.v j h d) (rMax A i h) (rMax_fin hA i h)]
  unfold rCtx rMasked
  simp only [e]

/-- The two results are equal. -/
theorem out_eq (hA : A.Finite) (i : Fin 2048) (m : Fin 1024) : kOut A i m = rOut A i m := by
  unfold kOut rOut
  simp only [ctx_eq hA]
  rw [← Fintype.sum_prod_type' (f := fun c n => kCtx A i (hd (dcol c n)) (lane (dcol c n)) * A.wo (dcol c n) m)]
  refine Fintype.sum_equiv (finProdFinEquiv (m := 8) (n := 1024)) _ (fun n : Fin 8192 => kCtx A i (hd n) (lane n) * A.wo n m) fun p => ?_
  have : dcol p.1 p.2 = finProdFinEquiv p := Fin.ext (by
    show p.1.val * 1024 + p.2.val = p.2.val + 1024 * p.1.val
    omega)
  rw [this]

end Cert.Spec

end
-- ==== Proof.KOut.lean ====
/-
  The result of the launch over the extended reals: element `(a, b)` is the sum over the devices of row `a` of the
  device's attention times column `b` of its output weights.
-/
module

public import proofs.«01_k».proof.Proof.KVal
public import proofs.«01_k».proof.Proof.Spec

@[expose] public section

noncomputable section

namespace Cert.KernelIdeal.Pf

open Idealize.ShloMosaic Idealize.ShloMosaic.TcCoe Cert.KernelIdeal.Gen Idealize.ShloMosaic.ValueIdx
open Cert.Soft (scale)
open Cert.Spec (grp)

/-- A device's score of row `a` in head `h` with key `l` of the row's group. -/
def dScore (i : Ins Ideal) (a : Fin 2048) (h : Fin 8) (l : Fin 512) : EReal :=
  ∑ d : Fin 128, (∑ k : Fin 1024, i.x (ix2 a k) * (i.wq (ix2 k (⟨128 * h.val + d.val, by omega⟩ : Fin 1024)) * scale)) * i.k (ix4 (grp a) h l d)

/-- A device's attention of row `a` in head `h`, lane `d`. -/
def dCtx (i : Ins Ideal) (a : Fin 2048) (h : Fin 8) (d : Fin 128) : EReal :=
  (∑ l : Fin 512, Ideal.exp (dScore i a h l) * i.v (ix4 (grp a) h l d)) * Ideal.div 1 (∑ l : Fin 512, Ideal.exp (dScore i a h l))

/-- Its share of element `(a, b)` of the result. -/
def dOut (i : Ins Ideal) (a : Fin 2048) (b : Fin 1024) : EReal :=
  ∑ n : Fin 1024, dCtx i a (⟨n.val / 128, by omega⟩ : Fin 8) (⟨n.val % 128, by omega⟩ : Fin 128) * i.wo (ix2 n b)

theorem xR_at (i : Ins Ideal) (s : Step) (r : Fin (256 * s.nc)) (k : Fin 1024) :
    xR i s (ix2 r k) = i.x (ix2 (⟨s.base + r.val, by have := s.hbase; omega⟩ : Fin 2048) k) := by
  unfold xR
  rw [View.read_apply, cast_eq]
  refine congrArg i.x (funext fun b => Fin.ext ?_)
  match b with
  | ⟨0, _⟩ => show s.base + 1 * r.val = s.base + r.val; omega
  | ⟨1, _⟩ => show 0 + 1 * k.val = k.val; omega

theorem wqR_at (i : Ins Ideal) (r : Fin 1024) (k : Fin 1024) : wqR i (ix2 r k) = i.wq (ix2 r k) := by
  unfold wqR
  rw [View.read_apply, cast_eq]
  refine congrArg i.wq (funext fun b => Fin.ext ?_)
  match b with
  | ⟨0, _⟩ => show 0 + 1 * r.val = r.val; omega
  | ⟨1, _⟩ => show 0 + 1 * k.val = k.val; omega

theorem woR_at (i : Ins Ideal) (r : Fin 1024) (k : Fin 1024) : woR i (ix2 r k) = i.wo (ix2 r k) := by
  unfold woR
  rw [View.read_apply, cast_eq]
  refine congrArg i.wo (funext fun b => Fin.ext ?_)
  match b with
  | ⟨0, _⟩ => show 0 + 1 * r.val = r.val; omega
  | ⟨1, _⟩ => show 0 + 1 * k.val = k.val; omega

theorem kR_at (i : Ins Ideal) (j : Fin 4) (h : Fin 8) (l : Fin 512) (d : Fin 128) :
    kR i j h (ix4 (0 : Fin 1) (0 : Fin 1) l d) = i.k (ix4 j h l d) := by
  unfold kR
  rw [View.read_apply, cast_eq]
  refine congrArg i.k (funext fun b => Fin.ext ?_)
  match b with
  | ⟨0, _⟩ => show j.val + 1 * 0 = j.val; omega
  | ⟨1, _⟩ => show h.val + 1 * 0 = h.val; omega
  | ⟨2, _⟩ => show 0 + 1 * l.val = l.val; omega
  | ⟨3, _⟩ => show 0 + 1 * d.val = d.val; omega

theorem vR_at (i : Ins Ideal) (j : Fin 4) (h : Fin 8) (l : Fin 512) (d : Fin 128) :
    vR i j h (ix4 (0 : Fin 1) (0 : Fin 1) l d) = i.v (ix4 j h l d) := by
  unfold vR
  rw [View.read_apply, cast_eq]
  refine congrArg i.v (funext fun b => Fin.ext ?_)
  match b with
  | ⟨0, _⟩ => show j.val + 1 * 0 = j.val; omega
  | ⟨1, _⟩ => show h.val + 1 * 0 = h.val; omega
  | ⟨2, _⟩ => show 0 + 1 * l.val = l.val; omega
  | ⟨3, _⟩ => show 0 + 1 * d.val = d.val; omega

/-- The exponentials a step computes are those of the scores. -/
theorem ex_val (i : Ins Ideal) (s : Step) (G : Gathers s) (j : Fin 4) (h : Fin 8) (t : Fin s.nc) (r : Fin 64) (l : Fin 512) (a : Fin 2048)
    (ha : a.val = s.base + (256 * t.val + 64 * j.val + r.val)) (hg : grp a = j) :
    s.ex h (s.qj j (s.q (xR i s) (wqR i))) (kR i j h) (ix2 (⟨64 * t.val + r.val, by omega⟩ : Fin (64 * s.nc)) l) = Ideal.exp (dScore i a h l) := by
  rw [Step.ex_at]
  unfold dScore
  congr 1
  refine Finset.sum_congr rfl fun d _ => ?_
  rw [G.qj, Step.q_at, kR_at, hg]
  congr 1
  refine Finset.sum_congr rfl fun k _ => ?_
  rw [xR_at, wqR_at]
  congr 3
  exact Fin.ext ha.symm

/-- A tile of the context holds the attention of its rows. -/
theorem tlV_at (i : Ins Ideal) (s : Step) (G : Gathers s) (j : Fin 4) (h : Fin 8) (t : Fin s.nc) (r : Fin 64) (d : Fin 128) (a : Fin 2048)
    (ha : a.val = s.base + (256 * t.val + 64 * j.val + r.val)) (hg : grp a = j) : tlV i s j h t (ix2 r d) = dCtx i a h d := by
  unfold tlV Step.tl
  rw [shapeCast_self, G.tile, Step.att_at]
  unfold dCtx
  congr 1
  · refine Finset.sum_congr rfl fun l _ => ?_
    rw [ex_val i s G j h t r l a ha hg, vR_at, hg]
  · congr 1
    exact Finset.sum_congr rfl fun l _ => ex_val i s G j h t r l a ha hg

theorem base_mod : ∀ p, (stp p).base % 256 = 0 := by decide

/-- The context of a step's rows. -/
theorem ctxV_at (i : Ins Ideal) (p : Fin 4) (r : Fin (256 * (stp p).nc)) (n : Fin 1024) (a : Fin 2048) (ha : a.val = (stp p).base + r.val)
    (r' : Fin 1024) (hr : r'.val = r.val) :
    ctxV i (stp p) (ix2 r' n) = dCtx i a (⟨n.val / 128, by omega⟩ : Fin 8) (⟨n.val % 128, by omega⟩ : Fin 128) := by
  have hb := base_mod p
  unfold ctxV
  rw [dif_pos (show r'.val / 256 < (stp p).nc by omega)]
  refine tlV_at i (stp p) (gathers p) _ _ _ _ _ a ?_ (Fin.ext ?_)
  · show a.val = (stp p).base + (256 * (r'.val / 256) + 64 * (r'.val % 256 / 64) + r'.val % 64); omega
  · show a.val % 256 / 64 = r'.val % 256 / 64; omega

/-- A step's partial product. -/
theorem ppV_at (i : Ins Ideal) (p : Fin 4) (r : Fin (256 * (stp p).nc)) (b : Fin 1024) (a : Fin 2048) (ha : a.val = (stp p).base + r.val) :
    ppV i (stp p) (ix2 r b) = dOut i a b := by
  unfold ppV
  rw [Step.pp_at]
  refine Finset.sum_congr rfl fun n _ => ?_
  rw [woR_at, View.read_apply, cast_eq]
  congr 1
  have hn := (stp p).hnc
  refine Eq.trans (congrArg (ctxV i (stp p)) (funext fun b => Fin.ext ?_)) (ctxV_at i p r n a ha ⟨r.val, by omega⟩ rfl)
  match b with
  | ⟨0, _⟩ => show 0 + 1 * r.val = r.val; omega
  | ⟨1, _⟩ => show 0 + 1 * n.val = n.val; omega

/-- A row of a block of the sum. -/
theorem accB_at (I : Dev nD → Ins Ideal) (p : Fin 4) (c : Dev nD) (r : Fin (32 * (stp p).nc)) (b : Fin 1024) (a : Fin 2048)
    (ha : a.val = (stp p).base + (32 * (stp p).nc * c.val + r.val)) : accB I p c (ix2 r b) = ∑ d : Dev nD, dOut (I d) a b := by
  have hn := (stp p).hnc
  show sumV I p c (ix3 (0 : Fin 1) r b) = _
  unfold sumV
  rw [Step.sum8_at]
  refine Finset.sum_congr rfl fun d _ => ?_
  rw [View.read_apply, cast_eq]
  have e : (aRs.access (Rect.unit (s := S4x8x128x1024) ![(stp p).p, 0, 0, 0] (SAll4 (stp p).nc).size (stp p).inbAll)).emb (ix4 (0 : Fin 1) d r b)
      = ix4 p d (⟨r.val, by omega⟩ : Fin 128) b := by
    show (Rect.unit (s := S4x8x128x1024) ![(stp p).p, 0, 0, 0] (SAll4 (stp p).nc).size (stp p).inbAll).emb _ = _
    funext x
    apply Fin.ext
    have hp := stp_p p
    match x with
    | ⟨0, _⟩ => show (stp p).p + 1 * 0 = p.val; omega
    | ⟨1, _⟩ => show 0 + 1 * d.val = d.val; omega
    | ⟨2, _⟩ => show 0 + 1 * r.val = r.val; omega
    | ⟨3, _⟩ => show 0 + 1 * b.val = b.val; omega
  rw [e]
  show rsV I c (ix4 p d _ b) = _
  unfold rsV
  rw [dif_pos (show r.val < 32 * (stp p).nc from r.isLt)]
  exact ppV_at (I d) p _ b a ha

/-- Every row of the result is a row of a block of a step. -/
theorem row_split (a : Fin 2048) : ∃ (p : Fin 4) (c : Dev nD) (r : ℕ), r < 32 * (stp p).nc ∧ a.val = (stp p).base + (32 * (stp p).nc * c.val + r) := by
  have h := a.isLt
  by_cases h0 : a.val < 1024
  · exact ⟨0, ⟨a.val / 128, by show _ < 8; omega⟩, a.val % 128, by rw [nc0]; omega, by rw [nc0, base0]; show _ = _ + (32 * 4 * (a.val / 128) + _); omega⟩
  by_cases h1 : a.val < 1536
  · exact ⟨1, ⟨(a.val - 1024) / 64, by show _ < 8; omega⟩, a.val % 64, by rw [nc1]; omega, by rw [nc1, base1]; show _ = _ + (32 * 2 * ((a.val - 1024) / 64) + _); omega⟩
  by_cases h2 : a.val < 1792
  · exact ⟨2, ⟨(a.val - 1536) / 32, by show _ < 8; omega⟩, a.val % 32, by rw [nc2]; omega, by rw [nc2, base2]; show _ = _ + (32 * 1 * ((a.val - 1536) / 32) + _); omega⟩
  · exact ⟨3, ⟨(a.val - 1792) / 32, by show _ < 8; omega⟩, a.val % 32, by rw [nc3]; omega, by rw [nc3, base3]; show _ = _ + (32 * 1 * ((a.val - 1792) / 32) + _); omega⟩

/-- The launch's result, element by element. -/
theorem outV_val (I : Dev nD → Ins Ideal) (a : Fin 2048) (b : Fin 1024) : outV I (ix2 a b) = ∑ d : Dev nD, dOut (I d) a b := by
  obtain ⟨p, c, r, hr, ha⟩ := row_split a
  rw [outV_at I p c r hr (ix2 a b) ha]
  exact accB_at I p c _ b a ha

end Cert.KernelIdeal.Pf

end
-- ==== Proof.KSpec.lean ====
/-
  The launch's result is the kernel's sum of Spec.lean: where the devices' operands are their parts of five whole arrays,
  a device's scores, attention and share of the result are those of its eight heads.
-/
module

public import proofs.«01_k».proof.Proof.KOut

@[expose] public section

noncomputable section

namespace Cert.KernelIdeal.Pf

open Idealize.ShloMosaic Idealize.ShloMosaic.TcCoe Cert.KernelIdeal.Gen Idealize.ShloMosaic.ValueIdx
open Cert.Spec (Args grp keyAt dcol col hd lane kScore kCtx kOut)

/-- Head `h` of device `c` among all. -/
def headOf (c : Dev nD) (h : Fin 8) : Fin 64 := ⟨c.val * 8 + h.val, by have hc : c.val < 8 := c.isLt; omega⟩

/-- The devices' operands are their parts of the whole arrays. -/
structure Parts (I : Dev nD → Ins Ideal) (A : Args) : Prop where
  x : ∀ c i k, (I c).x (ix2 i k) = A.x i k
  wq : ∀ c k n, (I c).wq (ix2 k n) = A.wq k (dcol c n)
  k : ∀ c g h l d, (I c).k (ix4 g h l d) = A.k (keyAt g l) (headOf c h) d
  v : ∀ c g h l d, (I c).v (ix4 g h l d) = A.v (keyAt g l) (headOf c h) d
  wo : ∀ c n b, (I c).wo (ix2 n b) = A.wo (dcol c n) b

variable {I : Dev nD → Ins Ideal} {A : Args}

theorem dScore_eq (H : Parts I A) (c : Dev nD) (a : Fin 2048) (h : Fin 8) (l : Fin 512) :
    dScore (I c) a h l = kScore A a (headOf c h) (keyAt (grp a) l) := by
  unfold dScore kScore
  refine Finset.sum_congr rfl fun d _ => ?_
  have e : dcol c (⟨128 * h.val + d.val, by omega⟩ : Fin 1024) = col (headOf c h) d := Fin.ext (by
    show c.val * 1024 + (128 * h.val + d.val) = (c.val * 8 + h.val) * 128 + d.val
    omega)
  rw [H.k]
  congr 1
  refine Finset.sum_congr rfl fun k _ => ?_
  rw [H.x, H.wq, e]

theorem dCtx_eq (H : Parts I A) (c : Dev nD) (a : Fin 2048) (h : Fin 8) (d : Fin 128) :
    dCtx (I c) a h d = kCtx A a (headOf c h) d := by
  unfold dCtx kCtx
  simp only [dScore_eq H, H.v]

theorem dOut_eq (H : Parts I A) (c : Dev nD) (a : Fin 2048) (b : Fin 1024) :
    dOut (I c) a b = ∑ n, kCtx A a (hd (dcol c n)) (lane (dcol c n)) * A.wo (dcol c n) b := by
  unfold dOut
  refine Finset.sum_congr rfl fun n _ => ?_
  have e1 : headOf c (⟨n.val / 128, by omega⟩ : Fin 8) = hd (dcol c n) := Fin.ext (by
    show c.val * 8 + n.val / 128 = (c.val * 1024 + n.val) / 128
    omega)
  have e2 : (⟨n.val % 128, by omega⟩ : Fin 128) = lane (dcol c n) := Fin.ext (by
    show n.val % 128 = (c.val * 1024 + n.val) % 128
    omega)
  rw [dCtx_eq H, H.wo, e1, e2]

/-- The launch's result over the whole arrays. -/
theorem outV_eq (H : Parts I A) (a : Fin 2048) (b : Fin 1024) : outV I (ix2 a b) = kOut A a b :=
  (outV_val I a b).trans (Finset.sum_congr rfl fun c _ => dOut_eq H c a b)

end Cert.KernelIdeal.Pf

end
-- ==== Proof.RMask.lean ====
/-
  The reference's mask: row `i` sees key `j` when their block numbers, taken modulo 4, are equal; every row sees a key.
-/
module

public import proofs.«01_k».proof.Proof.Gen.ReferenceIdeal.Run
public import proofs.«01_k».proof.Proof.Spec
public import Idealize.ShloMosaic.Lib.ValueLayout
public import Idealize.ShloMosaic.Lib.IdealHost

@[expose] public section

noncomputable section

namespace Cert.ReferenceIdeal.Pf

open Cert.ReferenceIdeal Cert.ReferenceIdeal.Gen Idealize.ShloMosaic Idealize.ShloMosaic.ValueIdx
open Cert.Spec (Sees)

/-- One number over every index. -/
def splat {s : Shape} (hb : S_.BroadcastsInDim s ![]) {w : ℕ} (x : IVec S_ w) : IVec s w := broadcastInDim s ![] hb x

/-- A row's block number: its number over 64, rounded down. -/
def blockNo : IVec S2048 32 :=
  select (andi (cmpi .ne (signi (iotaInDim S2048 32 0)) (splat bcast_S_S2048 (signi (id (constantI S_ 32 64#32)))))
      (cmpi .ne (Host.remsi (iotaInDim S2048 32 0) (splat bcast_S_S2048 (id (constantI S_ 32 64#32)))) (splat bcast_S_S2048 (constantI S_ 32 0#32))))
    (subi (Host.divsi (iotaInDim S2048 32 0) (splat bcast_S_S2048 (id (constantI S_ 32 64#32)))) (splat bcast_S_S2048 (constantI S_ 32 1#32)))
    (Host.divsi (iotaInDim S2048 32 0) (splat bcast_S_S2048 (id (constantI S_ 32 64#32))))

/-- The divisor 4, kept from being zero. -/
def four : IVec S_ 32 :=
  select (cmpi .eq (id (constantI S_ 32 4#32)) (constantI S_ 32 0#32)) (constantI S_ 32 1#32) (id (constantI S_ 32 4#32))

/-- Numbers modulo 4, rounding down. -/
def mod4 {s : Shape} (hb : S_.BroadcastsInDim s ![]) (x : IVec s 32) : IVec s 32 :=
  select (andi (cmpi .ne (cmpi .slt (Host.remsi x (splat hb four)) (splat hb (constantI S_ 32 0#32))) (splat hb (cmpi .slt four (constantI S_ 32 0#32))))
      (cmpi .ne (Host.remsi x (splat hb four)) (splat hb (constantI S_ 32 0#32))))
    (addi (Host.remsi x (splat hb four)) (splat hb four)) (Host.remsi x (splat hb four))

/-- The block numbers as a column and as a row. -/
def colNo : IVec S2048x1 32 := broadcastInDim S2048x1 ![0] bcast_S2048_S2048x1_0 blockNo
def rowNo : IVec S1x2048 32 := broadcastInDim S1x2048 ![1] bcast_S2048_S1x2048_1 blockNo

/-- The mask. -/
def mask : IVec S2048x2048 1 :=
  ori (cmpi .eq (broadcastInDim S2048x2048 ![0, 1] bcast_S2048x1_S2048x2048_0_1 colNo) (broadcastInDim S2048x2048 ![0, 1] bcast_S1x2048_S2048x2048_0_1 rowNo))
    (cmpi .eq (broadcastInDim S2048x2048 ![0, 1] bcast_S1x2048_S2048x2048_0_1 (mod4 bcast_S_S1x2048 rowNo))
      (broadcastInDim S2048x2048 ![0, 1] bcast_S2048x1_S2048x2048_0_1 (mod4 bcast_S_S2048x1 colNo)))

/-- Whether a row sees a key at all. -/
def keep : IVec S2048 1 := Host.reduce IntOp.ori mask (constantI S_ 1 0#1) reducesTo_S2048x2048_S2048_d1 h_S_

/-- A word's sign. -/
def signW (w : BitVec 32) : BitVec 32 := if w = 0 then 0 else if w.msb then -1 else 1

/-- A block number as one word. -/
def blockW (w : BitVec 32) : BitVec 32 :=
  Scalar.select (IntOp.andi (IntOp.cmpi .ne (signW w) (signW 64#32)) (IntOp.cmpi .ne (IntOp.remsi .host w 64#32) 0#32))
    (IntOp.divsi .host w 64#32 - 1#32) (IntOp.divsi .host w 64#32)

/-- A word modulo 4. -/
def mod4W (w : BitVec 32) : BitVec 32 :=
  Scalar.select (IntOp.andi (IntOp.cmpi .ne (IntOp.cmpi .slt (IntOp.remsi .host w 4#32) 0#32) (IntOp.cmpi .slt (4#32 : BitVec 32) 0#32))
      (IntOp.cmpi .ne (IntOp.remsi .host w 4#32) 0#32))
    (IntOp.remsi .host w 4#32 + 4#32) (IntOp.remsi .host w 4#32)

theorem blockW_eq : ∀ n : Fin 2048, blockW (BitVec.ofNat 32 n.val) = BitVec.ofNat 32 (n.val / 64) := by decide +kernel

theorem mod4W_eq : ∀ n : Fin 32, mod4W (BitVec.ofNat 32 n.val) = BitVec.ofNat 32 (n.val % 4) := by decide +kernel

theorem blockNo_at (n : Fin 2048) : blockNo (ix1 n) = BitVec.ofNat 32 (n.val / 64) := by
  rw [← blockW_eq]
  rfl

theorem mod4_at {s : Shape} (hb : S_.BroadcastsInDim s ![]) (x : IVec s 32) (i : s.Idx) : mod4 hb x i = mod4W (x i) := rfl

theorem colNo_at (n : Fin 2048) (z : Fin 1) : colNo (ix2 n z) = BitVec.ofNat 32 (n.val / 64) :=
  (broadcastInDim_apply _ _ _ _ (ix1 n) fun a => by match a with | ⟨0, _⟩ => rfl).trans (blockNo_at n)

theorem rowNo_at (n : Fin 2048) (z : Fin 1) : rowNo (ix2 z n) = BitVec.ofNat 32 (n.val / 64) :=
  (broadcastInDim_apply _ _ _ _ (ix1 n) fun a => by match a with | ⟨0, _⟩ => rfl).trans (blockNo_at n)

/-- A column, and a row, over the square. -/
theorem ofCol {w : ℕ} (x : IVec S2048x1 w) (i j : Fin 2048) :
    broadcastInDim S2048x2048 ![0, 1] bcast_S2048x1_S2048x2048_0_1 x (ix2 i j) = x (ix2 i (0 : Fin 1)) :=
  broadcastInDim_apply _ _ _ _ _ fun a => by match a with | ⟨0, _⟩ => rfl | ⟨1, _⟩ => rfl

theorem ofRow {w : ℕ} (x : IVec S1x2048 w) (i j : Fin 2048) :
    broadcastInDim S2048x2048 ![0, 1] bcast_S1x2048_S2048x2048_0_1 x (ix2 i j) = x (ix2 (0 : Fin 1) j) :=
  broadcastInDim_apply _ _ _ _ _ fun a => by match a with | ⟨0, _⟩ => rfl | ⟨1, _⟩ => rfl

/-- The two comparisons of block numbers below 32, as words. -/
theorem bits : ∀ a b : Fin 32,
    IntOp.ori (IntOp.cmpi .eq (BitVec.ofNat 32 a.val) (BitVec.ofNat 32 b.val)) (IntOp.cmpi .eq (BitVec.ofNat 32 (b.val % 4)) (BitVec.ofNat 32 (a.val % 4)))
      = if b.val % 4 = a.val % 4 then 1#1 else 0#1 := by decide +kernel

/-- The mask at a row and a key. -/
theorem mask_at (i j : Fin 2048) : mask (ix2 i j) = if Sees i j then 1#1 else 0#1 := by
  have hi : i.val / 64 < 32 := by omega
  have hj : j.val / 64 < 32 := by omega
  unfold mask
  show IntOp.ori (IntOp.cmpi .eq _ _) (IntOp.cmpi .eq _ _) = _
  rw [ofCol, ofRow, ofCol, ofRow, colNo_at, rowNo_at, mod4_at, mod4_at, colNo_at, rowNo_at, mod4W_eq ⟨_, hi⟩, mod4W_eq ⟨_, hj⟩]
  exact bits ⟨_, hi⟩ ⟨_, hj⟩

theorem orOne : ∀ w : BitVec 1, IntOp.ori 1#1 w = 1#1 := by decide

/-- A disjunction with a true term is true. -/
theorem foldOr {n : ℕ} (b : BitVec 1) (f : Fin n → BitVec 1) (i : Fin n) (h : f i = 1#1) : Finset.univ.fold IntOp.ori b f = 1#1 := by
  rw [← Finset.insert_erase (Finset.mem_univ i), Finset.fold_insert (Finset.notMem_erase _ _), h]
  exact orOne _

theorem redMask : S2048x2048.Reduces [1] S2048 := by decide

/-- Every row sees a key: the key of its own number. -/
theorem keep_at (i : Fin 2048) : keep (ix1 i) = 1#1 := by
  refine (Host.reduce_eq_fold_single IntOp.ori mask _ _ redMask _ _).trans (foldOr (n := 2048) _ _ i ?_)
  have e : redMask.lift (ix1 i) i = ix2 i i := by
    funext a
    match a with
    | ⟨0, _⟩ => rfl
    | ⟨1, _⟩ => rfl
  exact (congrArg mask e).trans ((mask_at i i).trans (if_pos (show Sees i i from rfl)))

end Cert.ReferenceIdeal.Pf

end
-- ==== Proof.RVal.lean ====
/-
  What the reference's result is at an index: the sums over the whole arrays of Spec.lean.
-/
module

public import proofs.«01_k».proof.Proof.RMask

@[expose] public section

noncomputable section

namespace Cert.ReferenceIdeal.Pf

open Cert.ReferenceIdeal Cert.ReferenceIdeal.Gen Idealize.ShloMosaic Idealize.ShloMosaic.TcCoe Idealize.ShloMosaic.ValueIdx
open Cert.Spec (Args Sees rScore rMasked rMax rCtx rOut col hd lane)

/-- The reference's five arrays. -/
structure Five where
  x : FVec Ideal S1x2048x1024 .bf16
  wq : FVec Ideal S1024x8192 .bf16
  k : FVec Ideal S1x2048x64x128 .bf16
  v : FVec Ideal S1x2048x64x128 .bf16
  wo : FVec Ideal S8192x1024 .bf16

/-- The same, by coordinates. -/
def Five.args (I : Five) : Args where
  x i k := I.x (ix3 (0 : Fin 1) i k)
  wq k n := I.wq (ix2 k n)
  k j h d := I.k (ix4 (0 : Fin 1) j h d)
  v j h d := I.v (ix4 (0 : Fin 1) j h d)
  wo n m := I.wo (ix2 n m)

variable (I : Five)

/-- One number over every score. -/
abbrev over (x : FVec Ideal S_ .f32) : FVec Ideal S1x64x2048x2048 .f32 :=
  broadcastInDim S1x64x2048x2048 ![] bcast_S_S1x64x2048x2048 x

/-- A value for each row and head, as a column. -/
abbrev column (x : FVec Ideal S1x64x2048 .f32) : FVec Ideal S1x64x2048x1 .f32 :=
  broadcastInDim S1x64x2048x1 ![0, 1, 2] bcast_S1x64x2048_S1x64x2048x1_0_1_2 x

/-- A column over the keys. -/
abbrev spread (x : FVec Ideal S1x64x2048x1 .f32) : FVec Ideal S1x64x2048x2048 .f32 :=
  broadcastInDim S1x64x2048x2048 ![0, 1, 2, 3] bcast_S1x64x2048x1_S1x64x2048x2048_0_1_2_3 x

/-- The queries. -/
def queries : FVec Ideal S1x2048x64x128 .f32 :=
  shapeCast _ (Host.dotGeneral dot_S1x2048x1024_S1024x8192_S1x2048x8192_2_0_01_1_n_n none (extf .f32 I.x bitsLt_bf16_f32)
    (extf .f32 I.wq bitsLt_bf16_f32)) shapeCasts_S1x2048x8192_S1x2048x64x128

/-- The scores. -/
def scores : FVec Ideal S1x64x2048x2048 .f32 :=
  Host.divf (Host.dotGeneral dot_S1x2048x64x128_S1x2048x64x128_S1x64x2048x2048_3_3_1_1_02_02 none (queries I)
    (extf .f32 I.k bitsLt_bf16_f32)) (over (Host.sqrt (constant S_ .f32 0x43000000#32)))

/-- The scores a row sees, `-∞` elsewhere. -/
def masked : FVec Ideal S1x64x2048x2048 .f32 :=
  select (broadcastInDim S1x64x2048x2048 ![0, 1, 2, 3] bcast_S1x1x2048x2048_S1x64x2048x2048_0_1_2_3
    (broadcastInDim S1x1x2048x2048 ![2, 3] bcast_S2048x2048_S1x1x2048x2048_2_3 mask)) (scores I)
    (over (id (constant S_ .f32 0xFF800000#32)))

/-- The maxima. -/
def maxima : FVec Ideal S1x64x2048 .f32 :=
  Host.reduce FloatOps.maximumf (masked I) (constant S_ .f32 0xFF800000#32) reducesTo_S1x64x2048x2048_S1x64x2048_d3 h_S_

/-- The exponentials. -/
def exps : FVec Ideal S1x64x2048x2048 .f32 := Host.exp (subf (masked I) (spread (column (maxima I))))

/-- Their sums. -/
def sums : FVec Ideal S1x64x2048 .f32 :=
  Host.reduceAdd (exps I) (constant S_ .f32 0x00000000#32) reducesTo_S1x64x2048x2048_S1x64x2048_d3 h_S_

/-- The rows that see a key, as a column. -/
def keepCol : IVec S1x1x2048x1 1 := broadcastInDim S1x1x2048x1 ![2] bcast_S2048_S1x1x2048x1_2 keep

/-- The denominators. -/
def denoms : FVec Ideal S1x64x2048x1 .f32 :=
  select (broadcastInDim S1x64x2048x1 ![0, 1, 2, 3] bcast_S1x1x2048x1_S1x64x2048x1_0_1_2_3 keepCol) (column (sums I))
    (broadcastInDim S1x64x2048x1 ![] bcast_S_S1x64x2048x1 (id (constant S_ .f32 0x3F800000#32)))

/-- The weights. -/
def weights : FVec Ideal S1x64x2048x2048 .f32 :=
  select (broadcastInDim S1x64x2048x2048 ![0, 1, 2, 3] bcast_S1x1x2048x1_S1x64x2048x2048_0_1_2_3 keepCol)
    (Host.divf (exps I) (spread (denoms I))) (over (id (constant S_ .f32 0x00000000#32)))

/-- The contexts, the rows last. -/
def contexts : FVec Ideal S1x64x128x2048 .f32 :=
  Host.dotGeneral dot_S1x2048x64x128_S1x64x2048x2048_S1x64x128x2048_1_3_3_2_02_01 none (extf .f32 I.v bitsLt_bf16_f32) (weights I)

/-- The contexts, a row's heads side by side. -/
def flat : FVec Ideal S1x2048x8192 .f32 :=
  shapeCast _ (transpose S1x2048x64x128 [0, 3, 1, 2] (contexts I) transposes_S1x64x128x2048_S1x2048x64x128_0_3_1_2)
    shapeCasts_S1x2048x64x128_S1x2048x8192

/-- The result. -/
def result : FVec Ideal S1x2048x1024 .bf16 :=
  truncf .bf16 (Host.dotGeneral dot_S1x2048x8192_S8192x1024_S1x2048x1024_2_0_01_1_n_n none (flat I)
    (extf .f32 I.wo bitsLt_bf16_f32)) bitsLt_bf16_f32

/-- The five arrays a device holds. -/
def five (m : (ℓ : Loc nD τ sig) → Buf (Elt Ideal) ℓ) (c : Dev nD) : Five where
  x := m (c.tc.loc main_arg0)
  wq := m (c.tc.loc main_arg1)
  k := m (c.tc.loc main_arg2)
  v := m (c.tc.loc main_arg3)
  wo := m (c.tc.loc main_arg4)

/-- The reference's result is `result` of its arguments. -/
theorem res_eq (m : (ℓ : Loc nD τ sig) → Buf (Elt Ideal) ℓ) (c : Dev nD) : Value.res_out0 m c = result (five m c) := rfl

/-- The query projection at a row and a column. -/
theorem proj_at (L : FVec Ideal S1x2048x1024 .f32) (R : FVec Ideal S1024x8192 .f32) (i : Fin 2048) (n : Fin 8192) :
    Host.dotGeneral dot_S1x2048x1024_S1024x8192_S1x2048x8192_2_0_01_1_n_n none L R (ix3 (0 : Fin 1) i n)
      = ∑ k : Fin 1024, L (ix3 (0 : Fin 1) i k) * R (ix2 k n) := by
  refine (Ideal.dotGeneral_apply dot_S1x2048x1024_S1024x8192_S1x2048x8192_2_0_01_1_n_n _ _ _ _ _).trans ?_
  rw [← Equiv.sum_comp (contrEquiv1 dot_S1x2048x1024_S1024x8192_S1x2048x8192_2_0_01_1_n_n 1024 rfl rfl).symm]
  refine Finset.sum_congr rfl fun k _ => ?_
  have hk := contrEquiv1_symm_val dot_S1x2048x1024_S1024x8192_S1x2048x8192_2_0_01_1_n_n 1024 rfl rfl k
  refine congrArg₂ (· * ·) (congrArg L ?_) (congrArg R ?_) <;> funext a <;> apply Fin.ext
  · match a with
    | ⟨0, _⟩ => rfl
    | ⟨1, _⟩ => rfl
    | ⟨2, _⟩ => exact hk
  · match a with
    | ⟨0, _⟩ => exact hk
    | ⟨1, _⟩ => rfl

/-- The product of queries and keys at a head, a row and a key. -/
theorem qk_at (L R : FVec Ideal S1x2048x64x128 .f32) (h : Fin 64) (i j : Fin 2048) :
    Host.dotGeneral dot_S1x2048x64x128_S1x2048x64x128_S1x64x2048x2048_3_3_1_1_02_02 none L R (ix4 (0 : Fin 1) h i j)
      = ∑ d : Fin 128, L (ix4 (0 : Fin 1) i h d) * R (ix4 (0 : Fin 1) j h d) := by
  refine (Ideal.dotGeneral_apply dot_S1x2048x64x128_S1x2048x64x128_S1x64x2048x2048_3_3_1_1_02_02 _ _ _ _ _).trans ?_
  rw [← Equiv.sum_comp (contrEquiv1 dot_S1x2048x64x128_S1x2048x64x128_S1x64x2048x2048_3_3_1_1_02_02 128 rfl rfl).symm]
  refine Finset.sum_congr rfl fun k _ => ?_
  have hk := contrEquiv1_symm_val dot_S1x2048x64x128_S1x2048x64x128_S1x64x2048x2048_3_3_1_1_02_02 128 rfl rfl k
  refine congrArg₂ (· * ·) (congrArg L ?_) (congrArg R ?_) <;> funext a <;> apply Fin.ext
  · match a with
    | ⟨0, _⟩ => rfl
    | ⟨1, _⟩ => rfl
    | ⟨2, _⟩ => rfl
    | ⟨3, _⟩ => exact hk
  · match a with
    | ⟨0, _⟩ => rfl
    | ⟨1, _⟩ => rfl
    | ⟨2, _⟩ => rfl
    | ⟨3, _⟩ => exact hk

/-- The product of values and weights at a head, a column and a row. -/
theorem pv_at (L : FVec Ideal S1x2048x64x128 .f32) (R : FVec Ideal S1x64x2048x2048 .f32) (h : Fin 64) (d : Fin 128) (i : Fin 2048) :
    Host.dotGeneral dot_S1x2048x64x128_S1x64x2048x2048_S1x64x128x2048_1_3_3_2_02_01 none L R (ix4 (0 : Fin 1) h d i)
      = ∑ j : Fin 2048, L (ix4 (0 : Fin 1) j h d) * R (ix4 (0 : Fin 1) h i j) := by
  refine (Ideal.dotGeneral_apply dot_S1x2048x64x128_S1x64x2048x2048_S1x64x128x2048_1_3_3_2_02_01 _ _ _ _ _).trans ?_
  rw [← Equiv.sum_comp (contrEquiv1 dot_S1x2048x64x128_S1x64x2048x2048_S1x64x128x2048_1_3_3_2_02_01 2048 rfl rfl).symm]
  refine Finset.sum_congr rfl fun k _ => ?_
  have hk := contrEquiv1_symm_val dot_S1x2048x64x128_S1x64x2048x2048_S1x64x128x2048_1_3_3_2_02_01 2048 rfl rfl k
  refine congrArg₂ (· * ·) (congrArg L ?_) (congrArg R ?_) <;> funext a <;> apply Fin.ext
  · match a with
    | ⟨0, _⟩ => rfl
    | ⟨1, _⟩ => exact hk
    | ⟨2, _⟩ => rfl
    | ⟨3, _⟩ => rfl
  · match a with
    | ⟨0, _⟩ => rfl
    | ⟨1, _⟩ => rfl
    | ⟨2, _⟩ => rfl
    | ⟨3, _⟩ => exact hk

/-- The output projection at a row and a column. -/
theorem oproj_at (L : FVec Ideal S1x2048x8192 .f32) (R : FVec Ideal S8192x1024 .f32) (i : Fin 2048) (m : Fin 1024) :
    Host.dotGeneral dot_S1x2048x8192_S8192x1024_S1x2048x1024_2_0_01_1_n_n none L R (ix3 (0 : Fin 1) i m)
      = ∑ n : Fin 8192, L (ix3 (0 : Fin 1) i n) * R (ix2 n m) := by
  refine (Ideal.dotGeneral_apply dot_S1x2048x8192_S8192x1024_S1x2048x1024_2_0_01_1_n_n _ _ _ _ _).trans ?_
  rw [← Equiv.sum_comp (contrEquiv1 dot_S1x2048x8192_S8192x1024_S1x2048x1024_2_0_01_1_n_n 8192 rfl rfl).symm]
  refine Finset.sum_congr rfl fun k _ => ?_
  have hk := contrEquiv1_symm_val dot_S1x2048x8192_S8192x1024_S1x2048x1024_2_0_01_1_n_n 8192 rfl rfl k
  refine congrArg₂ (· * ·) (congrArg L ?_) (congrArg R ?_) <;> funext a <;> apply Fin.ext
  · match a with
    | ⟨0, _⟩ => rfl
    | ⟨1, _⟩ => rfl
    | ⟨2, _⟩ => exact hk
  · match a with
    | ⟨0, _⟩ => exact hk
    | ⟨1, _⟩ => rfl

/-- A query's element. -/
theorem queries_at (i : Fin 2048) (h : Fin 64) (d : Fin 128) :
    queries I (ix4 (0 : Fin 1) i h d) = ∑ k : Fin 1024, I.args.x i k * I.args.wq k (col h d) := by
  refine (shapeCast_apply _ _ _ (ix3 (0 : Fin 1) i (col h d)) ?_).trans (proj_at _ _ i (col h d))
  rw [Shape.rowMajor_val_three, Shape.rowMajor_val_four]
  show (0 * 2048 + i.val) * 8192 + (h.val * 128 + d.val) = ((0 * 2048 + i.val) * 64 + h.val) * 128 + d.val
  omega

/-- The pattern of 128. -/
theorem pat128 : Ideal.ofBits .f32 0x43000000#32 = ((128 : ℝ) : EReal) := by
  simp [Ideal.ofBits, Ideal.ieee, -EReal.coe_mul]; norm_num

/-- The pattern of `-∞`. -/
theorem patBot : Ideal.ofBits .f32 0xFF800000#32 = ⊥ := by simp [Ideal.ofBits, Ideal.ieee]

/-- The square root of 128. -/
theorem root (j : S_.Idx) : Host.sqrt (constant (F := Ideal) S_ .f32 0x43000000#32) j = ((Real.sqrt 128 : ℝ) : EReal) := by
  show Ideal.sqrt (Ideal.ofBits .f32 0x43000000#32) = _
  rw [pat128]
  show (if (128 : ℝ) < 0 then ⊥ else ((Real.sqrt 128 : ℝ) : EReal)) = _
  rw [if_neg (by norm_num)]

/-- A score. -/
theorem scores_at (h : Fin 64) (i j : Fin 2048) : scores I (ix4 (0 : Fin 1) h i j) = rScore I.args i h j := by
  refine congrArg₂ Ideal.div ((qk_at _ _ h i j).trans (Finset.sum_congr rfl fun d _ => congrArg (· * _) (queries_at I i h d))) ?_
  exact (broadcastInDim_scalar_apply _ _ _).trans (root _)

/-- A masked score. -/
theorem masked_at (h : Fin 64) (i j : Fin 2048) : masked I (ix4 (0 : Fin 1) h i j) = rMasked I.args i h j := by
  have hm : broadcastInDim S1x64x2048x2048 ![0, 1, 2, 3] bcast_S1x1x2048x2048_S1x64x2048x2048_0_1_2_3
      (broadcastInDim S1x1x2048x2048 ![2, 3] bcast_S2048x2048_S1x1x2048x2048_2_3 mask) (ix4 (0 : Fin 1) h i j) = mask (ix2 i j) :=
    (broadcastInDim_apply _ _ _ _ (ix4 (0 : Fin 1) (0 : Fin 1) i j) fun a => by
      match a with | ⟨0, _⟩ => rfl | ⟨1, _⟩ => rfl | ⟨2, _⟩ => rfl | ⟨3, _⟩ => rfl).trans
    (broadcastInDim_apply _ _ _ _ (ix2 i j) fun a => by match a with | ⟨0, _⟩ => rfl | ⟨1, _⟩ => rfl)
  have hb : over (id (constant S_ .f32 0xFF800000#32)) (ix4 (0 : Fin 1) h i j) = ⊥ :=
    (broadcastInDim_scalar_apply _ _ _).trans patBot
  show (if _ = (1 : BitVec 1) then _ else _) = _
  rw [hm, hb, mask_at, scores_at]
  unfold rMasked
  by_cases hs : Sees i j
  · rw [if_pos hs, if_pos hs]; exact if_pos rfl
  · rw [if_neg hs, if_neg hs]; exact if_neg (by decide)

theorem redKeys : S1x64x2048x2048.Reduces [3] S1x64x2048 := by decide

/-- The keys of one row and head. -/
theorem lift_at (h : Fin 64) (i j : Fin 2048) : redKeys.lift (ix3 (0 : Fin 1) h i) j = ix4 (0 : Fin 1) h i j := by
  funext a
  match a with
  | ⟨0, _⟩ => rfl
  | ⟨1, _⟩ => rfl
  | ⟨2, _⟩ => rfl
  | ⟨3, _⟩ => rfl

/-- A maximum. -/
theorem maxima_at (h : Fin 64) (i : Fin 2048) : maxima I (ix3 (0 : Fin 1) h i) = rMax I.args i h := by
  refine (Host.reduce_eq_fold_single FloatOps.maximumf (masked I) _ _ redKeys _ _).trans ?_
  show (Finset.univ : Finset (Fin 2048)).fold max (Ideal.ofBits .f32 0xFF800000#32) (fun j => masked I (redKeys.lift (ix3 (0 : Fin 1) h i) j)) = _
  rw [patBot]
  exact congrArg (Finset.univ.fold max ⊥) (funext fun j => (congrArg (masked I) (lift_at h i j)).trans (masked_at I h i j))

/-- A column over the keys is its row's value. -/
theorem spread_at (x : FVec Ideal S1x64x2048x1 .f32) (h : Fin 64) (i j : Fin 2048) :
    spread x (ix4 (0 : Fin 1) h i j) = x (ix4 (0 : Fin 1) h i (0 : Fin 1)) :=
  broadcastInDim_apply _ _ _ _ _ fun a => by match a with | ⟨0, _⟩ => rfl | ⟨1, _⟩ => rfl | ⟨2, _⟩ => rfl | ⟨3, _⟩ => rfl

theorem column_at (x : FVec Ideal S1x64x2048 .f32) (h : Fin 64) (i : Fin 2048) :
    column x (ix4 (0 : Fin 1) h i (0 : Fin 1)) = x (ix3 (0 : Fin 1) h i) :=
  broadcastInDim_apply _ _ _ _ _ fun a => by match a with | ⟨0, _⟩ => rfl | ⟨1, _⟩ => rfl | ⟨2, _⟩ => rfl

/-- An exponential. -/
theorem exps_at (h : Fin 64) (i j : Fin 2048) :
    exps I (ix4 (0 : Fin 1) h i j) = Ideal.exp (rMasked I.args i h j - rMax I.args i h) := by
  show Ideal.exp (masked I (ix4 (0 : Fin 1) h i j) - spread (column (maxima I)) (ix4 (0 : Fin 1) h i j)) = _
  rw [masked_at, spread_at, column_at, maxima_at]

/-- A sum of exponentials. -/
theorem sums_at (h : Fin 64) (i : Fin 2048) :
    sums I (ix3 (0 : Fin 1) h i) = ∑ j, Ideal.exp (rMasked I.args i h j - rMax I.args i h) := by
  refine (hostReduceAdd_apply _ _ _ _ _).trans ((Ideal.hostReduceAdd_single _ redKeys _ _ _).trans ?_)
  show Ideal.ofBits .f32 0x00000000#32 + ∑ j : Fin 2048, exps I (redKeys.lift (ix3 (0 : Fin 1) h i) j) = _
  rw [Ideal.ofBits_zero_f32, zero_add]
  exact Finset.sum_congr rfl fun j _ => (congrArg (exps I) (lift_at h i j)).trans (exps_at I h i j)

theorem keepCol_at (i : Fin 2048) : keepCol (ix4 (0 : Fin 1) (0 : Fin 1) i (0 : Fin 1)) = 1#1 :=
  (broadcastInDim_apply _ _ _ _ (ix1 i) fun a => by match a with | ⟨0, _⟩ => rfl).trans (keep_at i)

theorem pickOne {α : Type} (a b : α) : Scalar.select 1#1 a b = a := if_pos rfl

/-- A denominator: every row sees a key, so it is the sum. -/
theorem denoms_at (h : Fin 64) (i : Fin 2048) : denoms I (ix4 (0 : Fin 1) h i (0 : Fin 1)) = sums I (ix3 (0 : Fin 1) h i) := by
  have hk : broadcastInDim S1x64x2048x1 ![0, 1, 2, 3] bcast_S1x1x2048x1_S1x64x2048x1_0_1_2_3 keepCol
      (ix4 (0 : Fin 1) h i (0 : Fin 1)) = 1#1 :=
    (broadcastInDim_apply _ _ _ _ (ix4 (0 : Fin 1) (0 : Fin 1) i (0 : Fin 1)) fun a => by
      match a with | ⟨0, _⟩ => rfl | ⟨1, _⟩ => rfl | ⟨2, _⟩ => rfl | ⟨3, _⟩ => rfl).trans (keepCol_at i)
  unfold denoms
  show Scalar.select _ _ _ = _
  rw [hk, column_at, pickOne]

/-- A weight. -/
theorem weights_at (h : Fin 64) (i j : Fin 2048) :
    weights I (ix4 (0 : Fin 1) h i j)
      = Ideal.div (Ideal.exp (rMasked I.args i h j - rMax I.args i h)) (∑ j, Ideal.exp (rMasked I.args i h j - rMax I.args i h)) := by
  have hk : broadcastInDim S1x64x2048x2048 ![0, 1, 2, 3] bcast_S1x1x2048x1_S1x64x2048x2048_0_1_2_3 keepCol
      (ix4 (0 : Fin 1) h i j) = 1#1 :=
    (broadcastInDim_apply _ _ _ _ (ix4 (0 : Fin 1) (0 : Fin 1) i (0 : Fin 1)) fun a => by
      match a with | ⟨0, _⟩ => rfl | ⟨1, _⟩ => rfl | ⟨2, _⟩ => rfl | ⟨3, _⟩ => rfl).trans (keepCol_at i)
  unfold weights
  have hq : Host.divf (exps I) (spread (denoms I)) (ix4 (0 : Fin 1) h i j)
      = Ideal.div (Ideal.exp (rMasked I.args i h j - rMax I.args i h)) (∑ j, Ideal.exp (rMasked I.args i h j - rMax I.args i h)) := by
    rw [hostDivf_apply, exps_at, spread_at, denoms_at, sums_at]
  rw [← hq]
  show Scalar.select _ _ _ = _
  rw [hk, pickOne]

/-- A context. -/
theorem contexts_at (h : Fin 64) (d : Fin 128) (i : Fin 2048) : contexts I (ix4 (0 : Fin 1) h d i) = rCtx I.args i h d := by
  unfold contexts rCtx
  rw [pv_at]
  refine Finset.sum_congr rfl fun j _ => ?_
  rw [weights_at]
  rfl

/-- A context in its row. -/
theorem flat_at (i : Fin 2048) (n : Fin 8192) : flat I (ix3 (0 : Fin 1) i n) = rCtx I.args i (hd n) (lane n) := by
  refine (shapeCast_apply _ _ _ (ix4 (0 : Fin 1) i (hd n) (lane n)) ?_).trans
    ((transpose_apply _ _ _ _ (ix4 (0 : Fin 1) (hd n) (lane n) i) fun b => ?_).trans (contexts_at I _ _ _))
  · rw [Shape.rowMajor_val_three, Shape.rowMajor_val_four]
    show ((0 * 2048 + i.val) * 64 + n.val / 128) * 128 + n.val % 128 = (0 * 2048 + i.val) * 8192 + n.val
    omega
  · match b with
    | ⟨0, _⟩ => rfl
    | ⟨1, _⟩ => rfl
    | ⟨2, _⟩ => rfl
    | ⟨3, _⟩ => rfl

/-- The reference's result at an index. -/
theorem result_at (i : Fin 2048) (m : Fin 1024) : result I (ix3 (0 : Fin 1) i m) = rOut I.args i m :=
  (oproj_at _ _ i m).trans (Finset.sum_congr rfl fun n _ => congrArg (· * _) (flat_at I i n))

end Cert.ReferenceIdeal.Pf

end
-- ==== Proof.Algebraic.lean ====
/-
  The value claim: over the extended reals, from devices that hold their parts of the reference's arrays, finite in the
  rows, the query weights and the keys, every device's result ends as the whole of the reference's.
-/
module

public import proofs.«01_k».proof.Proof.Frames
public import proofs.«01_k».proof.Proof.HostIn
public import proofs.«01_k».proof.Proof.KSpec
public import proofs.«01_k».proof.Proof.RVal
public import proofs.«01_k».proof.Proof.Gen.Pre_finite_scores_KernelIdeal
public import Idealize.ShloMosaic.Lib.LayoutAt

@[expose] public section

noncomputable section

namespace Cert.Proof

open Idealize.ShloMosaic hiding ix1 ix2 ix3 ix4 ix5 ix6
open Idealize.SL.Sem Idealize.ShloMosaic.ValueIdx Idealize.ShloMosaic.TcCoe
open Cert.KernelIdeal.Pf (headOf Parts IN outs)
open Cert.Spec (Args dcol keyAt)
open Cert.Soft (Fin1)

/-- The pattern of `∞`. -/
theorem patTop : Ideal.ofBits .bf16 0x7F80#16 = ⊤ := by simp [Ideal.ofBits, Ideal.ieee]

/-- A number the precondition admits is finite. -/
theorem fin_of {s : Shape} (hb : (⟨0, ![]⟩ : Shape).BroadcastsInDim s ![]) (x : FVec Ideal s .bf16) (j : s.Idx)
    (h : cmpf .olt (Host.absf x) (broadcastInDim s ![] hb (constant ⟨0, ![]⟩ .bf16 0x7F80#16)) = fun _ => 1#1) : Fin1 (x j) := by
  have h' : Ideal.cmp .olt (max (x j) (-(x j))) (broadcastInDim s ![] hb (constant (F := Ideal) ⟨0, ![]⟩ .bf16 0x7F80#16) j) = 1 := congrFun h j
  rw [broadcastInDim_scalar_apply, show constant (F := Ideal) ⟨0, ![]⟩ .bf16 0x7F80#16 ValueIdx.ix0 = Ideal.ofBits .bf16 0x7F80#16 from rfl, patTop] at h'
  refine Fin1.of_abs ?_
  by_contra hc
  have : Ideal.cmp .olt (max (x j) (-(x j))) ⊤ = BitVec.ofBool (decide (max (x j) (-(x j)) < ⊤)) := rfl
  rw [this, decide_eq_false hc] at h'
  exact absurd h' (by decide)

/-- An element of a device's block of the keys or the values. -/
theorem block_at (c : Dev Cert.KernelIdeal.nD) (v : (⟨4, ![1, 2048, 64, 128]⟩ : Shape).Idx → EReal) (j : Fin 2048) (h : Fin 8) (d : Fin 128) :
    Layout.block ⟨4, ![1, 2048, 8, 128]⟩ ⟨4, ![1, 2048, 64, 128]⟩ 2 8 c v (by decide) (ix4 (0 : Fin 1) j h d) = v (ix4 (0 : Fin 1) j (headOf c h) d) := by
  refine congrArg v (funext fun b => Fin.ext ((Layout.Tiles.idx_val _ _ _ _).trans ?_))
  match b with
  | ⟨0, _⟩ => rfl
  | ⟨1, _⟩ => rfl
  | ⟨2, _⟩ => rfl
  | ⟨3, _⟩ => rfl

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Device `c` holds its part of the reference's arrays. -/
def Holds (c : Dev Cert.KernelIdeal.nD) : Prop :=
  m (c.tc.loc Cert.KernelIdeal.main_arg0) = (Cert.ReferenceIdeal.Pf.five m' 0).x
  ∧ m (c.tc.loc Cert.KernelIdeal.main_arg1) = (Cert.ReferenceIdeal.Pf.five m' 0).wq
  ∧ m (c.tc.loc Cert.KernelIdeal.main_arg2) = Layout.block ⟨4, ![1, 2048, 8, 128]⟩ ⟨4, ![1, 2048, 64, 128]⟩ 2 8 c (Cert.ReferenceIdeal.Pf.five m' 0).k
  ∧ m (c.tc.loc Cert.KernelIdeal.main_arg3) = Layout.block ⟨4, ![1, 2048, 8, 128]⟩ ⟨4, ![1, 2048, 64, 128]⟩ 2 8 c (Cert.ReferenceIdeal.Pf.five m' 0).v
  ∧ m (c.tc.loc Cert.KernelIdeal.main_arg4) = (Cert.ReferenceIdeal.Pf.five m' 0).wo

variable {m m'}

/-- The regions' operands are their parts of the reference's arrays. -/
theorem parts (H : ∀ c, Holds m m' c) : Parts (IN m) (Cert.ReferenceIdeal.Pf.five m' 0).args where
  x c i k := (Cert.KernelIdeal.Pf.V1_x m c i k).trans (congrFun (H c).1 _)
  wq c k n := (Cert.KernelIdeal.Pf.V1_wq m c k n).trans (congrFun (H c).2.1 _)
  k c g h l d := (congrFun (Cert.KernelIdeal.Pf.V1_k m c) _).trans ((Cert.KernelIdeal.Pf.regroup_apply _ g h l d).trans
    ((congrFun (H c).2.2.1 _).trans (block_at c _ _ h d)))
  v c g h l d := (congrFun (Cert.KernelIdeal.Pf.V1_v m c) _).trans ((Cert.KernelIdeal.Pf.regroup_apply _ g h l d).trans
    ((congrFun (H c).2.2.2.1 _).trans (block_at c _ _ h d)))
  wo c n b := (Cert.KernelIdeal.Pf.V1_wo m c n b).trans (congrFun (H c).2.2.2.2 _)

/-- The precondition on the devices' blocks makes the whole arrays finite. -/
theorem finite (H : ∀ c, Holds m m' c)
    (hp : Cert.Pre_KernelIdeal_finite_scores_KernelIdeal (hPre_finite_scores_KernelIdeal := Cert.Pre_finite_scores_KernelIdeal.Gen.facts) m) :
    (Cert.ReferenceIdeal.Pf.five m' 0).args.Finite where
  x i k := (congrArg Fin1 (congrFun (H 0).1 (ix3 (0 : Fin 1) i k))).mp (fin_of _ _ _ (hp 0).1)
  wq k n := (congrArg Fin1 (congrFun (H 0).2.1 (ix2 k n))).mp (fin_of _ _ _ (hp 0).2.1)
  k j h d := by
    have hc : h.val / 8 < 8 := by omega
    have e : headOf (⟨h.val / 8, hc⟩ : Dev Cert.KernelIdeal.nD) (⟨h.val % 8, by omega⟩ : Fin 8) = h := Fin.ext (by
      show h.val / 8 * 8 + h.val % 8 = h.val
      omega)
    have hf := fin_of _ _ (ix4 (0 : Fin 1) j (⟨h.val % 8, by omega⟩ : Fin 8) d) (hp ⟨h.val / 8, hc⟩).2.2
    have hb := (congrFun (H ⟨h.val / 8, hc⟩).2.2.1 (ix4 (0 : Fin 1) j (⟨h.val % 8, by omega⟩ : Fin 8) d)).trans (block_at _ _ _ _ _)
    rw [e] at hb
    exact (congrArg Fin1 hb).mp hf

/-- Every device's result is the reference's. -/
theorem values (H : ∀ c, Holds m m' c)
    (hp : Cert.Pre_KernelIdeal_finite_scores_KernelIdeal (hPre_finite_scores_KernelIdeal := Cert.Pre_finite_scores_KernelIdeal.Gen.facts) m)
    (c : Dev Cert.KernelIdeal.nD) :
    Cert.KernelIdeal.Gen.V3 m (outs m) c Cert.KernelIdeal.main_v25 = Cert.ReferenceIdeal.Value.res_out0 m' 0 := by
  have e : Cert.KernelIdeal.Gen.V3 m (outs m) c Cert.KernelIdeal.main_v25
      = broadcastInDim Cert.KernelIdeal.S1x2048x1024 ![1, 2] Cert.KernelIdeal.Gen.bcast_S2048x1024_S1x2048x1024_1_2
          (Cert.KernelIdeal.Pf.outV (IN m)) := by
    unfold Cert.KernelIdeal.Gen.V3
    after_results_simp
    exact congrArg _ (Cert.KernelIdeal.Pf.v2_24 m c)
  refine e.trans (Eq.trans ?_ (Cert.ReferenceIdeal.Pf.res_eq m' 0).symm)
  funext (j : Cert.KernelIdeal.S1x2048x1024.Idx)
  obtain ⟨z, a, b, rfl⟩ : ∃ (z : Fin 1) (a : Fin 2048) (b : Fin 1024), j = ix3 z a b := ⟨j 0, j 1, j 2, funext fun x => by
    match x with
    | ⟨0, _⟩ => rfl
    | ⟨1, _⟩ => rfl
    | ⟨2, _⟩ => rfl⟩
  obtain rfl : z = 0 := Subsingleton.elim _ _
  refine (broadcastInDim_apply _ _ _ _ (ix2 a b) fun x => ?_).trans ?_
  · match x with
    | ⟨0, _⟩ => rfl
    | ⟨1, _⟩ => rfl
  · exact (Cert.KernelIdeal.Pf.outV_eq (parts H) a b).trans ((Cert.Spec.out_eq (finite H hp) a b).trans
      (Cert.ReferenceIdeal.Pf.result_at _ a b).symm)

end

/-- The value claim. -/
theorem algebraic : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := Cert.Pre_finite_scores_KernelIdeal.Gen.facts) := fun m g m' g' hp H =>
  ⟨Cert.ReferenceIdeal.Value.res_out0 m' 0,
    (θ_run (Cert.KernelIdeal.defs (F := Ideal)) _ _).mono
      (fun _ h c => ⟨(h.1 c).2.trans (values (m' := m') H hp c), (h.1 c).1⟩) (Cert.KernelIdeal.Pf.run_main (F := Ideal) m g),
    (θ_run (Cert.ReferenceIdeal.defs (F := Ideal)) _ _).mono (fun _ h => h 0) (Cert.ReferenceIdeal.Value.run (F := Ideal) m' g')⟩

end Cert.Proof

end
-- ==== Proof.lean ====
/-
  The proof of `Cert.Claim` (proofs.«01_k».proof.Defs): the claims that the modules under `Proof/` prove, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_scores_KernelIdeal
public import proofs.«01_k».proof.Proof.Gen.Pre_finite_scores_ReferenceIdeal
public import proofs.«01_k».proof.Proof.Frames
public import proofs.«01_k».proof.Proof.Algebraic

@[expose] public section

noncomputable section

namespace Cert.Proof

/-- Every claim of this certificate. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_kernelIdeal, fun m g _ => frame_kernelIdeal m g trivial,
    frame_referenceIdeal, fun m g _ => frame_referenceIdeal m g trivial, preserves, algebraic⟩

end Cert.Proof

end
